-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v40) = v0 c
          ∧ r.2.mem ((c.tc : Thread Cert.Reference21Ideal.nD Cert.Reference21Ideal.τ).loc Cert.Reference21Ideal.main_v41) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v32) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_tame.lean ====
abbrev S4096x8192 : Shape := ⟨2, ![4096, 8192]⟩
abbrev S4096x2048 : Shape := ⟨2, ![4096, 2048]⟩
abbrev S2x2048 : Shape := ⟨2, ![2, 2048]⟩
abbrev S1x128 : Shape := ⟨2, ![1, 128]⟩
abbrev S_ : Shape := ⟨0, ![]⟩
abbrev S2048 : Shape := ⟨1, ![2048]⟩
abbrev S1x2048 : Shape := ⟨2, ![1, 2048]⟩
abbrev S4096x16x128 : Shape := ⟨3, ![4096, 16, 128]⟩
abbrev S256x16x16x128 : Shape := ⟨4, ![256, 16, 16, 128]⟩
abbrev S256x16x128 : Shape := ⟨3, ![256, 16, 128]⟩

class Facts : Prop where
  reducesTo_S2x2048_S2048_d0 : S2x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2x2048_0_1 : S1x2048.BroadcastsInDim S2x2048 (![0, 1] : Fin 2 → Fin S2x2048.rank)
  bcast_S_S_ : S_.BroadcastsInDim S_ (![] : Fin 0 → Fin S_.rank)
  reduceWindows_S2x2048_S2x2048_w2s1p1_0_w1s1p0_0 : S2x2048.ReduceWindows (![2, 1] : Fin 2 → Nat) ![1, 1] ![1, 0] ![0, 0] S2x2048
  slices_S2x2048_S1x2048_0_0 : S2x2048.Slices ![0, 0] S1x2048
  shapeCasts_S1x2048_S2048 : S1x2048.ShapeCasts S2048
  slices_S2x2048_S1x2048_1_0 : S2x2048.Slices ![1, 0] S1x2048
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  bcast_S1x2048_S4096x2048_0_1 : S1x2048.BroadcastsInDim S4096x2048 (![0, 1] : Fin 2 → Fin S4096x2048.rank)
  shapeCasts_S4096x2048_S4096x16x128 : S4096x2048.ShapeCasts S4096x16x128
  shapeCasts_S4096x16x128_S256x16x16x128 : S4096x16x128.ShapeCasts S256x16x16x128
  reducesTo_S256x16x16x128_S256x16x128_d1 : S256x16x16x128.ReducesTo [1] S256x16x128
  bcast_S_S4096x8192 : S_.BroadcastsInDim S4096x8192 (![] : Fin 0 → Fin S4096x8192.rank)
  reducesTo_S4096x8192_S_d0_1 : S4096x8192.ReducesTo [0, 1] S_
  reducesTo_S4096x2048_S_d0_1 : S4096x2048.ReducesTo [0, 1] S_
  bcast_S_S2x2048 : S_.BroadcastsInDim S2x2048 (![] : Fin 0 → Fin S2x2048.rank)
  reducesTo_S2x2048_S_d0_1 : S2x2048.ReducesTo [0, 1] S_
  bcast_S_S1x128 : S_.BroadcastsInDim S1x128 (![] : Fin 0 → Fin S1x128.rank)
  reducesTo_S1x128_S_d0_1 : S1x128.ReducesTo [0, 1] S_
  bcast_S_S256x16x128 : S_.BroadcastsInDim S256x16x128 (![] : Fin 0 → Fin S256x16x128.rank)
  reducesTo_S256x16x128_S_d0_1_2 : S256x16x128.ReducesTo [0, 1, 2] S_

variable [Facts]

def fn_cumsum_0 {F : FTy → Type} [FloatOps F] (arg0 : FVec F S2x2048 .f32) : FVec F S2x2048 .f32 :=
  let cst : FVec F S_ .f32 := constant S_ .f32 0x00000000#32
  let v0 : FVec F S_ .f32 := broadcastInDim S_ ![] bcast_S_S_ cst
  let v1 : FVec F S2x2048 .f32 := (fun x v => Host.reduceWindowAdd ![2, 1] ![1, 1] ![1, 0] ![0, 0] x v reduceWindows_S2x2048_S2x2048_w2s1p1_0_w1s1p0_0 h_S_) arg0 v0
  v1

def fn_cumsum {F : FTy → Type} [FloatOps F] (arg0 : FVec F S2x2048 .f32) : FVec F S2x2048 .f32 :=
  let v0 : FVec F S2x2048 .f32 := fn_cumsum_0 (F := F) arg0
  v0

def fn_silu {F : FTy → Type} [FloatOps F] (arg0 : FVec F S4096x2048 .f32) : FVec F S4096x2048 .f32 :=
  let v0 : FVec F S4096x2048 .f32 := Host.negf arg0
  let v1 : FVec F S4096x2048 .f32 := Host.exp v0
  let cst : FVec F S_ .f32 := constant S_ .f32 0x3F800000#32
  let v2 : FVec F S4096x2048 .f32 := broadcastInDim S4096x2048 ![] bcast_S_S4096x2048 cst
  let v3 : FVec F S4096x2048 .f32 := addf v2 v1
  let cst_0 : FVec F S_ .f32 := constant S_ .f32 0x3F800000#32
  let v4 : FVec F S4096x2048 .f32 := broadcastInDim S4096x2048 ![] bcast_S_S4096x2048 cst_0
  let v5 : FVec F S4096x2048 .f32 := Host.divf v4 v3
  let v6 : FVec F S4096x2048 .f32 := mulf arg0 v5
  v6

def fn_part3 {F : FTy → Type} [FloatOps F] (main_arg3 : FVec F S1x128 .f32) (main_v47 : FVec F S256x16x128 .f32) (main_v56 : IVec S_ 1) (main_v57 : FVec F S2x2048 .f32) (main_v58 : FVec F S2x2048 .f32) : IVec S_ 1 :=
  let main_v59 : IVec S2x2048 1 := cmpf .olt main_v57 main_v58
  let main_c_11 : IVec S_ 1 := constantI S_ 1 1#1
  let main_v60 : IVec S_ 1 := (fun x v => Host.reduce IntOp.andi x v reducesTo_S2x2048_S_d0_1 h_S_) main_v59 main_c_11
  let main_v61 : IVec S_ 1 := andi main_v56 main_v60
  let main_v62 : FVec F S1x128 .f32 := Host.absf main_arg3
  let main_cst_12 : FVec F S_ .f32 := constant S_ .f32 0x7F800000#32
  let main_v63 : FVec F S1x128 .f32 := broadcastInDim S1x128 ![] bcast_S_S1x128 main_cst_12
  let main_v64 : IVec S1x128 1 := cmpf .olt main_v62 main_v63
  let main_c_13 : IVec S_ 1 := constantI S_ 1 1#1
  let main_v65 : IVec S_ 1 := (fun x v => Host.reduce IntOp.andi x v reducesTo_S1x128_S_d0_1 h_S_) main_v64 main_c_13
  let main_v66 : IVec S_ 1 := andi main_v61 main_v65
  let main_cst_14 : FVec F S_ .f32 := constant S_ .f32 0xC2A00000#32
  let main_v67 : FVec F S256x16x128 .f32 := broadcastInDim S256x16x128 ![] bcast_S_S256x16x128 main_cst_14
  let main_v68 : IVec S256x16x128 1 := cmpf .ogt main_v47 main_v67
  let main_c_15 : IVec S_ 1 := constantI S_ 1 1#1
  let main_v69 : IVec S_ 1 := (fun x v => Host.reduce IntOp.andi x v reducesTo_S256x16x128_S_d0_1_2 h_S_) main_v68 main_c_15
  let main_v70 : IVec S_ 1 := andi main_v66 main_v69
  main_v70

def fn_part2 {F : FTy → Type} [FloatOps F] (main_arg0 : FVec F S4096x8192 .f32) (main_arg1 : FVec F S4096x2048 .f32) (main_arg2 : FVec F S2x2048 .f32) (main_arg3 : FVec F S1x128 .f32) (main_v21 : FVec F S4096x2048 .f32) (main_v22 : FVec F S4096x2048 .f32) (main_v36 : FVec F S4096x2048 .f32) (main_v40 : FVec F S4096x2048 .f32) : IVec S_ 1 :=
  let main_v41 : FVec F S4096x16x128 .f32 := shapeCast S4096x16x128 main_v40 shapeCasts_S4096x2048_S4096x16x128
  let main_v42 : FVec F S4096x16x128 .f32 := shapeCast S4096x16x128 main_v21 shapeCasts_S4096x2048_S4096x16x128
  let main_v43 : FVec F S4096x2048 .f32 := Host.log main_v36
  let main_v44 : FVec F S4096x16x128 .f32 := shapeCast S4096x16x128 main_v43 shapeCasts_S4096x2048_S4096x16x128
  let main_v45 : FVec F S4096x16x128 .f32 := shapeCast S4096x16x128 main_v22 shapeCasts_S4096x2048_S4096x16x128
  let main_v46 : FVec F S256x16x16x128 .f32 := shapeCast S256x16x16x128 main_v44 shapeCasts_S4096x16x128_S256x16x16x128
  let main_cst_6 : FVec F S_ .f32 := constant S_ .f32 0x00000000#32
  let main_v47 : FVec F S256x16x128 .f32 := (fun x v => Host.reduceAdd x v reducesTo_S256x16x16x128_S256x16x128_d1 h_S_) main_v46 main_cst_6
  let main_v48 : FVec F S4096x8192 .f32 := Host.absf main_arg0
  let main_cst_7 : FVec F S_ .f32 := constant S_ .f32 0x7F800000#32
  let main_v49 : FVec F S4096x8192 .f32 := broadcastInDim S4096x8192 ![] bcast_S_S4096x8192 main_cst_7
  let main_v50 : IVec S4096x8192 1 := cmpf .olt main_v48 main_v49
  let main_c : IVec S_ 1 := constantI S_ 1 1#1
  let main_v51 : IVec S_ 1 := (fun x v => Host.reduce IntOp.andi x v reducesTo_S4096x8192_S_d0_1 h_S_) main_v50 main_c
  let main_v52 : FVec F S4096x2048 .f32 := Host.absf main_arg1
  let main_cst_8 : FVec F S_ .f32 := constant S_ .f32 0x7F800000#32
  let main_v53 : FVec F S4096x2048 .f32 := broadcastInDim S4096x2048 ![] bcast_S_S4096x2048 main_cst_8
  let main_v54 : IVec S4096x2048 1 := cmpf .olt main_v52 main_v53
  let main_c_9 : IVec S_ 1 := constantI S_ 1 1#1
  let main_v55 : IVec S_ 1 := (fun x v => Host.reduce IntOp.andi x v reducesTo_S4096x2048_S_d0_1 h_S_) main_v54 main_c_9
  let main_v56 : IVec S_ 1 := andi main_v51 main_v55
  let main_v57 : FVec F S2x2048 .f32 := Host.absf main_arg2
  let main_cst_10 : FVec F S_ .f32 := constant S_ .f32 0x7F800000#32
  let main_v58 : FVec F S2x2048 .f32 := broadcastInDim S2x2048 ![] bcast_S_S2x2048 main_cst_10
  fn_part3 (F := F) main_arg3 main_v47 main_v56 main_v57 main_v58

def fn_part1 {F : FTy → Type} [FloatOps F] (main_arg0 : FVec F S4096x8192 .f32) (main_arg1 : FVec F S4096x2048 .f32) (main_arg2 : FVec F S2x2048 .f32) (main_arg3 : FVec F S1x128 .f32) (main_v18 : FVec F S2048 .f32) (main_v19 : FVec F S4096x2048 .f32) (main_v20 : FVec F S4096x2048 .f32) : IVec S_ 1 :=
  let main_v21 : FVec F S4096x2048 .f32 := (extractStridedSlice S4096x2048 ![0, 4096] · slices_S4096x8192_S4096x2048_0_4096) main_arg0
  let main_v22 : FVec F S4096x2048 .f32 := (extractStridedSlice S4096x2048 ![0, 6144] · slices_S4096x8192_S4096x2048_0_6144) main_arg0
  let main_cst_2 : FVec F S_ .f32 := constant S_ .f32 0x3F800000#32
  let main_v23 : FVec F S2048 .f32 := broadcastInDim S2048 ![] bcast_S_S2048 main_cst_2
  let main_v24 : FVec F S2048 .f32 := subf main_v23 main_v18
  let main_v25 : FVec F S4096x2048 .f32 := Host.negf main_v20
  let main_v26 : FVec F S4096x2048 .f32 := Host.exp main_v25
  let main_cst_3 : FVec F S_ .f32 := constant S_ .f32 0x3F800000#32
  let main_v27 : FVec F S4096x2048 .f32 := broadcastInDim S4096x2048 ![] bcast_S_S4096x2048 main_cst_3
  let main_v28 : FVec F S4096x2048 .f32 := addf main_v27 main_v26
  let main_cst_4 : FVec F S_ .f32 := constant S_ .f32 0x3F800000#32
  let main_v29 : FVec F S4096x2048 .f32 := broadcastInDim S4096x2048 ![] bcast_S_S4096x2048 main_cst_4
  let main_v30 : FVec F S4096x2048 .f32 := Host.divf main_v29 main_v28
  let main_v31 : FVec F S1x2048 .f32 := broadcastInDim S1x2048 ![1] bcast_S2048_S1x2048_1 main_v24
  let main_v32 : FVec F S4096x2048 .f32 := broadcastInDim S4096x2048 ![0, 1] bcast_S1x2048_S4096x2048_0_1 main_v31
  let main_v33 : FVec F S4096x2048 .f32 := mulf main_v32 main_v30
  let main_v34 : FVec F S1x2048 .f32 := broadcastInDim S1x2048 ![1] bcast_S2048_S1x2048_1 main_v18
  let main_v35 : FVec F S4096x2048 .f32 := broadcastInDim S4096x2048 ![0, 1] bcast_S1x2048_S4096x2048_0_1 main_v34
  let main_v36 : FVec F S4096x2048 .f32 := addf main_v35 main_v33
  let main_v37 : FVec F S4096x2048 .f32 := fn_silu (F := F) main_v19
  let main_v38 : FVec F S4096x16x128 .f32 := shapeCast S4096x16x128 main_v37 shapeCasts_S4096x2048_S4096x16x128
  let main_cst_5 : FVec F S_ .f32 := constant S_ .f32 0x3F800000#32
  let main_v39 : FVec F S4096x2048 .f32 := broadcastInDim S4096x2048 ![] bcast_S_S4096x2048 main_cst_5
  let main_v40 : FVec F S4096x2048 .f32 := subf main_v39 main_v36
  fn_part2 (F := F) main_arg0 main_arg1 main_arg2 main_arg3 main_v21 main_v22 main_v36 main_v40

def fn {F : FTy → Type} [FloatOps F] (main_arg0 : FVec F S4096x8192 .f32) (main_arg1 : FVec F S4096x2048 .f32) (main_arg2 : FVec F S2x2048 .f32) (main_arg3 : FVec F S1x128 .f32) : IVec S_ 1 :=
  let main_cst : FVec F S_ .f32 := constant S_ .f32 0xFF800000#32
  let main_v0 : FVec F S2048 .f32 := (fun x v => Host.reduce FloatOps.maximumf x v reducesTo_S2x2048_S2048_d0 h_S_) main_arg2 main_cst
  let main_cst_0 : FVec F S_ .f32 := constant S_ .f32 0xFF800000#32
  let main_v1 : FVec F S2048 .f32 := broadcastInDim S2048 ![] bcast_S_S2048 main_cst_0
  let main_v2 : FVec F S2048 .f32 := maximumf main_v1 main_v0
  let main_v3 : FVec F S1x2048 .f32 := broadcastInDim S1x2048 ![1] bcast_S2048_S1x2048_1 main_v2
  let main_v4 : FVec F S2x2048 .f32 := broadcastInDim S2x2048 ![0, 1] bcast_S1x2048_S2x2048_0_1 main_v3
  let main_v5 : FVec F S2x2048 .f32 := subf main_arg2 main_v4
  let main_v6 : FVec F S2x2048 .f32 := Host.exp main_v5
  let main_cst_1 : FVec F S_ .f32 := constant S_ .f32 0x00000000#32
  let main_v7 : FVec F S2048 .f32 := (fun x v => Host.reduceAdd x v reducesTo_S2x2048_S2048_d0 h_S_) main_v6 main_cst_1
  let main_v8 : FVec F S1x2048 .f32 := broadcastInDim S1x2048 ![1] bcast_S2048_S1x2048_1 main_v7
  let main_v9 : FVec F S2x2048 .f32 := broadcastInDim S2x2048 ![0, 1] bcast_S1x2048_S2x2048_0_1 main_v8
  let main_v10 : FVec F S2x2048 .f32 := Host.divf main_v6 main_v9
  let main_v11 : FVec F S2x2048 .f32 := fn_cumsum (F := F) main_v10
  let main_v12 : FVec F S1x2048 .f32 := (extractStridedSlice S1x2048 ![0, 0] · slices_S2x2048_S1x2048_0_0) main_v11
  let main_v13 : FVec F S2048 .f32 := shapeCast S2048 main_v12 shapeCasts_S1x2048_S2048
  let main_v14 : FVec F S1x2048 .f32 := broadcastInDim S1x2048 ![1] bcast_S2048_S1x2048_1 main_v13
  let main_v15 : FVec F S2x2048 .f32 := broadcastInDim S2x2048 ![0, 1] bcast_S1x2048_S2x2048_0_1 main_v14
  let main_v16 : FVec F S2x2048 .f32 := subf main_v11 main_v15
  let main_v17 : FVec F S1x2048 .f32 := (extractStridedSlice S1x2048 ![1, 0] · slices_S2x2048_S1x2048_1_0) main_v16
  let main_v18 : FVec F S2048 .f32 := shapeCast S2048 main_v17 shapeCasts_S1x2048_S2048
  let main_v19 : FVec F S4096x2048 .f32 := (extractStridedSlice S4096x2048 ![0, 0] · slices_S4096x8192_S4096x2048_0_0) main_arg0
  let main_v20 : FVec F S4096x2048 .f32 := (extractStridedSlice S4096x2048 ![0, 2048] · slices_S4096x8192_S4096x2048_0_2048) main_arg0
  fn_part1 (F := F) main_arg0 main_arg1 main_arg2 main_arg3 main_v18 main_v19 main_v20
-- ==== Kernel.lean ====
abbrev S4096x8192 : Shape := ⟨2, ![4096, 8192]⟩
abbrev S4096x2048 : Shape := ⟨2, ![4096, 2048]⟩
abbrev S2x2048 : Shape := ⟨2, ![2, 2048]⟩
abbrev S1x128 : Shape := ⟨2, ![1, 128]⟩
abbrev S_ : Shape := ⟨0, ![]⟩
abbrev S2048 : Shape := ⟨1, ![2048]⟩
abbrev S1x2048 : Shape := ⟨2, ![1, 2048]⟩
abbrev S4096x16x128 : Shape := ⟨3, ![4096, 16, 128]⟩
abbrev S64x4096x1x1 : Shape := ⟨4, ![64, 4096, 1, 1]⟩
abbrev S1x4096x16x128 : Shape := ⟨4, ![1, 4096, 16, 128]⟩
abbrev S64x4096x16x128 : Shape := ⟨4, ![64, 4096, 16, 128]⟩
abbrev S64x16x128 : Shape := ⟨3, ![64, 16, 128]⟩
abbrev S64x1x16x128 : Shape := ⟨4, ![64, 1, 16, 128]⟩
abbrev S16x64x128x128 : Shape := ⟨4, ![16, 64, 128, 128]⟩
abbrev S64x16x128x128 : Shape := ⟨4, ![64, 16, 128, 128]⟩
abbrev S64x8192 : Shape := ⟨2, ![64, 8192]⟩
abbrev S64x2048 : Shape := ⟨2, ![64, 2048]⟩
abbrev S1x16x128x128 : Shape := ⟨4, ![1, 16, 128, 128]⟩
abbrev S16x128x128 : Shape := ⟨3, ![16, 128, 128]⟩
abbrev S64x128 : Shape := ⟨2, ![64, 128]⟩
abbrev S1x64x128 : Shape := ⟨3, ![1, 64, 128]⟩
abbrev S16x64x128 : Shape := ⟨3, ![16, 64, 128]⟩
abbrev S1x1x128 : Shape := ⟨3, ![1, 1, 128]⟩
abbrev S16x1x128 : Shape := ⟨3, ![16, 1, 128]⟩
abbrev S64x64 : Shape := ⟨2, ![64, 64]⟩
abbrev S128x64 : Shape := ⟨2, ![128, 64]⟩
abbrev S128x2048 : Shape := ⟨2, ![128, 2048]⟩
abbrev S16x128 : Shape := ⟨2, ![16, 128]⟩
abbrev S16x16x128 : Shape := ⟨3, ![16, 16, 128]⟩
abbrev S16x16x64 : Shape := ⟨3, ![16, 16, 64]⟩
abbrev S1x16x64 : Shape := ⟨3, ![1, 16, 64]⟩
abbrev S16x64x64 : Shape := ⟨3, ![16, 64, 64]⟩
abbrev S16x64 : Shape := ⟨2, ![16, 64]⟩
abbrev S16x64x1 : Shape := ⟨3, ![16, 64, 1]⟩
abbrev S128 : Shape := ⟨1, ![128]⟩
abbrev S16x48x128 : Shape := ⟨3, ![16, 48, 128]⟩
abbrev S16x32x128 : Shape := ⟨3, ![16, 32, 128]⟩

abbrev nBuf : Space → Nat
  | .hbm => 104
  | .vmem => 13
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S2x2048, .f32⟩
  | .hbm, ⟨3, _⟩ => ⟨S1x128, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2x2048, .f32⟩
  | .hbm, ⟨25, _⟩ => ⟨S2x2048, .f32⟩
  | .hbm, ⟨26, _⟩ => ⟨S1x2048, .f32⟩
  | .hbm, ⟨27, _⟩ => ⟨S2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x16x128, .f32⟩
  | .hbm, ⟨59, _⟩ => ⟨S_, .f32⟩
  | .hbm, ⟨60, _⟩ => ⟨S4096x2048, .f32⟩
  | .hbm, ⟨61, _⟩ => ⟨S4096x2048, .f32⟩
  | .hbm, ⟨62, _⟩ => ⟨S4096x16x128, .f32⟩
  | .hbm, ⟨63, _⟩ => ⟨S4096x16x128, .f32⟩
  | .hbm, ⟨64, _⟩ => ⟨S4096x2048, .f32⟩
  | .hbm, ⟨65, _⟩ => ⟨S4096x16x128, .f32⟩
  | .hbm, ⟨66, _⟩ => ⟨S4096x16x128, .f32⟩
  | .hbm, ⟨67, _⟩ => ⟨S_, .f32⟩
  | .hbm, ⟨68, _⟩ => ⟨S_, .f32⟩
  | .hbm, ⟨69, _⟩ => ⟨S4096x16x128, .f32⟩
  | .hbm, ⟨70, _⟩ => ⟨S64x4096x1x1, .i32⟩
  | .hbm, ⟨71, _⟩ => ⟨S64x4096x1x1, .i32⟩
  | .hbm, ⟨72, _⟩ => ⟨S_, .i32⟩
  | .hbm, ⟨73, _⟩ => ⟨S64x4096x1x1, .i32⟩
  | .hbm, ⟨74, _⟩ => ⟨S64x4096x1x1, .i32⟩
  | .hbm, ⟨75, _⟩ => ⟨S64x4096x1x1, .i1⟩
  | .hbm, ⟨76, _⟩ => ⟨S1x4096x16x128, .f32⟩
  | .hbm, ⟨77, _⟩ => ⟨S_, .f32⟩
  | .hbm, ⟨78, _⟩ => ⟨S_, .f32⟩
  | .hbm, ⟨79, _⟩ => ⟨S64x4096x16x128, .i1⟩
  | .hbm, ⟨80, _⟩ => ⟨S64x4096x16x128, .f32⟩
  | .hbm, ⟨81, _⟩ => ⟨S64x4096x16x128, .f32⟩
  | .hbm, ⟨82, _⟩ => ⟨S64x4096x16x128, .f32⟩
  | .hbm, ⟨83, _⟩ => ⟨S_, .f32⟩
  | .hbm, ⟨84, _⟩ => ⟨S64x16x128, .f32⟩
  | .hbm, ⟨85, _⟩ => ⟨S64x1x16x128, .f32⟩
  | .hbm, ⟨86, _⟩ => ⟨S1x4096x16x128, .f32⟩
  | .hbm, ⟨87, _⟩ => ⟨S64x4096x16x128, .f32⟩
  | .hbm, ⟨88, _⟩ => ⟨S64x4096x16x128, .f32⟩
  | .hbm, ⟨89, _⟩ => ⟨S64x4096x16x128, .f32⟩
  | .hbm, ⟨90, _⟩ => ⟨S_, .f32⟩
  | .hbm, ⟨91, _⟩ => ⟨S_, .f32⟩
  | .hbm, ⟨92, _⟩ => ⟨S64x4096x16x128, .i1⟩
  | .hbm, ⟨93, _⟩ => ⟨S64x4096x16x128, .f32⟩
  | .hbm, ⟨94, _⟩ => ⟨S64x4096x16x128, .f32⟩
  | .hbm, ⟨95, _⟩ => ⟨S64x4096x16x128, .f32⟩
  | .hbm, ⟨96, _⟩ => ⟨S1x4096x16x128, .f32⟩
  | .hbm, ⟨97, _⟩ => ⟨S64x4096x16x128, .f32⟩
  | .hbm, ⟨98, _⟩ => ⟨S64x4096x16x128, .f32⟩
  | .hbm, ⟨99, _⟩ => ⟨S16x64x128x128, .f32⟩
  | .hbm, ⟨100, _⟩ => ⟨S64x16x128x128, .f32⟩
  | .hbm, ⟨101, _⟩ => ⟨S4096x8192, .bf16⟩
  | .hbm, ⟨102, _⟩ => ⟨S2x2048, .f32⟩
  | .hbm, ⟨103, _⟩ => ⟨S1x128, .f32⟩
  | .local _ .vmem, ⟨0, _⟩ => ⟨S64x8192, .f32⟩
  | .local _ .vmem, ⟨1, _⟩ => ⟨S64x8192, .f32⟩
  | .local _ .vmem, ⟨2, _⟩ => ⟨S64x2048, .f32⟩
  | .local _ .vmem, ⟨3, _⟩ => ⟨S64x2048, .f32⟩
  | .local _ .vmem, ⟨4, _⟩ => ⟨S1x16x128x128, .f32⟩
  | .local _ .vmem, ⟨5, _⟩ => ⟨S1x16x128x128, .f32⟩
  | .local _ .vmem, ⟨6, _⟩ => ⟨S2x2048, .f32⟩
  | .local _ .vmem, ⟨7, _⟩ => ⟨S1x128, .f32⟩
  | .local _ .vmem, ⟨8, _⟩ => ⟨S64x8192, .bf16⟩
  | .local _ .vmem, ⟨9, _⟩ => ⟨S64x8192, .bf16⟩
  | .local _ .vmem, ⟨10, _⟩ => ⟨S2x2048, .f32⟩
  | .local _ .vmem, ⟨11, _⟩ => ⟨S1x128, .f32⟩
  | .local _ .vmem, ⟨12, _⟩ => ⟨S16x128x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call2_call0_cst : Ref sig .tc := ⟨.hbm, 67, rfl⟩
abbrev main_call2_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67_0 : Ref sig .tc := ⟨.hbm, 101, rfl⟩
abbrev main_v67_1 : Ref sig .tc := ⟨.hbm, 102, rfl⟩
abbrev main_v67_2 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_2 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S4096x8192 : Shape := ⟨2, ![4096, 8192]⟩
abbrev S4096x2048 : Shape := ⟨2, ![4096, 2048]⟩
abbrev S2x2048 : Shape := ⟨2, ![2, 2048]⟩
abbrev S1x128 : Shape := ⟨2, ![1, 128]⟩
abbrev S_ : Shape := ⟨0, ![]⟩
abbrev S2048 : Shape := ⟨1, ![2048]⟩
abbrev S1x2048 : Shape := ⟨2, ![1, 2048]⟩
abbrev S4096x16x128 : Shape := ⟨3, ![4096, 16, 128]⟩
abbrev S4096x4096x1x1 : Shape := ⟨4, ![4096, 4096, 1, 1]⟩
abbrev S4096x1x16x128 : Shape := ⟨4, ![4096, 1, 16, 128]⟩
abbrev S1x4096x16x128 : Shape := ⟨4, ![1, 4096, 16, 128]⟩
abbrev S4096x4096x16x128 : Shape := ⟨4, ![4096, 4096, 16, 128]⟩
abbrev S4096x4096x16 : Shape := ⟨3, ![4096, 4096, 16]⟩
abbrev S16x128x4096 : Shape := ⟨3, ![16, 128, 4096]⟩
abbrev S4096x16 : Shape := ⟨2, ![4096, 16]⟩
abbrev S4096x16x1 : Shape := ⟨3, ![4096, 16, 1]⟩
abbrev S1x1x128 : Shape := ⟨3, ![1, 1, 128]⟩
abbrev S128 : Shape := ⟨1, ![128]⟩
abbrev S16x4096x4096 : Shape := ⟨3, ![16, 4096, 4096]⟩

abbrev nBuf : Space → Nat
  | .hbm => 298
  | .vmem => 0
  | .smem => 0
  | _ => 0

abbrev hbmTy0_0 (i : Nat) : BufTy := match i % 128 with
  | 0 => ⟨S4096x8192, .f32⟩
  | 1 => ⟨S4096x2048, .f32⟩
  | 2 => ⟨S2x2048, .f32⟩
  | 3 => ⟨S1x128, .f32⟩
  | 4 => ⟨S_, .f32⟩
  | 5 => ⟨S2048, .f32⟩
  | 6 => ⟨S1x2048, .f32⟩
  | 7 => ⟨S2x2048, .f32⟩
  | 8 => ⟨S2x2048, .i1⟩
  | 9 => ⟨S2x2048, .f32⟩
  | 10 => ⟨S_, .f32⟩
  | 11 => ⟨S2048, .f32⟩
  | 12 => ⟨S_, .f32⟩
  | 13 => ⟨S2048, .f32⟩
  | 14 => ⟨S2048, .f32⟩
  | 15 => ⟨S_, .f32⟩
  | 16 => ⟨S2048, .f32⟩
  | 17 => ⟨S2048, .i1⟩
  | 18 => ⟨S_, .f32⟩
  | 19 => ⟨S2048, .f32⟩
  | 20 => ⟨S2048, .i1⟩
  | 21 => ⟨S_, .f32⟩
  | 22 => ⟨S2048, .f32⟩
  | 23 => ⟨S_, .f32⟩
  | 24 => ⟨S2048, .f32⟩
  | 25 => ⟨S_, .f32⟩
  | 26 => ⟨S2048, .f32⟩
  | 27 => ⟨S2048, .f32⟩
  | 28 => ⟨S2048, .f32⟩
  | 29 => ⟨S1x2048, .f32⟩
  | 30 => ⟨S2x2048, .f32⟩
  | 31 => ⟨S2x2048, .f32⟩
  | 32 => ⟨S2x2048, .f32⟩
  | 33 => ⟨S_, .f32⟩
  | 34 => ⟨S2048, .f32⟩
  | 35 => ⟨S1x2048, .f32⟩
  | 36 => ⟨S2x2048, .f32⟩
  | 37 => ⟨S2x2048, .f32⟩
  | 38 => ⟨S1x2048, .f32⟩
  | 39 => ⟨S_, .f32⟩
  | 40 => ⟨S1x2048, .f32⟩
  | 41 => ⟨S1x2048, .f32⟩
  | 42 => ⟨S_, .f32⟩
  | 43 => ⟨S_, .f32⟩
  | 44 => ⟨S2x2048, .f32⟩
  | 45 => ⟨S1x2048, .f32⟩
  | 46 => ⟨S2048, .f32⟩
  | 47 => ⟨S1x2048, .f32⟩
  | 48 => ⟨S2x2048, .f32⟩
  | 49 => ⟨S2x2048, .f32⟩
  | 50 => ⟨S1x2048, .f32⟩
  | 51 => ⟨S2048, .f32⟩
  | 52 => ⟨S4096x2048, .f32⟩
  | 53 => ⟨S4096x2048, .f32⟩
  | 54 => ⟨S4096x2048, .f32⟩
  | 55 => ⟨S4096x2048, .f32⟩
  | 56 => ⟨S_, .f32⟩
  | 57 => ⟨S2048, .f32⟩
  | 58 => ⟨S2048, .f32⟩
  | 59 => ⟨S4096x2048, .f32⟩
  | 60 => ⟨S4096x2048, .f32⟩
  | 61 => ⟨S_, .f32⟩
  | 62 => ⟨S4096x2048, .f32⟩
  | 63 => ⟨S4096x2048, .f32⟩
  | 64 => ⟨S_, .f32⟩
  | 65 => ⟨S4096x2048, .f32⟩
  | 66 => ⟨S4096x2048, .f32⟩
  | 67 => ⟨S_, .f32⟩
  | 68 => ⟨S4096x2048, .f32⟩
  | 69 => ⟨S4096x2048, .f32⟩
  | 70 => ⟨S4096x2048, .f32⟩
  | 71 => ⟨S1x2048, .f32⟩
  | 72 => ⟨S4096x2048, .f32⟩
  | 73 => ⟨S4096x2048, .f32⟩
  | 74 => ⟨S1x2048, .f32⟩
  | 75 => ⟨S4096x2048, .f32⟩
  | 76 => ⟨S4096x2048, .f32⟩
  | 77 => ⟨S4096x2048, .f32⟩
  | 78 => ⟨S4096x2048, .f32⟩
  | 79 => ⟨S_, .f32⟩
  | 80 => ⟨S4096x2048, .f32⟩
  | 81 => ⟨S4096x2048, .f32⟩
  | 82 => ⟨S_, .f32⟩
  | 83 => ⟨S4096x2048, .f32⟩
  | 84 => ⟨S4096x2048, .f32⟩
  | 85 => ⟨S_, .f32⟩
  | 86 => ⟨S4096x2048, .f32⟩
  | 87 => ⟨S4096x2048, .f32⟩
  | 88 => ⟨S4096x2048, .f32⟩
  | 89 => ⟨S4096x2048, .f32⟩
  | 90 => ⟨S4096x16x128, .f32⟩
  | 91 => ⟨S_, .f32⟩
  | 92 => ⟨S4096x2048, .f32⟩
  | 93 => ⟨S4096x2048, .f32⟩
  | 94 => ⟨S4096x16x128, .f32⟩
  | 95 => ⟨S4096x16x128, .f32⟩
  | 96 => ⟨S4096x2048, .f32⟩
  | 97 => ⟨S4096x16x128, .f32⟩
  | 98 => ⟨S4096x16x128, .f32⟩
  | 99 => ⟨S_, .f32⟩
  | 100 => ⟨S_, .f32⟩
  | 101 => ⟨S4096x16x128, .f32⟩
  | 102 => ⟨S4096x4096x1x1, .i32⟩
  | 103 => ⟨S4096x4096x1x1, .i32⟩
  | 104 => ⟨S4096x4096x1x1, .i1⟩
  | 105 => ⟨S4096x1x16x128, .f32⟩
  | 106 => ⟨S1x4096x16x128, .f32⟩
  | 107 => ⟨S4096x4096x16x128, .f32⟩
  | 108 => ⟨S4096x4096x16x128, .f32⟩
  | 109 => ⟨S4096x4096x16x128, .f32⟩
  | 110 => ⟨S_, .f32⟩
  | 111 => ⟨S_, .f32⟩
  | 112 => ⟨S4096x4096x16x128, .i1⟩
  | 113 => ⟨S4096x4096x16x128, .f32⟩
  | 114 => ⟨S4096x4096x16x128, .f32⟩
  | 115 => ⟨S_, .f32⟩
  | 116 => ⟨S4096x4096x16x128, .f32⟩
  | 117 => ⟨S4096x4096x16x128, .f32⟩
  | 118 => ⟨S4096x1x16x128, .f32⟩
  | 119 => ⟨S1x4096x16x128, .f32⟩
  | 120 => ⟨S4096x4096x16x128, .f32⟩
  | 121 => ⟨S4096x4096x16x128, .f32⟩
  | 122 => ⟨S4096x4096x16x128, .f32⟩
  | 123 => ⟨S4096x4096x16x128, .f32⟩
  | 124 => ⟨S_, .f32⟩
  | 125 => ⟨S4096x4096x16, .f32⟩
  | 126 => ⟨S16x128x4096, .f32⟩
  | 127 => ⟨S4096x16x128, .f32⟩
  | _ => ⟨S4096x8192, .f32⟩

abbrev hbmTy0_1 (i : Nat) : BufTy := match i % 128 with
  | 0 => ⟨S4096x16x128, .f32⟩
  | 1 => ⟨S_, .f32⟩
  | 2 => ⟨S4096x16x128, .f32⟩
  | 3 => ⟨S4096x16x128, .f32⟩
  | 4 => ⟨S_, .f32⟩
  | 5 => ⟨S4096x16, .f32⟩
  | 6 => ⟨S4096x16x1, .f32⟩
  | 7 => ⟨S_, .f32⟩
  | 8 => ⟨S4096x16x1, .f32⟩
  | 9 => ⟨S4096x16x1, .f32⟩
  | 10 => ⟨S_, .f32⟩
  | 11 => ⟨S4096x16x1, .f32⟩
  | 12 => ⟨S4096x16x1, .f32⟩
  | 13 => ⟨S4096x16x1, .f32⟩
  | 14 => ⟨S4096x16x1, .f32⟩
  | 15 => ⟨S_, .f32⟩
  | 16 => ⟨S4096x16x1, .f32⟩
  | 17 => ⟨S4096x16x1, .f32⟩
  | 18 => ⟨S4096x16x128, .f32⟩
  | 19 => ⟨S4096x16x128, .f32⟩
  | 20 => ⟨S1x1x128, .f32⟩
  | 21 => ⟨S4096x16x128, .f32⟩
  | 22 => ⟨S4096x16x128, .f32⟩
  | 23 => ⟨S4096x16x128, .f32⟩
  | 24 => ⟨S4096x16x128, .f32⟩
  | 25 => ⟨S_, .f32⟩
  | 26 => ⟨S4096x16x128, .f32⟩
  | 27 => ⟨S4096x16x128, .f32⟩
  | 28 => ⟨S_, .f32⟩
  | 29 => ⟨S4096x16x128, .f32⟩
  | 30 => ⟨S4096x16x128, .f32⟩
  | 31 => ⟨S_, .f32⟩
  | 32 => ⟨S4096x16x128, .f32⟩
  | 33 => ⟨S4096x16x128, .f32⟩
  | 34 => ⟨S4096x16x128, .f32⟩
  | 35 => ⟨S4096x16x128, .f32⟩
  | 36 => ⟨S4096x16x128, .f32⟩
  | 37 => ⟨S4096x2048, .f32⟩
  | 38 => ⟨S4096x16x128, .f32⟩
  | 39 => ⟨S4096x16x128, .f32⟩
  | 40 => ⟨S4096x16x128, .f32⟩
  | 41 => ⟨S4096x16x128, .f32⟩
  | 42 => ⟨S4096x16x128, .f32⟩
  | 43 => ⟨S4096x16x128, .f32⟩
  | 44 => ⟨S4096x16x128, .f32⟩
  | 45 => ⟨S4096x16x128, .f32⟩
  | 46 => ⟨S_, .f32⟩
  | 47 => ⟨S128, .f32⟩
  | 48 => ⟨S1x1x128, .f32⟩
  | 49 => ⟨S4096x16x128, .f32⟩
  | 50 => ⟨S4096x16x128, .f32⟩
  | 51 => ⟨S_, .f32⟩
  | 52 => ⟨S128, .f32⟩
  | 53 => ⟨S1x128, .f32⟩
  | 54 => ⟨S4096x16x128, .f32⟩
  | 55 => ⟨S_, .f32⟩
  | 56 => ⟨S4096x16, .f32⟩
  | 57 => ⟨S4096x16x1, .f32⟩
  | 58 => ⟨S4096x16x128, .f32⟩
  | 59 => ⟨S4096x16x128, .f32⟩
  | 60 => ⟨S4096x16x1, .f32⟩
  | 61 => ⟨S_, .f32⟩
  | 62 => ⟨S4096x16x1, .f32⟩
  | 63 => ⟨S4096x16x1, .f32⟩
  | 64 => ⟨S_, .f32⟩
  | 65 => ⟨S4096x16, .f32⟩
  | 66 => ⟨S4096x16x128, .f32⟩
  | 67 => ⟨S4096x16x128, .f32⟩
  | 68 => ⟨S4096x16x128, .f32⟩
  | 69 => ⟨S16x128x4096, .f32⟩
  | 70 => ⟨S16x4096x4096, .f32⟩
  | 71 => ⟨S4096x4096x16, .f32⟩
  | 72 => ⟨S16x128x4096, .f32⟩
  | 73 => ⟨S4096x16x128, .f32⟩
  | 74 => ⟨S4096x4096x16x128, .f32⟩
  | 75 => ⟨S4096x4096x16x128, .f32⟩
  | 76 => ⟨S4096x4096x16x128, .f32⟩
  | 77 => ⟨S4096x4096x16x128, .f32⟩
  | 78 => ⟨S4096x4096x16x128, .f32⟩
  | 79 => ⟨S_, .f32⟩
  | 80 => ⟨S4096x16x128, .f32⟩
  | 81 => ⟨S1x4096x16x128, .f32⟩
  | 82 => ⟨S4096x4096x16x128, .f32⟩
  | 83 => ⟨S4096x4096x16x128, .f32⟩
  | 84 => ⟨S_, .f32⟩
  | 85 => ⟨S4096x16x128, .f32⟩
  | 86 => ⟨S4096x1x16x128, .f32⟩
  | 87 => ⟨S_, .f32⟩
  | 88 => ⟨S4096x16x128, .f32⟩
  | 89 => ⟨S_, .f32⟩
  | 90 => ⟨S4096x16x128, .f32⟩
  | 91 => ⟨S4096x4096x16x128, .f32⟩
  | 92 => ⟨S_, .f32⟩
  | 93 => ⟨S4096x4096x16x128, .f32⟩
  | 94 => ⟨S4096x4096x16x128, .f32⟩
  | 95 => ⟨S_, .f32⟩
  | 96 => ⟨S4096x16x128, .f32⟩
  | 97 => ⟨S4096x1x16x128, .f32⟩
  | 98 => ⟨S4096x4096x16x128, .f32⟩
  | 99 => ⟨S_, .f32⟩
  | 100 => ⟨S4096x16x128, .f32⟩
  | 101 => ⟨S1x4096x16x128, .f32⟩
  | 102 => ⟨S_, .f32⟩
  | 103 => ⟨S4096x16x128, .f32⟩
  | 104 => ⟨S_, .f32⟩
  | 105 => ⟨S4096x16x128, .f32⟩
  | 106 => ⟨S4096x16x128, .f32⟩
  | 107 => ⟨S_, .f32⟩
  | 108 => ⟨S_, .f32⟩
  | 109 => ⟨S4096x16x128, .f32⟩
  | 110 => ⟨S4096x2048, .f32⟩
  | 111 => ⟨S4096x2048, .f32⟩
  | 112 => ⟨S4096x2048, .f32⟩
  | 113 => ⟨S4096x2048, .f32⟩
  | 114 => ⟨S4096x2048, .f32⟩
  | 115 => ⟨S4096x2048, .f32⟩
  | 116 => ⟨S4096x2048, .f32⟩
  | 117 => ⟨S4096x2048, .f32⟩
  | 118 => ⟨S4096x2048, .f32⟩
  | 119 => ⟨S4096x2048, .f32⟩
  | 120 => ⟨S4096x2048, .f32⟩
  | 121 => ⟨S4096x2048, .f32⟩
  | 122 => ⟨S_, .f32⟩
  | 123 => ⟨S2048, .f32⟩
  | 124 => ⟨S1x2048, .f32⟩
  | 125 => ⟨S_, .f32⟩
  | 126 => ⟨S2048, .f32⟩
  | 127 => ⟨S4096x2048, .f32⟩
  | _ => ⟨S4096x8192, .f32⟩

abbrev hbmTy0_2 (i : Nat) : BufTy := match i % 128 with
  | 0 => ⟨S4096x2048, .f32⟩
  | 1 => ⟨S4096x2048, .f32⟩
  | 2 => ⟨S_, .f32⟩
  | 3 => ⟨S2048, .f32⟩
  | 4 => ⟨S1x2048, .f32⟩
  | 5 => ⟨S_, .f32⟩
  | 6 => ⟨S2048, .f32⟩
  | 7 => ⟨S4096x2048, .f32⟩
  | 8 => ⟨S2048, .f32⟩
  | 9 => ⟨S2048, .f32⟩
  | 10 => ⟨S4096x8192, .f32⟩
  | 11 => ⟨S1x2048, .f32⟩
  | 12 => ⟨S_, .f32⟩
  | 13 => ⟨S2x2048, .f32⟩
  | 14 => ⟨S2x2048, .f32⟩
  | 15 => ⟨S_, .f32⟩
  | 16 => ⟨S2048, .f32⟩
  | 17 => ⟨S1x2048, .f32⟩
  | 18 => ⟨S_, .f32⟩
  | 19 => ⟨S2048, .f32⟩
  | 20 => ⟨S1x2048, .f32⟩
  | 21 => ⟨S_, .f32⟩
  | 22 => ⟨S2x2048, .f32⟩
  | 23 => ⟨S2x2048, .f32⟩
  | 24 => ⟨S_, .f32⟩
  | 25 => ⟨S_, .f32⟩
  | 26 => ⟨S2x2048, .f32⟩
  | 27 => ⟨S2x2048, .f32⟩
  | 28 => ⟨S2x2048, .f32⟩
  | 29 => ⟨S2x2048, .f32⟩
  | 30 => ⟨S_, .f32⟩
  | 31 => ⟨S2048, .f32⟩
  | 32 => ⟨S1x2048, .f32⟩
  | 33 => ⟨S1x2048, .f32⟩
  | 34 => ⟨S2x2048, .f32⟩
  | 35 => ⟨S2x2048, .f32⟩
  | 36 => ⟨S_, .f32⟩
  | 37 => ⟨S2048, .f32⟩
  | 38 => ⟨S2x2048, .f32⟩
  | 39 => ⟨S2x2048, .f32⟩
  | 40 => ⟨S2x2048, .f32⟩
  | 41 => ⟨S4096x8192, .bf16⟩
  | _ => ⟨S4096x8192, .f32⟩

abbrev hbmTy (i : Nat) : BufTy := match i / 128 with
  | 0 => hbmTy0_0 i
  | 1 => hbmTy0_1 i
  | 2 => hbmTy0_2 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_call0_call0_cst : Ref sig .tc := ⟨.hbm, 42, rfl⟩
abbrev main_call0_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_v57_2 : Ref sig .tc := ⟨.hbm, 84, rfl⟩
abbrev main_call1_cst_1 : Ref sig .tc := ⟨.hbm, 85, rfl⟩
abbrev main_call1_v6 : Ref sig .tc := ⟨.hbm, 86, rfl⟩
abbrev main_call1_v7 : Ref sig .tc := ⟨.hbm, 87, rfl⟩
abbrev main_v57_1 : Ref sig .tc := ⟨.hbm, 88, rfl⟩
abbrev main_v57_0 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_call0_cst : Ref sig .tc := ⟨.hbm, 99, rfl⟩
abbrev main_call2_call0_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_call3_v0 : Ref sig .tc := ⟨.hbm, 111, rfl⟩
abbrev main_v75_1 : Ref sig .tc := ⟨.hbm, 112, rfl⟩
abbrev main_call3_v2 : Ref sig .tc := ⟨.hbm, 113, rfl⟩
abbrev main_v75_0 : Ref sig .tc := ⟨.hbm, 114, rfl⟩
abbrev main_call3_cst : Ref sig .tc := ⟨.hbm, 115, rfl⟩
abbrev main_v75_2 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_16 : Ref sig .tc := ⟨.hbm, 129, rfl⟩
abbrev main_v87 : Ref sig .tc := ⟨.hbm, 130, rfl⟩
abbrev main_v88 : Ref sig .tc := ⟨.hbm, 131, rfl⟩
abbrev main_cst_17 : Ref sig .tc := ⟨.hbm, 132, rfl⟩
abbrev main_v89 : Ref sig .tc := ⟨.hbm, 133, rfl⟩
abbrev main_v90 : Ref sig .tc := ⟨.hbm, 134, rfl⟩
abbrev main_cst_18 : Ref sig .tc := ⟨.hbm, 135, rfl⟩
abbrev main_v91 : Ref sig .tc := ⟨.hbm, 136, rfl⟩
abbrev main_v92 : Ref sig .tc := ⟨.hbm, 137, rfl⟩
abbrev main_cst_19 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_20 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call4_v0 : Ref sig .tc := ⟨.hbm, 151, rfl⟩
abbrev main_call4_v1 : Ref sig .tc := ⟨.hbm, 152, rfl⟩
abbrev main_call4_cst : Ref sig .tc := ⟨.hbm, 153, rfl⟩
abbrev main_call4_v2 : Ref sig .tc := ⟨.hbm, 154, rfl⟩
abbrev main_call4_v3 : Ref sig .tc := ⟨.hbm, 155, rfl⟩
abbrev main_call4_cst_0 : Ref sig .tc := ⟨.hbm, 156, rfl⟩
abbrev main_call4_v4 : Ref sig .tc := ⟨.hbm, 157, rfl⟩
abbrev main_v104_2 : Ref sig .tc := ⟨.hbm, 158, rfl⟩
abbrev main_call4_cst_1 : Ref sig .tc := ⟨.hbm, 159, rfl⟩
abbrev main_call4_v6 : Ref sig .tc := ⟨.hbm, 160, rfl⟩
abbrev main_call4_v7 : Ref sig .tc := ⟨.hbm, 161, rfl⟩
abbrev main_v104_1 : Ref sig .tc := ⟨.hbm, 162, rfl⟩
abbrev main_v104_0 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_call5_v0 : Ref sig .tc := ⟨.hbm, 169, rfl⟩
abbrev main_call5_v1 : Ref sig .tc := ⟨.hbm, 170, rfl⟩
abbrev main_call5_v2 : Ref sig .tc := ⟨.hbm, 171, rfl⟩
abbrev main_v110 : Ref sig .tc := ⟨.hbm, 172, rfl⟩
abbrev main_v111 : Ref sig .tc := ⟨.hbm, 173, rfl⟩
abbrev main_cst_21 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_22 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_23 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_cst_24 : Ref sig .tc := ⟨.hbm, 189, rfl⟩
abbrev main_v124 : Ref sig .tc := ⟨.hbm, 190, rfl⟩
abbrev main_v125 : Ref sig .tc := ⟨.hbm, 191, rfl⟩
abbrev main_cst_25 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_cst_26 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_cst_27 : Ref sig .tc := ⟨.hbm, 212, rfl⟩
abbrev main_v144 : Ref sig .tc := ⟨.hbm, 213, rfl⟩
abbrev main_v145 : Ref sig .tc := ⟨.hbm, 214, rfl⟩
abbrev main_cst_28 : Ref sig .tc := ⟨.hbm, 215, rfl⟩
abbrev main_v146 : Ref sig .tc := ⟨.hbm, 216, rfl⟩
abbrev main_cst_29 : Ref sig .tc := ⟨.hbm, 217, rfl⟩
abbrev main_v147 : Ref sig .tc := ⟨.hbm, 218, rfl⟩
abbrev main_v148 : Ref sig .tc := ⟨.hbm, 219, rfl⟩
abbrev main_call6_cst : Ref sig .tc := ⟨.hbm, 220, rfl⟩
abbrev main_call6_v0 : Ref sig .tc := ⟨.hbm, 221, rfl⟩
abbrev main_v149 : Ref sig .tc := ⟨.hbm, 222, rfl⟩
abbrev main_cst_30 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_cst_31 : Ref sig .tc := ⟨.hbm, 227, rfl⟩
abbrev main_v153 : Ref sig .tc := ⟨.hbm, 228, rfl⟩
abbrev main_v154 : Ref sig .tc := ⟨.hbm, 229, rfl⟩
abbrev main_cst_32 : Ref sig .tc := ⟨.hbm, 230, rfl⟩
abbrev main_v155 : Ref sig .tc := ⟨.hbm, 231, rfl⟩
abbrev main_cst_33 : Ref sig .tc := ⟨.hbm, 232, rfl⟩
abbrev main_v156 : Ref sig .tc := ⟨.hbm, 233, rfl⟩
abbrev main_v157 : Ref sig .tc := ⟨.hbm, 234, rfl⟩
abbrev main_call7_call0_cst : Ref sig .tc := ⟨.hbm, 235, rfl⟩
abbrev main_call7_call0_v0 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_call8_v0 : Ref sig .tc := ⟨.hbm, 246, rfl⟩
abbrev main_call8_v1 : Ref sig .tc := ⟨.hbm, 247, rfl⟩
abbrev main_call8_v2 : Ref sig .tc := ⟨.hbm, 248, rfl⟩
abbrev main_v167 : Ref sig .tc := ⟨.hbm, 249, rfl⟩
abbrev main_cst_34 : Ref sig .tc := ⟨.hbm, 250, rfl⟩
abbrev main_v168 : Ref sig .tc := ⟨.hbm, 251, rfl⟩
abbrev main_v169 : Ref sig .tc := ⟨.hbm, 252, rfl⟩
abbrev main_cst_35 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_cst_36 : Ref sig .tc := ⟨.hbm, 258, rfl⟩
abbrev main_v174 : Ref sig .tc := ⟨.hbm, 259, rfl⟩
abbrev main_v175 : Ref sig .tc := ⟨.hbm, 260, rfl⟩
abbrev main_cst_37 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_cst_38 : Ref sig .tc := ⟨.hbm, 268, rfl⟩
abbrev main_v182 : Ref sig .tc := ⟨.hbm, 269, rfl⟩
abbrev main_v183 : Ref sig .tc := ⟨.hbm, 270, rfl⟩
abbrev main_cst_39 : Ref sig .tc := ⟨.hbm, 271, rfl⟩
abbrev main_v184 : Ref sig .tc := ⟨.hbm, 272, rfl⟩
abbrev main_v185 : Ref sig .tc := ⟨.hbm, 273, rfl⟩
abbrev main_cst_40 : Ref sig .tc := ⟨.hbm, 274, rfl⟩
abbrev main_v186 : Ref sig .tc := ⟨.hbm, 275, rfl⟩
abbrev main_v187 : Ref sig .tc := ⟨.hbm, 276, rfl⟩
abbrev main_cst_41 : Ref sig .tc := ⟨.hbm, 277, rfl⟩
abbrev main_v188 : Ref sig .tc := ⟨.hbm, 278, rfl⟩
abbrev main_v189 : Ref sig .tc := ⟨.hbm, 279, rfl⟩
abbrev main_call9_call0_cst : Ref sig .tc := ⟨.hbm, 280, rfl⟩
abbrev main_call9_call0_v0 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_cst_42 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_cst_43 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩

abbrev nD : Nat := 1
abbrev τ : Topo := Topo.v7x

variable {F : FTy → Type} [FloatOps F]
-- ==== Kernel2.lean ====
abbrev S4096x1024 : Shape := ⟨2, ![4096, 1024]⟩
abbrev S4096x8192 : Shape := ⟨2, ![4096, 8192]⟩
abbrev S1024x8192 : Shape := ⟨2, ![1024, 8192]⟩
abbrev S4096x512 : Shape := ⟨2, ![4096, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .bf16⟩
  | .hbm, ⟨3, _⟩ => ⟨S4096x8192, .bf16⟩
  | .hbm, ⟨4, _⟩ => ⟨S1024x8192, .f32⟩
  | .hbm, ⟨5, _⟩ => ⟨S1024x8192, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S_, .f32⟩
  | .hbm, ⟨3, _⟩ => ⟨S1024x8192, .f32⟩
  | .hbm, ⟨4, _⟩ => ⟨S4096x8192, .f32⟩
  | .hbm, ⟨5, _⟩ => ⟨S8192x1024, .f32⟩
  | .hbm, ⟨6, _⟩ => ⟨S1024x8192, .f32⟩
  | .hbm, ⟨7, _⟩ => ⟨S1024x8192, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x8192 : Shape := ⟨2, ![4096, 8192]⟩
abbrev S1024x8192 : Shape := ⟨2, ![1024, 8192]⟩
abbrev S4096x1024 : Shape := ⟨2, ![4096, 1024]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S4096x1024, .f32⟩
  | .hbm, ⟨3, _⟩ => ⟨S4096x8192, .bf16⟩
  | .hbm, ⟨4, _⟩ => ⟨S1024x8192, .bf16⟩
  | .hbm, ⟨5, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x8192 : Shape := ⟨2, ![4096, 8192]⟩
abbrev S1024x8192 : Shape := ⟨2, ![1024, 8192]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x8192, .f32⟩
  | .hbm, ⟨6, _⟩ => ⟨S4096x1024, .f32⟩
  | .hbm, ⟨7, _⟩ => ⟨S4096x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S1024x8192 : Shape := ⟨2, ![1024, 8192]⟩
abbrev S4096x8192 : Shape := ⟨2, ![4096, 8192]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x1024, .bf16⟩
  | .hbm, ⟨3, _⟩ => ⟨S1024x8192, .bf16⟩
  | .hbm, ⟨4, _⟩ => ⟨S4096x8192, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x8192 : Shape := ⟨2, ![1024, 8192]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S4096x4096 : Shape := ⟨2, ![4096, 4096]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S4096x3072 : Shape := ⟨2, ![4096, 3072]⟩
abbrev S4096x1024 : Shape := ⟨2, ![4096, 1024]⟩
abbrev S3072x1024 : Shape := ⟨2, ![3072, 1024]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x3072, .bf16⟩
  | .hbm, ⟨3, _⟩ => ⟨S4096x1024, .bf16⟩
  | .hbm, ⟨4, _⟩ => ⟨S3072x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S_, .f32⟩
  | .hbm, ⟨3, _⟩ => ⟨S3072x1024, .f32⟩
  | .hbm, ⟨4, _⟩ => ⟨S1024x3072, .f32⟩
  | .hbm, ⟨5, _⟩ => ⟨S4096x3072, .f32⟩
  | .hbm, ⟨6, _⟩ => ⟨S3072x1024, .f32⟩
  | .hbm, ⟨7, _⟩ => ⟨S1024x3072, .f32⟩
  | .hbm, ⟨8, _⟩ => ⟨S3072x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x3072 : Shape := ⟨2, ![4096, 3072]⟩
abbrev S3072x1024 : Shape := ⟨2, ![3072, 1024]⟩
abbrev S4096x1024 : Shape := ⟨2, ![4096, 1024]⟩
abbrev S2048x1536 : Shape := ⟨2, ![2048, 1536]⟩
abbrev S1536x512 : Shape := ⟨2, ![1536, 512]⟩
abbrev S2048x512 : Shape := ⟨2, ![2048, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S4096x3072, .bf16⟩
  | .hbm, ⟨4, _⟩ => ⟨S3072x1024, .bf16⟩
  | .hbm, ⟨5, _⟩ => ⟨S4096x1024, .f32⟩
  | .local _ .vmem, ⟨0, _⟩ => ⟨S2048x1536, .bf16⟩
  | .local _ .vmem, ⟨1, _⟩ => ⟨S2048x1536, .bf16⟩
  | .local _ .vmem, ⟨2, _⟩ => ⟨S1536x512, .bf16⟩
  | .local _ .vmem, ⟨3, _⟩ => ⟨S1536x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x3072 : Shape := ⟨2, ![4096, 3072]⟩
abbrev S3072x1024 : Shape := ⟨2, ![3072, 1024]⟩
abbrev S4096x1024 : Shape := ⟨2, ![4096, 1024]⟩
abbrev S_ : Shape := ⟨0, ![]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3072x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x3072, .f32⟩
  | .hbm, ⟨6, _⟩ => ⟨S4096x3072, .f32⟩
  | .hbm, ⟨7, _⟩ => ⟨S4096x1024, .f32⟩
  | .hbm, ⟨8, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S3072x1024 : Shape := ⟨2, ![3072, 1024]⟩
abbrev S4096x3072 : Shape := ⟨2, ![4096, 3072]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S3072x1024, .f32⟩
  | .hbm, ⟨2, _⟩ => ⟨S4096x1024, .bf16⟩
  | .hbm, ⟨3, _⟩ => ⟨S3072x1024, .bf16⟩
  | .hbm, ⟨4, _⟩ => ⟨S4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3072x1024, .f32⟩
  | .hbm, ⟨2, _⟩ => ⟨S1024x3072, .f32⟩
  | .hbm, ⟨3, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .f32⟩
  | .hbm, ⟨5, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x1024, .bf16⟩
  | .hbm, ⟨3, _⟩ => ⟨S2048x1024, .bf16⟩
  | .hbm, ⟨4, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x2048 : Shape := ⟨2, ![4096, 2048]⟩
abbrev S2048x1024 : Shape := ⟨2, ![2048, 1024]⟩
abbrev S4096x1024 : Shape := ⟨2, ![4096, 1024]⟩
abbrev S2048x2048 : Shape := ⟨2, ![2048, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x2048, .bf16⟩
  | .hbm, ⟨3, _⟩ => ⟨S2048x1024, .bf16⟩
  | .hbm, ⟨4, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4096x1152 : Shape := ⟨2, ![4096, 1152]⟩
abbrev S4096x1024 : Shape := ⟨2, ![4096, 1024]⟩
abbrev S1152x1024 : Shape := ⟨2, ![1152, 1024]⟩
abbrev S4096x512 : Shape := ⟨2, ![4096, 512]⟩
abbrev S1152x512 : Shape := ⟨2, ![1152, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1152, .f32⟩
  | .hbm, ⟨1, _⟩ => ⟨S4096x1024, .f32⟩
  | .hbm, ⟨2, _⟩ => ⟨S4096x1152, .bf16⟩
  | .hbm, ⟨3, _⟩ => ⟨S4096x1024, .bf16⟩
  | .hbm, ⟨4, _⟩ => ⟨S1152x1024, .f32⟩
  | .local _ .vmem, ⟨0, _⟩ => ⟨S4096x1152, .bf16⟩
  | .local _ .vmem, ⟨1, _⟩ => ⟨S4096x512, .bf16⟩
  | .local _ .vmem, ⟨2, _⟩ => ⟨S4096x512, .bf16⟩
  | .local _ .vmem, ⟨3, _⟩ => ⟨S1152x512, .f32⟩
  | .local _ .vmem, ⟨4, _⟩ => ⟨S1152x512, .f32⟩
  | _, _ => ⟨S4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1152 : Shape := ⟨2, ![4096, 1152]⟩
abbrev S4096x1024 : Shape := ⟨2, ![4096, 1024]⟩
abbrev S_ : Shape := ⟨0, ![]⟩
abbrev S1152x1024 : Shape := ⟨2, ![1152, 1024]⟩
abbrev S1024x1152 : Shape := ⟨2, ![1024, 1152]⟩

abbrev nBuf : Space → Nat
  | .hbm => 9
  | .vmem => 0
  | .smem => 0
  | _ => 0

abbrev bufTy : (tb : Table) → Fin (tcTables nBuf tb) → BufTy
  | .hbm, ⟨0, _⟩ => ⟨S4096x1152, .f32⟩
  | .hbm, ⟨1, _⟩ => ⟨S4096x1024, .f32⟩
  | .hbm, ⟨2, _⟩ => ⟨S_, .f32⟩
  | .hbm, ⟨3, _⟩ => ⟨S1152x1024, .f32⟩
  | .hbm, ⟨4, _⟩ => ⟨S1024x1152, .f32⟩
  | .hbm, ⟨5, _⟩ => ⟨S4096x1152, .f32⟩
  | .hbm, ⟨6, _⟩ => ⟨S1152x1024, .f32⟩
  | .hbm, ⟨7, _⟩ => ⟨S1024x1152, .f32⟩
  | .hbm, ⟨8, _⟩ => ⟨S1152x1024, .f32⟩
  | _, _ => ⟨S4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1152 : Shape := ⟨2, ![4096, 1152]⟩
abbrev S1152x1024 : Shape := ⟨2, ![1152, 1024]⟩
abbrev S4096x1024 : Shape := ⟨2, ![4096, 1024]⟩
abbrev S2048x1152 : Shape := ⟨2, ![2048, 1152]⟩
abbrev S1152x512 : Shape := ⟨2, ![1152, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x1152, .f32⟩
  | .hbm, ⟨1, _⟩ => ⟨S1152x1024, .f32⟩
  | .hbm, ⟨2, _⟩ => ⟨S4096x1024, .f32⟩
  | .hbm, ⟨3, _⟩ => ⟨S4096x1152, .bf16⟩
  | .hbm, ⟨4, _⟩ => ⟨S1152x1024, .bf16⟩
  | .hbm, ⟨5, _⟩ => ⟨S4096x1024, .f32⟩
  | .local _ .vmem, ⟨0, _⟩ => ⟨S2048x1152, .bf16⟩
  | .local _ .vmem, ⟨1, _⟩ => ⟨S2048x1152, .bf16⟩
  | .local _ .vmem, ⟨2, _⟩ => ⟨S1152x512, .bf16⟩
  | .local _ .vmem, ⟨3, _⟩ => ⟨S1152x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x1152 : Shape := ⟨2, ![4096, 1152]⟩
abbrev S1152x1024 : Shape := ⟨2, ![1152, 1024]⟩
abbrev S4096x1024 : Shape := ⟨2, ![4096, 1024]⟩
abbrev S_ : Shape := ⟨0, ![]⟩
abbrev S1024x1152 : Shape := ⟨2, ![1024, 1152]⟩

abbrev nBuf : Space → Nat
  | .hbm => 9
  | .vmem => 0
  | .smem => 0
  | _ => 0

abbrev bufTy : (tb : Table) → Fin (tcTables nBuf tb) → BufTy
  | .hbm, ⟨0, _⟩ => ⟨S4096x1152, .f32⟩
  | .hbm, ⟨1, _⟩ => ⟨S1152x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1152, .f32⟩
  | .hbm, ⟨6, _⟩ => ⟨S4096x1152, .f32⟩
  | .hbm, ⟨7, _⟩ => ⟨S4096x1024, .f32⟩
  | .hbm, ⟨8, _⟩ => ⟨S4096x1024, .f32⟩
  | _, _ => ⟨S4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S1152x1024 : Shape := ⟨2, ![1152, 1024]⟩
abbrev S4096x1152 : Shape := ⟨2, ![4096, 1152]⟩
abbrev S2048x1024 : Shape := ⟨2, ![2048, 1024]⟩
abbrev S384x1024 : Shape := ⟨2, ![384, 1024]⟩
abbrev S2048x384 : Shape := ⟨2, ![2048, 384]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1152x1024, .f32⟩
  | .hbm, ⟨2, _⟩ => ⟨S4096x1024, .bf16⟩
  | .hbm, ⟨3, _⟩ => ⟨S1152x1024, .bf16⟩
  | .hbm, ⟨4, _⟩ => ⟨S4096x1152, .f32⟩
  | .local _ .vmem, ⟨0, _⟩ => ⟨S2048x1024, .bf16⟩
  | .local _ .vmem, ⟨1, _⟩ => ⟨S2048x1024, .bf16⟩
  | .local _ .vmem, ⟨2, _⟩ => ⟨S384x1024, .bf16⟩
  | .local _ .vmem, ⟨3, _⟩ => ⟨S384x1024, .bf16⟩
  | .local _ .vmem, ⟨4, _⟩ => ⟨S2048x384, .f32⟩
  | .local _ .vmem, ⟨5, _⟩ => ⟨S2048x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1152x1024 : Shape := ⟨2, ![1152, 1024]⟩
abbrev S1024x1152 : Shape := ⟨2, ![1024, 1152]⟩
abbrev S4096x1152 : Shape := ⟨2, ![4096, 1152]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1152x1024, .f32⟩
  | .hbm, ⟨2, _⟩ => ⟨S1024x1152, .f32⟩
  | .hbm, ⟨3, _⟩ => ⟨S4096x1152, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4096x1024 : Shape := ⟨2, ![4096, 1024]⟩
abbrev S4096x256 : Shape := ⟨2, ![4096, 256]⟩
abbrev S2x1024 : Shape := ⟨2, ![2, 1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S2x1024, .f32⟩
  | .hbm, ⟨4, _⟩ => ⟨S2x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S4096x1024, .f32⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S4096x1024 : Shape := ⟨2, ![4096, 1024]⟩
abbrev S4096x256 : Shape := ⟨2, ![4096, 256]⟩
abbrev S2x1024 : Shape := ⟨2, ![2, 1024]⟩
abbrev S1024x1024 : Shape := ⟨2, ![1024, 1024]⟩
abbrev S256x1024 : Shape := ⟨2, ![256, 1024]⟩
abbrev S_ : Shape := ⟨0, ![]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S2x1024, .f32⟩
  | .hbm, ⟨4, _⟩ => ⟨S2x1024, .f32⟩
  | .hbm, ⟨5, _⟩ => ⟨S1024x1024, .f32⟩
  | .hbm, ⟨6, _⟩ => ⟨S256x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel22.lean ====
abbrev S4096x3072 : Shape := ⟨2, ![4096, 3072]⟩
abbrev S4x3072 : Shape := ⟨2, ![4, 3072]⟩
abbrev S8x512 : Shape := ⟨2, ![8, 512]⟩
abbrev S1024x512 : Shape := ⟨2, ![1024, 512]⟩
abbrev S4x512 : Shape := ⟨2, ![4, 512]⟩
abbrev S1032x512 : Shape := ⟨2, ![1032, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x3072, .f32⟩
  | .local _ .vmem, ⟨0, _⟩ => ⟨S8x512, .f32⟩
  | .local _ .vmem, ⟨1, _⟩ => ⟨S8x512, .f32⟩
  | .local _ .vmem, ⟨2, _⟩ => ⟨S1024x512, .f32⟩
  | .local _ .vmem, ⟨3, _⟩ => ⟨S1024x512, .f32⟩
  | .local _ .vmem, ⟨4, _⟩ => ⟨S4x512, .f32⟩
  | .local _ .vmem, ⟨5, _⟩ => ⟨S4x512, .f32⟩
  | .local _ .vmem, ⟨6, _⟩ => ⟨S1024x512, .f32⟩
  | .local _ .vmem, ⟨7, _⟩ => ⟨S1024x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference22Ideal.lean ====
abbrev S4096x3072 : Shape := ⟨2, ![4096, 3072]⟩
abbrev S4x3072 : Shape := ⟨2, ![4, 3072]⟩
abbrev S1x3072 : Shape := ⟨2, ![1, 3072]⟩
abbrev S3072 : Shape := ⟨1, ![3072]⟩
abbrev S_ : Shape := ⟨0, ![]⟩
abbrev S4099x3072 : Shape := ⟨2, ![4099, 3072]⟩
abbrev S4098x3072 : Shape := ⟨2, ![4098, 3072]⟩
abbrev S4097x3072 : Shape := ⟨2, ![4097, 3072]⟩

abbrev nBuf : Space → Nat
  | .hbm => 52
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S1x3072, .f32⟩
  | .hbm, ⟨3, _⟩ => ⟨S3072, .f32⟩
  | .hbm, ⟨4, _⟩ => ⟨S_, .i32⟩
  | .hbm, ⟨5, _⟩ => ⟨S_, .f32⟩
  | .hbm, ⟨6, _⟩ => ⟨S4099x3072, .f32⟩
  | .hbm, ⟨7, _⟩ => ⟨S4096x3072, .f32⟩
  | .hbm, ⟨8, _⟩ => ⟨S1x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S1x3072, .f32⟩
  | .hbm, ⟨15, _⟩ => ⟨S3072, .f32⟩
  | .hbm, ⟨16, _⟩ => ⟨S_, .i32⟩
  | .hbm, ⟨17, _⟩ => ⟨S_, .f32⟩
  | .hbm, ⟨18, _⟩ => ⟨S4098x3072, .f32⟩
  | .hbm, ⟨19, _⟩ => ⟨S4096x3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S1x3072, .f32⟩
  | .hbm, ⟨25, _⟩ => ⟨S3072, .f32⟩
  | .hbm, ⟨26, _⟩ => ⟨S_, .i32⟩
  | .hbm, ⟨27, _⟩ => ⟨S_, .f32⟩
  | .hbm, ⟨28, _⟩ => ⟨S4097x3072, .f32⟩
  | .hbm, ⟨29, _⟩ => ⟨S4096x3072, .f32⟩
  | .hbm, ⟨30, _⟩ => ⟨S1x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S1x3072, .f32⟩
  | .hbm, ⟨35, _⟩ => ⟨S3072, .f32⟩
  | .hbm, ⟨36, _⟩ => ⟨S_, .i32⟩
  | .hbm, ⟨37, _⟩ => ⟨S_, .f32⟩
  | .hbm, ⟨38, _⟩ => ⟨S4096x3072, .f32⟩
  | .hbm, ⟨39, _⟩ => ⟨S1x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S4096x3072, .f32⟩
  | .hbm, ⟨45, _⟩ => ⟨S_, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_call2_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_call3_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call4_v0 : Ref sig .tc := ⟨.hbm, 43, rfl⟩
abbrev main_call4_v1 : Ref sig .tc := ⟨.hbm, 44, rfl⟩
abbrev main_call4_cst : Ref sig .tc := ⟨.hbm, 45, rfl⟩
abbrev main_call4_v2 : Ref sig .tc := ⟨.hbm, 46, rfl⟩
abbrev main_call4_v3 : Ref sig .tc := ⟨.hbm, 47, rfl⟩
abbrev main_call4_cst_0 : Ref sig .tc := ⟨.hbm, 48, rfl⟩
abbrev main_call4_v4 : Ref sig .tc := ⟨.hbm, 49, rfl⟩
abbrev main_call4_v5 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Proof.Product2.lean ====
module

public import proofs.«01_k».proof.Defs
public import proofs.«01_k».proof.Proof.Gen.Kernel2Ideal.Frame
public import proofs.«01_k».proof.Proof.Gen.Kernel2Ideal.Value
public import proofs.«01_k».proof.Proof.Gen.Reference2Ideal.Run
public import Idealize.ShloMosaic.Lib.Pipeline.ValueKit
public import Idealize.ShloMosaic.Adequacy

/-! Product 2: the gradient of `w_in_odd`, as f32 and as bf16. -/

@[expose] public section

set_option maxRecDepth 65536

noncomputable section

namespace Cert.Kernel2Ideal.Product

open Idealize.ShloMosaic Idealize.ShloMosaic.TcCoe Idealize.SL.Sem
open Cert.Kernel2Ideal Cert.Kernel2Ideal.Gen

variable (m : (ℓ : Loc nD τ sig) → Buf (Elt Ideal) ℓ)

/-- What the reference computes. -/
abbrev REF (X : FVec Ideal S4096x1024 .f32) (Y : FVec Ideal S4096x8192 .f32) : FVec Ideal S1024x8192 .f32 :=
  transpose Cert.Reference2Ideal.S1024x8192 [1, 0] (Host.dotGeneral Cert.Reference2Ideal.dot_S4096x8192_S4096x1024_S8192x1024_0_0_1_1_n_n none Y X) Cert.Reference2Ideal.Gen.transposes_S8192x1024_S1024x8192_1_0

/-- What the reference computes (its second result). -/
abbrev REF1 (X : FVec Ideal S4096x1024 .f32) (Y : FVec Ideal S4096x8192 .f32) : FVec Ideal S1024x8192 .bf16 :=
  truncf .bf16 (transpose Cert.Reference2Ideal.S1024x8192 [1, 0] (Host.dotGeneral Cert.Reference2Ideal.dot_S4096x8192_S4096x1024_S8192x1024_0_0_1_1_n_n none Y X) Cert.Reference2Ideal.Gen.transposes_S8192x1024_S1024x8192_1_0) Cert.Reference2Ideal.Gen.bitsLt_bf16_f32

/-- Which blocks grid point `t` takes of its arrays. -/
theorem idx : ∀ t : Fin cfg0.N, win0_0.index t = ![0, t.val / 16] ∧ win0_1.index t = ![0, t.val % 16]
    ∧ win0_2.index t = ![t.val / 16, t.val % 16]
    ∧ win0_3.index t = ![t.val / 16, t.val % 16] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => (mul_comm _ _).trans ?_
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- Entry `y` of the block that point `t` writes is the reference's entry there. -/
theorem point1 (c : Dev nD) (t : Fin cfg0.N) (y) : k0_pay2 (iblk m c 0 t) (iblk m c 1 t) y
    = REF1 (m ((c : Thread nD τ).loc main_arg0)) (m ((c : Thread nD τ).loc main_arg1)) (((cfg0.win 3).blk t).view.emb y) := by
  pointwise [k0_pay2, k0_pay1, REF1]
  refine Finset.sum_congr rfl fun k _ => (mul_comm _ _).trans ?_
  blk_point [iblk, V, idx t]

/-- The output array ends as the reference's second result. -/
theorem final1 (c : Dev nD) : (dats m 0 c).arrAt 3 cfg0.N
    = REF1 (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point1 m c t y

end Cert.Kernel2Ideal.Product

namespace Cert.Reference2Ideal.Product

open Idealize.ShloMosaic Idealize.ShloMosaic.TcCoe Idealize.SL.Sem

/-- The reference leaves its arguments as they were; it has no semaphore. -/
theorem frame : Cert.quiescent_Reference2Ideal (hReference2Ideal := Cert.Reference2Ideal.Gen.facts) := fun m g _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m g)

/-- The two programs' results are equal. -/
theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    · exact (Cert.Kernel2Ideal.Product.final m c).symm
    · exact (Cert.Kernel2Ideal.Product.final1 m c).symm

end Cert.Reference2Ideal.Product

end
-- ==== Proof.Halves.lean ====
module

public import Mathlib.Algebra.BigOperators.Fin

/-! A sum taken in two halves. -/

@[expose] public section

namespace Cert.Halves

open Finset

/-- A sum over `L = n + n` places is the sum over the first `n` plus the sum over the last `n`. -/
theorem sum_add_sum {M : Type*} [AddCommMonoid M] {n L : ℕ} (hL : L = n + n) {f : Fin L → M} {F G : Fin n → M}
    (h0 : ∀ k : Fin n, F k = f ⟨k.val, by omega⟩) (h1 : ∀ k : Fin n, G k = f ⟨n + k.val, by omega⟩) :
    ∑ k, F k + ∑ k, G k = ∑ l, f l := by
  subst hL
  rw [Fin.sum_univ_add]
  exact congrArg₂ (· + ·) (sum_congr rfl fun k _ => h0 k) (sum_congr rfl fun k _ => h1 k)

end Cert.Halves
-- ==== Proof.Product3.lean ====
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Halves
public import Idealize.ShloMosaic.Lib.Pipeline.ReadBack
public import Idealize.ShloMosaic.Lib.Pipeline.ValueKit
public import Idealize.ShloMosaic.Adequacy

/-! Product 3: the gradient of the odd layer's input. -/

@[expose] public section

set_option maxRecDepth 65536

noncomputable section

namespace Cert.Kernel3Ideal.Product

open Idealize.ShloMosaic Idealize.ShloMosaic.TcCoe Idealize.SL.Sem
open Cert.Kernel3Ideal Cert.Kernel3Ideal.Gen

variable (m : (ℓ : Loc nD τ sig) → Buf (Elt Ideal) ℓ)

/-- What the reference computes. -/
abbrev REF (X : FVec Ideal S4096x8192 .f32) (Y : FVec Ideal S1024x8192 .f32) (Z : FVec Ideal S4096x1024 .f32) : FVec Ideal S4096x1024 .f32 :=
  addf (Host.dotGeneral Cert.Reference3Ideal.dot_S4096x8192_S1024x8192_S4096x1024_1_1_0_0_n_n none X Y) Z

/-- Which blocks grid point `t` takes of its arrays. -/
theorem idx : ∀ t : Fin cfg0.N, win0_0.index t = ![t.val / 4, t.val % 2] ∧ win0_1.index t = ![t.val / 2 % 2, t.val % 2]
    ∧ win0_2.index t = ![t.val / 4, t.val / 2 % 2]
    ∧ win0_3.index t = ![t.val / 4, t.val / 2 % 2] :=
  (by decide +kernel : ∀ t : Fin grid0.N, _)

/-- The point that added the first half of the products into the block that point `t` finishes. -/
abbrev prev (t : Fin cfg0.N) : Fin cfg0.N := ⟨t.val - 1, Nat.lt_of_le_of_lt (Nat.sub_le _ _) t.isLt⟩

/-- Entry `y` of the block that point `t` finishes is the reference's entry there: the two points' products are the
    two halves of the reference's sum. -/
theorem point (c : Dev nD) (t : Fin cfg0.N) (h : t.val % 2 = 1) (y) :
    k0_pay4 (k0_pay3 (iblk m c 0 t) (iblk m c 1 t) (k0_pay2 (iblk m c 0 (prev t)) (iblk m c 1 (prev t)))) (iblk m c 2 t) y
    = REF (m ((c : Thread nD τ).loc main_arg0)) (m ((c : Thread nD τ).loc main_arg1)) (m ((c : Thread nD τ).loc main_arg2)) (((cfg0.win 3).blk t).view.emb y) := by
  have e : (prev t).val = t.val - 1 := rfl
  pointwise [k0_pay4, k0_pay3, k0_pay2, k0_pay1, REF]
  refine congrArg₂ (· + ·) (Cert.Halves.sum_add_sum rfl (fun k => ?_) fun k => ?_) ?_
  · blk_point [iblk, V, idx (prev t), idx t]
  · blk_point [iblk, V, idx t]
  · blk_point [iblk, V, idx t]

/-- The output array ends as the reference's result. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 2 = 1 := (flush0_3 t).mp hf
  blk_simp
  rw [after0_3, outsAt0_B m c t (by omega) h h]
  frame_out
  rw [outsAt0_A m c (prev t) (by show (t.val - 1) % 2 = 0; omega) (by show ¬(t.val - 1) % 2 = 1; omega) (by show ¬(t.val - 1) % 2 = 1; omega)]
  frame_out
  rw [read_unread_whole]
  exact point m c t h y

end Cert.Kernel3Ideal.Product

namespace Cert.Reference3Ideal.Product

open Idealize.ShloMosaic Idealize.ShloMosaic.TcCoe Idealize.SL.Sem

/-- The reference leaves its arguments as they were; it has no semaphore. -/
theorem frame : Cert.quiescent_Reference3Ideal (hReference3Ideal := Cert.Reference3Ideal.Gen.facts) := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

/-- The two programs' results are equal. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    exact (Cert.Kernel3Ideal.Product.final m c).symm

end Cert.Reference3Ideal.Product

end
-- ==== Proof.Product4.lean ====
module

public import proofs.«01_k».proof.Defs
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.ValueKit
public import Idealize.ShloMosaic.Adequacy

/-! Product 4: `x @ w_in_odd`. -/

@[expose] public section

set_option maxRecDepth 65536

noncomputable section

namespace Cert.Kernel4Ideal.Product

open Idealize.ShloMosaic Idealize.ShloMosaic.TcCoe Idealize.SL.Sem
open Cert.Kernel4Ideal Cert.Kernel4Ideal.Gen

variable (m : (ℓ : Loc nD τ sig) → Buf (Elt Ideal) ℓ)

/-- What the reference computes. -/
abbrev REF (X : FVec Ideal S4096x1024 .f32) (Y : FVec Ideal S1024x8192 .f32) : FVec Ideal S4096x8192 .f32 :=
  Host.dotGeneral Cert.Reference4Ideal.dot_S4096x1024_S1024x8192_S4096x8192_1_0_0_1_n_n none X Y

/-- Which blocks grid point `t` takes of its arrays. -/
theorem idx : ∀ t : Fin cfg0.N, win0_0.index t = ![t.val / 16, 0] ∧ win0_1.index t = ![0, t.val % 16]
    ∧ win0_2.index t = ![t.val / 16, t.val % 16] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel4Ideal.Product

namespace Cert.Reference4Ideal.Product

open Idealize.ShloMosaic Idealize.ShloMosaic.TcCoe Idealize.SL.Sem

/-- The reference leaves its arguments as they were; it has no semaphore. -/
theorem frame : Cert.quiescent_Reference4Ideal (hReference4Ideal := Cert.Reference4Ideal.Gen.facts) := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

/-- The two programs' results are equal. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    exact (Cert.Kernel4Ideal.Product.final m c).symm

end Cert.Reference4Ideal.Product

end
-- ==== Proof.Product5.lean ====
module

public import proofs.«01_k».proof.Defs
public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Pipeline.ValueKit
public import Idealize.ShloMosaic.Adequacy

/-! Product 5: the gradient of the short convolution's rows of the transpose of `w_in_even`. -/

@[expose] public section

set_option maxRecDepth 65536

noncomputable section

namespace Cert.Kernel5Ideal.Product

open Idealize.ShloMosaic Idealize.ShloMosaic.TcCoe Idealize.SL.Sem
open Cert.Kernel5Ideal Cert.Kernel5Ideal.Gen

variable (m : (ℓ : Loc nD τ sig) → Buf (Elt Ideal) ℓ)

/-- What the reference computes. -/
abbrev REF (X : FVec Ideal S4096x4096 .f32) (Y : FVec Ideal S4096x1024 .f32) : FVec Ideal S4096x1024 .f32 :=
  transpose Cert.Reference5Ideal.S4096x1024 [1, 0] (transpose Cert.Reference5Ideal.S1024x4096 [1, 0] (Host.dotGeneral Cert.Reference5Ideal.dot_S4096x4096_S4096x1024_S4096x1024_0_0_1_1_n_n none X Y) Cert.Reference5Ideal.Gen.transposes_S4096x1024_S1024x4096_1_0) Cert.Reference5Ideal.Gen.transposes_S1024x4096_S4096x1024_1_0

/-- Which blocks grid point `t` takes of its arrays. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel5Ideal.Product

namespace Cert.Reference5Ideal.Product

open Idealize.ShloMosaic Idealize.ShloMosaic.TcCoe Idealize.SL.Sem

/-- The reference leaves its arguments as they were; it has no semaphore. -/
theorem frame : Cert.quiescent_Reference5Ideal (hReference5Ideal := Cert.Reference5Ideal.Gen.facts) := fun m g _ =>
  (θ_run Cert.Reference5Ideal.defs _ _).mono
    (fun r h => ⟨fun c => (h c).2, Idealize.ShloMosaic.sem_eq_zero_of_no_sems (by decide) r.2⟩)
    (Cert.Reference5Ideal.Value.run (F := Ideal) m g)

/-- The two programs' results are equal. -/
theorem algebraic : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    exact (Cert.Kernel5Ideal.Product.final m c).symm

end Cert.Reference5Ideal.Product

end
-- ==== Proof.Product6.lean ====
module

public import proofs.«01_k».proof.Defs
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.ValueKit
public import Idealize.ShloMosaic.Adequacy

/-! Product 6: the gradient of the even layer's input through the short convolution's part. -/

@[expose] public section

set_option maxRecDepth 65536

noncomputable section

namespace Cert.Kernel6Ideal.Product

open Idealize.ShloMosaic Idealize.ShloMosaic.TcCoe Idealize.SL.Sem
open Cert.Kernel6Ideal Cert.Kernel6Ideal.Gen

variable (m : (ℓ : Loc nD τ sig) → Buf (Elt Ideal) ℓ)

/-- What the reference computes. -/
abbrev REF (X : FVec Ideal S4096x4096 .f32) (Y : FVec Ideal S4096x1024 .f32) (Z : FVec Ideal S4096x1024 .f32) : FVec Ideal S4096x1024 .f32 :=
  addf (Host.dotGeneral Cert.Reference6Ideal.dot_S4096x4096_S1024x4096_S4096x1024_1_1_0_0_n_n none X (transpose Cert.Reference6Ideal.S1024x4096 [1, 0] Y Cert.Reference6Ideal.Gen.transposes_S4096x1024_S1024x4096_1_0)) Z

/-- Which blocks grid point `t` takes of its arrays. -/
theorem idx : ∀ t : Fin cfg0.N, win0_0.index t = ![t.val / 2, 0] ∧ win0_1.index t = ![0, t.val % 2]
    ∧ win0_2.index t = ![t.val / 2, t.val % 2]
    ∧ win0_3.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The output array ends as the reference's result. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Kernel6Ideal.Product

namespace Cert.Reference6Ideal.Product

open Idealize.ShloMosaic Idealize.ShloMosaic.TcCoe Idealize.SL.Sem

/-- The reference leaves its arguments as they were; it has no semaphore. -/
theorem frame : Cert.quiescent_Reference6Ideal (hReference6Ideal := Cert.Reference6Ideal.Gen.facts) := fun m g _ =>
  (θ_run Cert.Reference6Ideal.defs _ _).mono
    (fun r h => ⟨fun c => (h c).2, Idealize.ShloMosaic.sem_eq_zero_of_no_sems (by decide) r.2⟩)
    (Cert.Reference6Ideal.Value.run (F := Ideal) m g)

/-- The two programs' results are equal. -/
theorem algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    exact (Cert.Kernel6Ideal.Product.final m c).symm

end Cert.Reference6Ideal.Product

end
-- ==== Proof.Product7.lean ====
module

public import proofs.«01_k».proof.Defs
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.ValueKit
public import Idealize.ShloMosaic.Adequacy

/-! Product 7: the short convolution's columns of `x @ w_in_even`. -/

@[expose] public section

set_option maxRecDepth 65536

noncomputable section

namespace Cert.Kernel7Ideal.Product

open Idealize.ShloMosaic Idealize.ShloMosaic.TcCoe Idealize.SL.Sem
open Cert.Kernel7Ideal Cert.Kernel7Ideal.Gen

variable (m : (ℓ : Loc nD τ sig) → Buf (Elt Ideal) ℓ)

/-- What the reference computes. -/
abbrev REF (X : FVec Ideal S4096x1024 .f32) (Y : FVec Ideal S4096x1024 .f32) : FVec Ideal S4096x4096 .f32 :=
  Host.dotGeneral Cert.Reference7Ideal.dot_S4096x1024_S1024x4096_S4096x4096_1_0_0_1_n_n none X (transpose Cert.Reference7Ideal.S1024x4096 [1, 0] Y Cert.Reference7Ideal.Gen.transposes_S4096x1024_S1024x4096_1_0)

/-- Which blocks grid point `t` takes of its arrays. -/
theorem idx : ∀ t : Fin cfg0.N, win0_0.index t = ![t.val / 8, 0] ∧ win0_1.index t = ![t.val % 8, 0]
    ∧ win0_2.index t = ![t.val / 8, t.val % 8] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel7Ideal.Product

namespace Cert.Reference7Ideal.Product

open Idealize.ShloMosaic Idealize.ShloMosaic.TcCoe Idealize.SL.Sem

/-- The reference leaves its arguments as they were; it has no semaphore. -/
theorem frame : Cert.quiescent_Reference7Ideal (hReference7Ideal := Cert.Reference7Ideal.Gen.facts) := fun m g _ =>
  (θ_run Cert.Reference7Ideal.defs _ _).mono
    (fun r h => ⟨fun c => (h c).2, Idealize.ShloMosaic.sem_eq_zero_of_no_sems (by decide) r.2⟩)
    (Cert.Reference7Ideal.Value.run (F := Ideal) m g)

/-- The two programs' results are equal. -/
theorem algebraic : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    exact (Cert.Kernel7Ideal.Product.final m c).symm

end Cert.Reference7Ideal.Product

end
-- ==== Proof.Product8.lean ====
module

public import proofs.«01_k».proof.Defs
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.ValueKit
public import Idealize.ShloMosaic.Adequacy

/-! Product 8: the gradient of the q, k, v rows of the transpose of `w_in_even`. -/

@[expose] public section

set_option maxRecDepth 65536

noncomputable section

namespace Cert.Kernel8Ideal.Product

open Idealize.ShloMosaic Idealize.ShloMosaic.TcCoe Idealize.SL.Sem
open Cert.Kernel8Ideal Cert.Kernel8Ideal.Gen

variable (m : (ℓ : Loc nD τ sig) → Buf (Elt Ideal) ℓ)

/-- What the reference computes. -/
abbrev REF (X : FVec Ideal S4096x3072 .f32) (Y : FVec Ideal S4096x1024 .f32) : FVec Ideal S3072x1024 .f32 :=
  transpose Cert.Reference8Ideal.S3072x1024 [1, 0] (transpose Cert.Reference8Ideal.S1024x3072 [1, 0] (Host.dotGeneral Cert.Reference8Ideal.dot_S4096x3072_S4096x1024_S3072x1024_0_0_1_1_n_n none X Y) Cert.Reference8Ideal.Gen.transposes_S3072x1024_S1024x3072_1_0) Cert.Reference8Ideal.Gen.transposes_S1024x3072_S3072x1024_1_0

/-- Which blocks grid point `t` takes of its arrays. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel8Ideal.Product

namespace Cert.Reference8Ideal.Product

open Idealize.ShloMosaic Idealize.ShloMosaic.TcCoe Idealize.SL.Sem

/-- The reference leaves its arguments as they were; it has no semaphore. -/
theorem frame : Cert.quiescent_Reference8Ideal (hReference8Ideal := Cert.Reference8Ideal.Gen.facts) := fun m g _ =>
  (θ_run Cert.Reference8Ideal.defs _ _).mono
    (fun r h => ⟨fun c => (h c).2, Idealize.ShloMosaic.sem_eq_zero_of_no_sems (by decide) r.2⟩)
    (Cert.Reference8Ideal.Value.run (F := Ideal) m g)

/-- The two programs' results are equal. -/
theorem algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    exact (Cert.Kernel8Ideal.Product.final m c).symm

end Cert.Reference8Ideal.Product

end
-- ==== Proof.Product9.lean ====
module

public import proofs.«01_k».proof.Defs
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Halves
public import Idealize.ShloMosaic.Lib.Pipeline.ReadBack
public import Idealize.ShloMosaic.Lib.Pipeline.ValueKit
public import Idealize.ShloMosaic.Adequacy

/-! Product 9: the gradient of the even layer's input through the q, k, v part. -/

@[expose] public section

set_option maxRecDepth 65536

noncomputable section

namespace Cert.Kernel9Ideal.Product

open Idealize.ShloMosaic Idealize.ShloMosaic.TcCoe Idealize.SL.Sem
open Cert.Kernel9Ideal Cert.Kernel9Ideal.Gen

variable (m : (ℓ : Loc nD τ sig) → Buf (Elt Ideal) ℓ)

/-- What the reference computes. -/
abbrev REF (X : FVec Ideal S4096x3072 .f32) (Y : FVec Ideal S3072x1024 .f32) (Z : FVec Ideal S4096x1024 .f32) : FVec Ideal S4096x1024 .f32 :=
  addf (Host.dotGeneral Cert.Reference9Ideal.dot_S4096x3072_S1024x3072_S4096x1024_1_1_0_0_n_n none X (transpose Cert.Reference9Ideal.S1024x3072 [1, 0] Y Cert.Reference9Ideal.Gen.transposes_S3072x1024_S1024x3072_1_0)) Z

/-- Which blocks grid point `t` takes of its arrays. -/
theorem idx : ∀ t : Fin cfg0.N, win0_0.index t = ![t.val / 4, t.val % 2] ∧ win0_1.index t = ![t.val % 2, t.val / 2 % 2]
    ∧ win0_2.index t = ![t.val / 4, t.val / 2 % 2]
    ∧ win0_3.index t = ![t.val / 4, t.val / 2 % 2] :=
  (by decide +kernel : ∀ t : Fin grid0.N, _)

/-- The point that added the first half of the products into the block that point `t` finishes. -/
abbrev prev (t : Fin cfg0.N) : Fin cfg0.N := ⟨t.val - 1, Nat.lt_of_le_of_lt (Nat.sub_le _ _) t.isLt⟩

/-- Entry `y` of the block that point `t` finishes is the reference's entry there: the two points' products are the
    two halves of the reference's sum. -/
theorem point (c : Dev nD) (t : Fin cfg0.N) (h : t.val % 2 = 1) (y) :
    k0_pay4 (k0_pay3 (iblk m c 0 t) (iblk m c 1 t) (k0_pay2 (iblk m c 0 (prev t)) (iblk m c 1 (prev t)))) (iblk m c 2 t) y
    = REF (m ((c : Thread nD τ).loc main_arg0)) (m ((c : Thread nD τ).loc main_arg1)) (m ((c : Thread nD τ).loc main_arg2)) (((cfg0.win 3).blk t).view.emb y) := by
  have e : (prev t).val = t.val - 1 := rfl
  pointwise [k0_pay4, k0_pay3, k0_pay2, k0_pay1, REF]
  refine congrArg₂ (· + ·) (Cert.Halves.sum_add_sum rfl (fun k => ?_) fun k => ?_) ?_
  · blk_point [iblk, V, idx (prev t), idx t]
  · blk_point [iblk, V, idx t]
  · blk_point [iblk, V, idx t]

/-- The output array ends as the reference's result. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 2 = 1 := (flush0_3 t).mp hf
  blk_simp
  rw [after0_3, outsAt0_B m c t (by omega) h h]
  frame_out
  rw [outsAt0_A m c (prev t) (by show (t.val - 1) % 2 = 0; omega) (by show ¬(t.val - 1) % 2 = 1; omega) (by show ¬(t.val - 1) % 2 = 1; omega)]
  frame_out
  rw [read_unread_whole]
  exact point m c t h y

end Cert.Kernel9Ideal.Product

namespace Cert.Reference9Ideal.Product

open Idealize.ShloMosaic Idealize.ShloMosaic.TcCoe Idealize.SL.Sem

/-- The reference leaves its arguments as they were; it has no semaphore. -/
theorem frame : Cert.quiescent_Reference9Ideal (hReference9Ideal := Cert.Reference9Ideal.Gen.facts) := fun m g _ =>
  (θ_run Cert.Reference9Ideal.defs _ _).mono
    (fun r h => ⟨fun c => (h c).2, Idealize.ShloMosaic.sem_eq_zero_of_no_sems (by decide) r.2⟩)
    (Cert.Reference9Ideal.Value.run (F := Ideal) m g)

/-- The two programs' results are equal. -/
theorem algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · run_from Cert.Reference9Ideal.Value.run m' g'
    exact (Cert.Kernel9Ideal.Product.final m c).symm

end Cert.Reference9Ideal.Product

end
-- ==== Proof.Product10.lean ====
module

public import proofs.«01_k».proof.Defs
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.ValueKit
public import Idealize.ShloMosaic.Adequacy

/-! Product 10: the q, k, v columns of `x @ w_in_even`. -/

@[expose] public section

set_option maxRecDepth 65536

noncomputable section

namespace Cert.Kernel10Ideal.Product

open Idealize.ShloMosaic Idealize.ShloMosaic.TcCoe Idealize.SL.Sem
open Cert.Kernel10Ideal Cert.Kernel10Ideal.Gen

variable (m : (ℓ : Loc nD τ sig) → Buf (Elt Ideal) ℓ)

/-- What the reference computes. -/
abbrev REF (X : FVec Ideal S4096x1024 .f32) (Y : FVec Ideal S3072x1024 .f32) : FVec Ideal S4096x3072 .f32 :=
  Host.dotGeneral Cert.Reference10Ideal.dot_S4096x1024_S1024x3072_S4096x3072_1_0_0_1_n_n none X (transpose Cert.Reference10Ideal.S1024x3072 [1, 0] Y Cert.Reference10Ideal.Gen.transposes_S3072x1024_S1024x3072_1_0)

/-- Which blocks grid point `t` takes of its arrays. -/
theorem idx : ∀ t : Fin cfg0.N, win0_0.index t = ![t.val / 6, 0] ∧ win0_1.index t = ![t.val % 6, 0]
    ∧ win0_2.index t = ![t.val / 6, t.val % 6] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel10Ideal.Product

namespace Cert.Reference10Ideal.Product

open Idealize.ShloMosaic Idealize.ShloMosaic.TcCoe Idealize.SL.Sem

/-- The reference leaves its arguments as they were; it has no semaphore. -/
theorem frame : Cert.quiescent_Reference10Ideal (hReference10Ideal := Cert.Reference10Ideal.Gen.facts) := fun m g _ =>
  (θ_run Cert.Reference10Ideal.defs _ _).mono
    (fun r h => ⟨fun c => (h c).2, Idealize.ShloMosaic.sem_eq_zero_of_no_sems (by decide) r.2⟩)
    (Cert.Reference10Ideal.Value.run (F := Ideal) m g)

/-- The two programs' results are equal. -/
theorem algebraic : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · run_from Cert.Reference10Ideal.Value.run m' g'
    exact (Cert.Kernel10Ideal.Product.final m c).symm

end Cert.Reference10Ideal.Product

end
-- ==== Proof.Product11.lean ====
module

public import proofs.«01_k».proof.Defs
public import proofs.«01_k».proof.Proof.Gen.Kernel11Ideal.Frame
public import proofs.«01_k».proof.Proof.Gen.Kernel11Ideal.Value
public import proofs.«01_k».proof.Proof.Gen.Reference11Ideal.Run
public import Idealize.ShloMosaic.Lib.Pipeline.ValueKit
public import Idealize.ShloMosaic.Adequacy

/-! Product 11: the gradient of `w_out_odd`, as f32 and as bf16. -/

@[expose] public section

set_option maxRecDepth 65536

noncomputable section

namespace Cert.Kernel11Ideal.Product

open Idealize.ShloMosaic Idealize.ShloMosaic.TcCoe Idealize.SL.Sem
open Cert.Kernel11Ideal Cert.Kernel11Ideal.Gen

variable (m : (ℓ : Loc nD τ sig) → Buf (Elt Ideal) ℓ)

/-- What the reference computes. -/
abbrev REF (X : FVec Ideal S4096x2048 .f32) (Y : FVec Ideal S4096x1024 .f32) : FVec Ideal S2048x1024 .f32 :=
  transpose Cert.Reference11Ideal.S2048x1024 [1, 0] (Host.dotGeneral Cert.Reference11Ideal.dot_S4096x1024_S4096x2048_S1024x2048_0_0_1_1_n_n none Y X) Cert.Reference11Ideal.Gen.transposes_S1024x2048_S2048x1024_1_0

/-- What the reference computes (its second result). -/
abbrev REF1 (X : FVec Ideal S4096x2048 .f32) (Y : FVec Ideal S4096x1024 .f32) : FVec Ideal S2048x1024 .bf16 :=
  truncf .bf16 (transpose Cert.Reference11Ideal.S2048x1024 [1, 0] (Host.dotGeneral Cert.Reference11Ideal.dot_S4096x1024_S4096x2048_S1024x2048_0_0_1_1_n_n none Y X) Cert.Reference11Ideal.Gen.transposes_S1024x2048_S2048x1024_1_0) Cert.Reference11Ideal.Gen.bitsLt_bf16_f32

/-- Which blocks grid point `t` takes of its arrays. -/
theorem idx : ∀ t : Fin cfg0.N, win0_0.index t = ![0, t.val / 2] ∧ win0_1.index t = ![0, t.val % 2]
    ∧ win0_2.index t = ![t.val / 2, t.val % 2]
    ∧ win0_3.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => (mul_comm _ _).trans ?_
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- Entry `y` of the block that point `t` writes is the reference's entry there. -/
theorem point1 (c : Dev nD) (t : Fin cfg0.N) (y) : k0_pay2 (iblk m c 0 t) (iblk m c 1 t) y
    = REF1 (m ((c : Thread nD τ).loc main_arg0)) (m ((c : Thread nD τ).loc main_arg1)) (((cfg0.win 3).blk t).view.emb y) := by
  pointwise [k0_pay2, k0_pay1, REF1]
  refine Finset.sum_congr rfl fun k _ => (mul_comm _ _).trans ?_
  blk_point [iblk, V, idx t]

/-- The output array ends as the reference's second result. -/
theorem final1 (c : Dev nD) : (dats m 0 c).arrAt 3 cfg0.N
    = REF1 (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point1 m c t y

end Cert.Kernel11Ideal.Product

namespace Cert.Reference11Ideal.Product

open Idealize.ShloMosaic Idealize.ShloMosaic.TcCoe Idealize.SL.Sem

/-- The reference leaves its arguments as they were; it has no semaphore. -/
theorem frame : Cert.quiescent_Reference11Ideal (hReference11Ideal := Cert.Reference11Ideal.Gen.facts) := fun m g _ =>
  (θ_run Cert.Reference11Ideal.defs _ _).mono
    (fun r h => ⟨fun c => (h c).2.2, Idealize.ShloMosaic.sem_eq_zero_of_no_sems (by decide) r.2⟩)
    (Cert.Reference11Ideal.Value.run (F := Ideal) m g)

/-- The two programs' results are equal. -/
theorem algebraic : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · run_from Cert.Reference11Ideal.Value.run m' g'
    · exact (Cert.Kernel11Ideal.Product.final m c).symm
    · exact (Cert.Kernel11Ideal.Product.final1 m c).symm

end Cert.Reference11Ideal.Product

end
-- ==== Proof.Product12.lean ====
module

public import proofs.«01_k».proof.Defs
public import proofs.«01_k».proof.Proof.Gen.Kernel12Ideal.Frame
public import proofs.«01_k».proof.Proof.Gen.Kernel12Ideal.Value
public import proofs.«01_k».proof.Proof.Gen.Reference12Ideal.Run
public import Idealize.ShloMosaic.Lib.Pipeline.ValueKit
public import Idealize.ShloMosaic.Adequacy

/-! Product 12: the gradient of the gated recurrence's output. -/

@[expose] public section

set_option maxRecDepth 65536

noncomputable section

namespace Cert.Kernel12Ideal.Product

open Idealize.ShloMosaic Idealize.ShloMosaic.TcCoe Idealize.SL.Sem
open Cert.Kernel12Ideal Cert.Kernel12Ideal.Gen

variable (m : (ℓ : Loc nD τ sig) → Buf (Elt Ideal) ℓ)

/-- What the reference computes. -/
abbrev REF (X : FVec Ideal S4096x1024 .f32) (Y : FVec Ideal S2048x1024 .f32) : FVec Ideal S4096x2048 .f32 :=
  Host.dotGeneral Cert.Reference12Ideal.dot_S4096x1024_S2048x1024_S4096x2048_1_1_0_0_n_n none X Y

/-- Which blocks grid point `t` takes of its arrays. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel12Ideal.Product

namespace Cert.Reference12Ideal.Product

open Idealize.ShloMosaic Idealize.ShloMosaic.TcCoe Idealize.SL.Sem

/-- The reference leaves its arguments as they were; it has no semaphore. -/
theorem frame : Cert.quiescent_Reference12Ideal (hReference12Ideal := Cert.Reference12Ideal.Gen.facts) := fun m g _ =>
  (θ_run Cert.Reference12Ideal.defs _ _).mono
    (fun r h => ⟨fun c => (h c).2, Idealize.ShloMosaic.sem_eq_zero_of_no_sems (by decide) r.2⟩)
    (Cert.Reference12Ideal.Value.run (F := Ideal) m g)

/-- The two programs' results are equal. -/
theorem algebraic : Cert.algebraic_Kernel12Ideal_Reference12Ideal (hKernel12Ideal := Cert.Kernel12Ideal.Gen.facts)
    (hReference12Ideal := Cert.Reference12Ideal.Gen.facts) := by
  pair_intro
  · run_from Cert.Kernel12Ideal.Value.run_blocks m g
  · run_from Cert.Reference12Ideal.Value.run m' g'
    exact (Cert.Kernel12Ideal.Product.final m c).symm

end Cert.Reference12Ideal.Product

end
-- ==== Proof.Product13.lean ====
module

public import proofs.«01_k».proof.Defs
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Pipeline.ValueKit
public import Idealize.ShloMosaic.Adequacy

/-! Product 13: `o @ w_out_odd`. -/

@[expose] public section

set_option maxRecDepth 65536

noncomputable section

namespace Cert.Kernel13Ideal.Product

open Idealize.ShloMosaic Idealize.ShloMosaic.TcCoe Idealize.SL.Sem
open Cert.Kernel13Ideal Cert.Kernel13Ideal.Gen

variable (m : (ℓ : Loc nD τ sig) → Buf (Elt Ideal) ℓ)

/-- What the reference computes. -/
abbrev REF (X : FVec Ideal S4096x2048 .f32) (Y : FVec Ideal S2048x1024 .f32) : FVec Ideal S4096x1024 .f32 :=
  Host.dotGeneral Cert.Reference13Ideal.dot_S4096x2048_S2048x1024_S4096x1024_1_0_0_1_n_n none X Y

/-- Which blocks grid point `t` takes of its arrays. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel13Ideal.Product

namespace Cert.Reference13Ideal.Product

open Idealize.ShloMosaic Idealize.ShloMosaic.TcCoe Idealize.SL.Sem

/-- The reference leaves its arguments as they were; it has no semaphore. -/
theorem frame : Cert.quiescent_Reference13Ideal (hReference13Ideal := Cert.Reference13Ideal.Gen.facts) := fun m g _ =>
  (θ_run Cert.Reference13Ideal.defs _ _).mono
    (fun r h => ⟨fun c => (h c).2, Idealize.ShloMosaic.sem_eq_zero_of_no_sems (by decide) r.2⟩)
    (Cert.Reference13Ideal.Value.run (F := Ideal) m g)

/-- The two programs' results are equal. -/
theorem algebraic : Cert.algebraic_Kernel13Ideal_Reference13Ideal (hKernel13Ideal := Cert.Kernel13Ideal.Gen.facts)
    (hReference13Ideal := Cert.Reference13Ideal.Gen.facts) := by
  pair_intro
  · run_from Cert.Kernel13Ideal.Value.run_blocks m g
  · run_from Cert.Reference13Ideal.Value.run m' g'
    exact (Cert.Kernel13Ideal.Product.final m c).symm

end Cert.Reference13Ideal.Product

end
-- ==== Proof.Product14.lean ====
module

public import proofs.«01_k».proof.Defs
public import proofs.«01_k».proof.Proof.Gen.Kernel14Ideal.Frame
public import proofs.«01_k».proof.Proof.Gen.Kernel14Ideal.Value
public import proofs.«01_k».proof.Proof.Gen.Reference14Ideal.Run
public import Idealize.ShloMosaic.Lib.Pipeline.ValueKit
public import Idealize.ShloMosaic.Adequacy

/-! Product 14: the gradient of the output gate's and the decay's rows of the transpose of `w_in_even`. -/

@[expose] public section

set_option maxRecDepth 65536

noncomputable section

namespace Cert.Kernel14Ideal.Product

open Idealize.ShloMosaic Idealize.ShloMosaic.TcCoe Idealize.SL.Sem
open Cert.Kernel14Ideal Cert.Kernel14Ideal.Gen

variable (m : (ℓ : Loc nD τ sig) → Buf (Elt Ideal) ℓ)

/-- What the reference computes. -/
abbrev REF (X : FVec Ideal S4096x1152 .f32) (Y : FVec Ideal S4096x1024 .f32) : FVec Ideal S1152x1024 .f32 :=
  transpose Cert.Reference14Ideal.S1152x1024 [1, 0] (transpose Cert.Reference14Ideal.S1024x1152 [1, 0] (Host.dotGeneral Cert.Reference14Ideal.dot_S4096x1152_S4096x1024_S1152x1024_0_0_1_1_n_n none X Y) Cert.Reference14Ideal.Gen.transposes_S1152x1024_S1024x1152_1_0) Cert.Reference14Ideal.Gen.transposes_S1024x1152_S1152x1024_1_0

/-- Which blocks grid point `t` takes of its arrays. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel14Ideal.Product

namespace Cert.Reference14Ideal.Product

open Idealize.ShloMosaic Idealize.ShloMosaic.TcCoe Idealize.SL.Sem

/-- The reference leaves its arguments as they were; it has no semaphore. -/
theorem frame : Cert.quiescent_Reference14Ideal (hReference14Ideal := Cert.Reference14Ideal.Gen.facts) := fun m g _ =>
  (θ_run Cert.Reference14Ideal.defs _ _).mono
    (fun r h => ⟨fun c => (h c).2, Idealize.ShloMosaic.sem_eq_zero_of_no_sems (by decide) r.2⟩)
    (Cert.Reference14Ideal.Value.run (F := Ideal) m g)

/-- The two programs' results are equal. -/
theorem algebraic : Cert.algebraic_Kernel14Ideal_Reference14Ideal (hKernel14Ideal := Cert.Kernel14Ideal.Gen.facts)
    (hReference14Ideal := Cert.Reference14Ideal.Gen.facts) := by
  pair_intro
  · run_from Cert.Kernel14Ideal.Value.run_blocks m g
  · run_from Cert.Reference14Ideal.Value.run m' g'
    exact (Cert.Kernel14Ideal.Product.final m c).symm

end Cert.Reference14Ideal.Product

end
-- ==== Proof.Product15.lean ====
module

public import proofs.«01_k».proof.Defs
public import proofs.«01_k».proof.Proof.Gen.Kernel15Ideal.Frame
public import proofs.«01_k».proof.Proof.Gen.Kernel15Ideal.Value
public import proofs.«01_k».proof.Proof.Gen.Reference15Ideal.Run
public import Idealize.ShloMosaic.Lib.Pipeline.ValueKit
public import Idealize.ShloMosaic.Adequacy

/-! Product 15: the gradient of the even layer's input through the output gate's and the decay's part. -/

@[expose] public section

set_option maxRecDepth 65536

noncomputable section

namespace Cert.Kernel15Ideal.Product

open Idealize.ShloMosaic Idealize.ShloMosaic.TcCoe Idealize.SL.Sem
open Cert.Kernel15Ideal Cert.Kernel15Ideal.Gen

variable (m : (ℓ : Loc nD τ sig) → Buf (Elt Ideal) ℓ)

/-- What the reference computes. -/
abbrev REF (X : FVec Ideal S4096x1152 .f32) (Y : FVec Ideal S1152x1024 .f32) (Z : FVec Ideal S4096x1024 .f32) : FVec Ideal S4096x1024 .f32 :=
  addf (Host.dotGeneral Cert.Reference15Ideal.dot_S4096x1152_S1024x1152_S4096x1024_1_1_0_0_n_n none X (transpose Cert.Reference15Ideal.S1024x1152 [1, 0] Y Cert.Reference15Ideal.Gen.transposes_S1152x1024_S1024x1152_1_0)) Z

/-- Which blocks grid point `t` takes of its arrays. -/
theorem idx : ∀ t : Fin cfg0.N, win0_0.index t = ![t.val / 2, 0] ∧ win0_1.index t = ![0, t.val % 2]
    ∧ win0_2.index t = ![t.val / 2, t.val % 2]
    ∧ win0_3.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The output array ends as the reference's result. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Kernel15Ideal.Product

namespace Cert.Reference15Ideal.Product

open Idealize.ShloMosaic Idealize.ShloMosaic.TcCoe Idealize.SL.Sem

/-- The reference leaves its arguments as they were; it has no semaphore. -/
theorem frame : Cert.quiescent_Reference15Ideal (hReference15Ideal := Cert.Reference15Ideal.Gen.facts) := fun m g _ =>
  (θ_run Cert.Reference15Ideal.defs _ _).mono
    (fun r h => ⟨fun c => (h c).2, Idealize.ShloMosaic.sem_eq_zero_of_no_sems (by decide) r.2⟩)
    (Cert.Reference15Ideal.Value.run (F := Ideal) m g)

/-- The two programs' results are equal. -/
theorem algebraic : Cert.algebraic_Kernel15Ideal_Reference15Ideal (hKernel15Ideal := Cert.Kernel15Ideal.Gen.facts)
    (hReference15Ideal := Cert.Reference15Ideal.Gen.facts) := by
  pair_intro
  · run_from Cert.Kernel15Ideal.Value.run_blocks m g
  · run_from Cert.Reference15Ideal.Value.run m' g'
    exact (Cert.Kernel15Ideal.Product.final m c).symm

end Cert.Reference15Ideal.Product

end
-- ==== Proof.Product16.lean ====
module

public import proofs.«01_k».proof.Defs
public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Pipeline.ValueKit
public import Idealize.ShloMosaic.Adequacy

/-! Product 16: the output gate's and the decay's columns of `x @ w_in_even`. -/

@[expose] public section

set_option maxRecDepth 65536

noncomputable section

namespace Cert.Kernel16Ideal.Product

open Idealize.ShloMosaic Idealize.ShloMosaic.TcCoe Idealize.SL.Sem
open Cert.Kernel16Ideal Cert.Kernel16Ideal.Gen

variable (m : (ℓ : Loc nD τ sig) → Buf (Elt Ideal) ℓ)

/-- What the reference computes. -/
abbrev REF (X : FVec Ideal S4096x1024 .f32) (Y : FVec Ideal S1152x1024 .f32) : FVec Ideal S4096x1152 .f32 :=
  Host.dotGeneral Cert.Reference16Ideal.dot_S4096x1024_S1024x1152_S4096x1152_1_0_0_1_n_n none X (transpose Cert.Reference16Ideal.S1024x1152 [1, 0] Y Cert.Reference16Ideal.Gen.transposes_S1152x1024_S1024x1152_1_0)

/-- Which blocks grid point `t` takes of its arrays. -/
theorem idx : ∀ t : Fin cfg0.N, win0_0.index t = ![t.val / 3, 0] ∧ win0_1.index t = ![t.val % 3, 0]
    ∧ win0_2.index t = ![t.val / 3, t.val % 3] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel16Ideal.Product

namespace Cert.Reference16Ideal.Product

open Idealize.ShloMosaic Idealize.ShloMosaic.TcCoe Idealize.SL.Sem

/-- The reference leaves its arguments as they were; it has no semaphore. -/
theorem frame : Cert.quiescent_Reference16Ideal (hReference16Ideal := Cert.Reference16Ideal.Gen.facts) := fun m g _ =>
  (θ_run Cert.Reference16Ideal.defs _ _).mono
    (fun r h => ⟨fun c => (h c).2, Idealize.ShloMosaic.sem_eq_zero_of_no_sems (by decide) r.2⟩)
    (Cert.Reference16Ideal.Value.run (F := Ideal) m g)

/-- The two programs' results are equal. -/
theorem algebraic : Cert.algebraic_Kernel16Ideal_Reference16Ideal (hKernel16Ideal := Cert.Kernel16Ideal.Gen.facts)
    (hReference16Ideal := Cert.Reference16Ideal.Gen.facts) := by
  pair_intro
  · run_from Cert.Kernel16Ideal.Value.run_blocks m g
  · run_from Cert.Reference16Ideal.Value.run m' g'
    exact (Cert.Kernel16Ideal.Product.final m c).symm

end Cert.Reference16Ideal.Product

end
-- ==== Proof.Product17.lean ====
module

public import proofs.«01_k».proof.Defs
public import proofs.«01_k».proof.Proof.Gen.Kernel17Ideal.Frame
public import proofs.«01_k».proof.Proof.Gen.Kernel17Ideal.Value
public import proofs.«01_k».proof.Proof.Gen.Reference17Ideal.Run
public import Idealize.ShloMosaic.Lib.Pipeline.ValueKit
public import Idealize.ShloMosaic.Adequacy

/-! Product 17: half of the product with `w_out_even`. -/

@[expose] public section

set_option maxRecDepth 65536

noncomputable section

namespace Cert.Kernel17Ideal.Product

open Idealize.ShloMosaic Idealize.ShloMosaic.TcCoe Idealize.SL.Sem
open Cert.Kernel17Ideal Cert.Kernel17Ideal.Gen

variable (m : (ℓ : Loc nD τ sig) → Buf (Elt Ideal) ℓ)

/-- What the reference computes. -/
abbrev REF (X : FVec Ideal S4096x1024 .f32) (Y : FVec Ideal S1024x1024 .f32) : FVec Ideal S4096x1024 .f32 :=
  Host.dotGeneral Cert.Reference17Ideal.dot_S4096x1024_S1024x1024_S4096x1024_1_0_0_1_n_n none X Y

/-- Which blocks grid point `t` takes of its arrays. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel17Ideal.Product

namespace Cert.Reference17Ideal.Product

open Idealize.ShloMosaic Idealize.ShloMosaic.TcCoe Idealize.SL.Sem

/-- The reference leaves its arguments as they were; it has no semaphore. -/
theorem frame : Cert.quiescent_Reference17Ideal (hReference17Ideal := Cert.Reference17Ideal.Gen.facts) := fun m g _ =>
  (θ_run Cert.Reference17Ideal.defs _ _).mono
    (fun r h => ⟨fun c => (h c).2, Idealize.ShloMosaic.sem_eq_zero_of_no_sems (by decide) r.2⟩)
    (Cert.Reference17Ideal.Value.run (F := Ideal) m g)

/-- The two programs' results are equal. -/
theorem algebraic : Cert.algebraic_Kernel17Ideal_Reference17Ideal (hKernel17Ideal := Cert.Kernel17Ideal.Gen.facts)
    (hReference17Ideal := Cert.Reference17Ideal.Gen.facts) := by
  pair_intro
  · run_from Cert.Kernel17Ideal.Value.run_blocks m g
  · run_from Cert.Reference17Ideal.Value.run m' g'
    exact (Cert.Kernel17Ideal.Product.final m c).symm

end Cert.Reference17Ideal.Product

end
-- ==== Proof.Product18.lean ====
module

public import proofs.«01_k».proof.Defs
public import proofs.«01_k».proof.Proof.Gen.Kernel18Ideal.Frame
public import proofs.«01_k».proof.Proof.Gen.Kernel18Ideal.Value
public import proofs.«01_k».proof.Proof.Gen.Reference18Ideal.Run
public import Idealize.ShloMosaic.Lib.Pipeline.ValueKit
public import Idealize.ShloMosaic.Adequacy

/-! Product 18: the other half of the product with `w_out_even`, added to the first. -/

@[expose] public section

set_option maxRecDepth 65536

noncomputable section

namespace Cert.Kernel18Ideal.Product

open Idealize.ShloMosaic Idealize.ShloMosaic.TcCoe Idealize.SL.Sem
open Cert.Kernel18Ideal Cert.Kernel18Ideal.Gen

variable (m : (ℓ : Loc nD τ sig) → Buf (Elt Ideal) ℓ)

/-- What the reference computes. -/
abbrev REF (X : FVec Ideal S4096x1024 .f32) (Y : FVec Ideal S1024x1024 .f32) (Z : FVec Ideal S4096x1024 .f32) : FVec Ideal S4096x1024 .f32 :=
  addf (Host.dotGeneral Cert.Reference18Ideal.dot_S4096x1024_S1024x1024_S4096x1024_1_0_0_1_n_n none X Y) Z

/-- Which blocks grid point `t` takes of its arrays. -/
theorem idx : ∀ t : Fin cfg0.N, win0_0.index t = ![t.val / 2, 0] ∧ win0_1.index t = ![0, t.val % 2]
    ∧ win0_2.index t = ![t.val / 2, t.val % 2]
    ∧ win0_3.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The output array ends as the reference's result. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Kernel18Ideal.Product

namespace Cert.Reference18Ideal.Product

open Idealize.ShloMosaic Idealize.ShloMosaic.TcCoe Idealize.SL.Sem

/-- The reference leaves its arguments as they were; it has no semaphore. -/
theorem frame : Cert.quiescent_Reference18Ideal (hReference18Ideal := Cert.Reference18Ideal.Gen.facts) := fun m g _ =>
  (θ_run Cert.Reference18Ideal.defs _ _).mono
    (fun r h => ⟨fun c => (h c).2, Idealize.ShloMosaic.sem_eq_zero_of_no_sems (by decide) r.2⟩)
    (Cert.Reference18Ideal.Value.run (F := Ideal) m g)

/-- The two programs' results are equal. -/
theorem algebraic : Cert.algebraic_Kernel18Ideal_Reference18Ideal (hKernel18Ideal := Cert.Kernel18Ideal.Gen.facts)
    (hReference18Ideal := Cert.Reference18Ideal.Gen.facts) := by
  pair_intro
  · run_from Cert.Kernel18Ideal.Value.run_blocks m g
  · run_from Cert.Reference18Ideal.Value.run m' g'
    exact (Cert.Kernel18Ideal.Product.final m c).symm

end Cert.Reference18Ideal.Product

end
-- ==== Proof.Product19.lean ====
module

public import proofs.«01_k».proof.Defs
public import proofs.«01_k».proof.Proof.Gen.Kernel19Ideal.Frame
public import proofs.«01_k».proof.Proof.Gen.Kernel19Ideal.Value
public import proofs.«01_k».proof.Proof.Gen.Reference19Ideal.Run
public import Idealize.ShloMosaic.Lib.Pipeline.ValueKit
public import Idealize.ShloMosaic.Adequacy

/-! Product 19: the gradient of a half of the even layer's mixed channels. -/

@[expose] public section

set_option maxRecDepth 65536

noncomputable section

namespace Cert.Kernel19Ideal.Product

open Idealize.ShloMosaic Idealize.ShloMosaic.TcCoe Idealize.SL.Sem
open Cert.Kernel19Ideal Cert.Kernel19Ideal.Gen

variable (m : (ℓ : Loc nD τ sig) → Buf (Elt Ideal) ℓ)

/-- What the reference computes. -/
abbrev REF (X : FVec Ideal S4096x1024 .f32) (Y : FVec Ideal S1024x1024 .f32) : FVec Ideal S4096x1024 .f32 :=
  Host.dotGeneral Cert.Reference19Ideal.dot_S4096x1024_S1024x1024_S4096x1024_1_1_0_0_n_n none X Y

/-- Which blocks grid point `t` takes of its arrays. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel19Ideal.Product

namespace Cert.Reference19Ideal.Product

open Idealize.ShloMosaic Idealize.ShloMosaic.TcCoe Idealize.SL.Sem

/-- The reference leaves its arguments as they were; it has no semaphore. -/
theorem frame : Cert.quiescent_Reference19Ideal (hReference19Ideal := Cert.Reference19Ideal.Gen.facts) := fun m g _ =>
  (θ_run Cert.Reference19Ideal.defs _ _).mono
    (fun r h => ⟨fun c => (h c).2, Idealize.ShloMosaic.sem_eq_zero_of_no_sems (by decide) r.2⟩)
    (Cert.Reference19Ideal.Value.run (F := Ideal) m g)

/-- The two programs' results are equal. -/
theorem algebraic : Cert.algebraic_Kernel19Ideal_Reference19Ideal (hKernel19Ideal := Cert.Kernel19Ideal.Gen.facts)
    (hReference19Ideal := Cert.Reference19Ideal.Gen.facts) := by
  pair_intro
  · run_from Cert.Kernel19Ideal.Value.run_blocks m g
  · run_from Cert.Reference19Ideal.Value.run m' g'
    exact (Cert.Kernel19Ideal.Product.final m c).symm

end Cert.Reference19Ideal.Product

end
-- ==== Proof.Product20.lean ====
module

public import proofs.«01_k».proof.Defs
public import proofs.«01_k».proof.Proof.Gen.Kernel20Ideal.Frame
public import proofs.«01_k».proof.Proof.Gen.Kernel20Ideal.Value
public import proofs.«01_k».proof.Proof.Gen.Reference20Ideal.Run
public import Idealize.ShloMosaic.Lib.Pipeline.ValueKit
public import Idealize.ShloMosaic.Adequacy

/-! Product 20: the gradient of a half of `w_out_even`. -/

@[expose] public section

set_option maxRecDepth 65536

noncomputable section

namespace Cert.Kernel20Ideal.Product

open Idealize.ShloMosaic Idealize.ShloMosaic.TcCoe Idealize.SL.Sem
open Cert.Kernel20Ideal Cert.Kernel20Ideal.Gen

variable (m : (ℓ : Loc nD τ sig) → Buf (Elt Ideal) ℓ)

/-- What the reference computes. -/
abbrev REF (X : FVec Ideal S4096x1024 .f32) (Y : FVec Ideal S4096x1024 .f32) : FVec Ideal S1024x1024 .f32 :=
  transpose Cert.Reference20Ideal.S1024x1024 [1, 0] (Host.dotGeneral Cert.Reference20Ideal.dot_S4096x1024_S4096x1024_S1024x1024_0_0_1_1_n_n none Y X) Cert.Reference20Ideal.Gen.transposes_S1024x1024_S1024x1024_1_0

/-- Which blocks grid point `t` takes of its arrays. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- Entry `y` of the block that point `t` writes is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => (mul_comm _ _).trans ?_
  blk_point [iblk, V, idx t]

/-- The output array ends as the reference's result. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel20Ideal.Product

namespace Cert.Reference20Ideal.Product

open Idealize.ShloMosaic Idealize.ShloMosaic.TcCoe Idealize.SL.Sem

/-- The reference leaves its arguments as they were; it has no semaphore. -/
theorem frame : Cert.quiescent_Reference20Ideal (hReference20Ideal := Cert.Reference20Ideal.Gen.facts) := fun m g _ =>
  (θ_run Cert.Reference20Ideal.defs _ _).mono
    (fun r h => ⟨fun c => (h c).2, Idealize.ShloMosaic.sem_eq_zero_of_no_sems (by decide) r.2⟩)
    (Cert.Reference20Ideal.Value.run (F := Ideal) m g)

/-- The two programs' results are equal. -/
theorem algebraic : Cert.algebraic_Kernel20Ideal_Reference20Ideal (hKernel20Ideal := Cert.Kernel20Ideal.Gen.facts)
    (hReference20Ideal := Cert.Reference20Ideal.Gen.facts) := by
  pair_intro
  · run_from Cert.Kernel20Ideal.Value.run_blocks m g
  · run_from Cert.Reference20Ideal.Value.run m' g'
    exact (Cert.Kernel20Ideal.Product.final m c).symm

end Cert.Reference20Ideal.Product

end
-- ==== Proof.PostFwd.lean ====
module

public import proofs.«01_k».proof.Defs
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Adequacy

/-! The even layer's post-norm block: residual, norm, gated per-layer input. -/

@[expose] public section

set_option maxRecDepth 65536

noncomputable section

namespace Cert.Kernel21Ideal.Product

open Idealize.ShloMosaic Idealize.ShloMosaic.TcCoe Idealize.SL.Sem
open Cert.Kernel21Ideal Cert.Kernel21Ideal.Gen Cert.Reference21Ideal.Read

variable (m : (ℓ : Loc nD τ sig) → Buf (Elt Ideal) ℓ)

/-- The reference's normalised array. -/
abbrev NORM (s x : FVec Ideal S4096x1024 .f32) (g b : FVec Ideal S2x1024 .f32) : FVec Ideal S4096x1024 .f32 :=
  val_main_v30 (F := Ideal) s x g b

/-- Row `r` of the normalised block is row `q` of the reference's normalised array. -/
theorem norm_at (S X : FVec Ideal S512x1024 .f32) (G B : FVec Ideal S1x1024 .f32) (s x : FVec Ideal S4096x1024 .f32)
    (g b : FVec Ideal S2x1024 .f32) (r : Fin 512) (q : Fin 4096)
    (hS : ∀ k : Fin 1024, S (ix2 r k) = s (ix2 q k)) (hX : ∀ k : Fin 1024, X (ix2 r k) = x (ix2 q k))
    (hG : ∀ k : Fin 1024, G (ix2 0 k) = g (ix2 0 k)) (hB : ∀ k : Fin 1024, B (ix2 0 k) = b (ix2 0 k)) (l : Fin 1024) :
    k0_pay3 S X G B (ix2 r l) = NORM s x g b (ix2 q l) := by
  pointwise [k0_pay3, NORM, val_main_cst, val_main_v0, val_main_v1, val_main_v2, val_main_v3, val_main_v4, val_main_v5, val_main_v6,
    val_main_cst_0, val_main_v7, val_main_v8, val_main_cst_1, val_main_v9, val_main_v10, val_main_v11, val_main_v12,
    val_main_v13, val_main_cst_2, val_main_v14, val_main_v15, val_main_cst_3, val_main_v16, val_main_v17, val_main_v18,
    val_main_v19, val_main_cst_4, val_main_v20, val_main_v21, val_main_v22, val_main_v23, val_main_v24, val_main_v25,
    val_main_v26, val_main_v27, val_main_v28, val_main_v29, val_main_v30, hS, hX, hG, hB]

/-- What the reference computes. -/
abbrev REF (s x : FVec Ideal S4096x1024 .f32) (p : FVec Ideal S4096x256 .f32) (g b : FVec Ideal S2x1024 .f32)
    (wg : FVec Ideal S1024x1024 .f32) (wp : FVec Ideal S256x1024 .f32) : FVec Ideal S4096x1024 .f32 :=
  val_main_v40 (F := Ideal) s x p g b wg wp

/-- Row `r` of the block's result is row `q` of the reference's. -/
theorem out_at (S X : FVec Ideal S512x1024 .f32) (P : FVec Ideal S512x256 .f32) (G B : FVec Ideal S1x1024 .f32)
    (WG : FVec Ideal S1024x1024 .bf16) (WP : FVec Ideal S256x1024 .bf16) (s x : FVec Ideal S4096x1024 .f32)
    (p : FVec Ideal S4096x256 .f32) (g b : FVec Ideal S2x1024 .f32) (wg : FVec Ideal S1024x1024 .f32)
    (wp : FVec Ideal S256x1024 .f32) (r : Fin 512) (q : Fin 4096)
    (hS : ∀ k : Fin 1024, S (ix2 r k) = s (ix2 q k)) (hX : ∀ k : Fin 1024, X (ix2 r k) = x (ix2 q k))
    (hP : ∀ k : Fin 256, P (ix2 r k) = p (ix2 q k))
    (hG : ∀ k : Fin 1024, G (ix2 0 k) = g (ix2 0 k)) (hB : ∀ k : Fin 1024, B (ix2 0 k) = b (ix2 0 k))
    (hWG : ∀ (k : Fin 1024) (l : Fin 1024), WG (ix2 k l) = wg (ix2 k l))
    (hWP : ∀ (k : Fin 256) (l : Fin 1024), WP (ix2 k l) = wp (ix2 k l)) (l : Fin 1024) :
    k0_pay1 (k0_pay3 S X G B) (k0_pay4 S X G B WG) (k0_pay5 WP) (k0_pay6 P) (constant S512x1024 .f32 0x00000000#32) (ix2 r l)
    = REF s x p g b wg wp (ix2 q l) := by
  have h : ∀ k : Fin 1024, k0_pay3 S X G B (ix2 r k) = NORM s x g b (ix2 q k) :=
    norm_at S X G B s x g b r q hS hX hG hB
  pointwise [k0_pay1, k0_pay4, k0_pay5, k0_pay6, REF, NORM, val_main_v31, val_main_v32, val_main_v33, val_main_cst_5,
    val_main_v34, val_main_v35, val_main_cst_6, val_main_v36, val_main_v37, val_main_v38, val_main_v39, val_main_v40,
    h, hP, hWG, hWP]
  rfl

/-- Which blocks grid point `t` takes of its arrays. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- Entry `y` of the block that point `t` computes is the reference's entry there. -/
theorem point (c : Dev nD) (t : Fin cfg0.N) (y : S512x1024.Idx) :
    k0_pay1 (k0_pay3 (iblk m c 0 t) (iblk m c 1 t) (iblk m c 3 t) (iblk m c 4 t)) (k0_pay4 (iblk m c 0 t) (iblk m c 1 t) (iblk m c 3 t) (iblk m c 4 t) (iblk m c 5 t))
      (k0_pay5 (iblk m c 6 t)) (k0_pay6 (iblk m c 2 t)) (constant S512x1024 .f32 0x00000000#32) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  have ht : t.val < 8 := lt_of_lt_of_eq t.isLt (by decide +kernel)
  idx_vars y
  refine (out_at _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) y0 ⟨t.val * 512 + y0.val, by omega⟩ (fun k => ?_) (fun k => ?_) (fun k => ?_)
    (fun k => ?_) (fun k => ?_) (fun k l => ?_) (fun k l => ?_) y1).trans (congrArg _ ?_)
  all_goals blk_point [iblk, V, idx t]

/-- The first output array ends as the reference's first result. -/
theorem final (c : Dev nD) : (dats m 0 c).arrAt 7 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  frame_out
  unfold k0_pay7 k0_pay8 k0_pay9 k0_pay10 k0_pay11
  frame_out
  exact point m c t y

/-- What the reference computes (its second result). -/
abbrev REF1 (s x : FVec Ideal S4096x1024 .f32) (p : FVec Ideal S4096x256 .f32) (g b : FVec Ideal S2x1024 .f32)
    (wg : FVec Ideal S1024x1024 .f32) (wp : FVec Ideal S256x1024 .f32) : FVec Ideal S4096x1024 .bf16 :=
  val_main_v41 (F := Ideal) s x p g b wg wp

/-- The second output array ends as the reference's second result. -/
theorem final1 (c : Dev nD) : (dats m 0 c).arrAt 8 cfg0.N
    = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  frame_out
  unfold k0_pay7 k0_pay8 k0_pay9 k0_pay10 k0_pay11
  frame_out
  exact point m c t y

end Cert.Kernel21Ideal.Product

namespace Cert.Reference21Ideal.Product

open Idealize.ShloMosaic Idealize.ShloMosaic.TcCoe Idealize.SL.Sem Cert.Reference21Ideal.Read

/-- The reference leaves its arguments as they were; it has no semaphore. -/
theorem frame : Cert.quiescent_Reference21Ideal (hReference21Ideal := Cert.Reference21Ideal.Gen.facts) := fun m g _ =>
  (θ_run Cert.Reference21Ideal.defs _ _).mono
    (fun r h => ⟨fun c => (h c).2.2, Idealize.ShloMosaic.sem_eq_zero_of_no_sems (by decide) r.2⟩)
    (Cert.Reference21Ideal.Value.run (F := Ideal) m g)

/-- The two programs' results are equal. -/
theorem algebraic : Cert.algebraic_Kernel21Ideal_Reference21Ideal (hKernel21Ideal := Cert.Kernel21Ideal.Gen.facts)
    (hReference21Ideal := Cert.Reference21Ideal.Gen.facts) := by
  pair_intro
  · run_from Cert.Kernel21Ideal.Value.run_blocks m g
  · run_from Cert.Reference21Ideal.Value.run m' g'
    · exact (val_main_v40_eq m' c).trans (by
        rw [(hagree c).1, (hagree c).2.1, (hagree c).2.2.1, (hagree c).2.2.2.1, (hagree c).2.2.2.2.1, (hagree c).2.2.2.2.2.1, (hagree c).2.2.2.2.2.2]
        exact (Cert.Kernel21Ideal.Product.final m c).symm)
    · exact (val_main_v41_eq m' c).trans (by
        rw [(hagree c).1, (hagree c).2.1, (hagree c).2.2.1, (hagree c).2.2.2.1, (hagree c).2.2.2.2.1, (hagree c).2.2.2.2.2.1, (hagree c).2.2.2.2.2.2]
        exact (Cert.Kernel21Ideal.Product.final1 m c).symm)

end Cert.Reference21Ideal.Product

end
-- ==== Proof.Conv.lean ====
module

public import proofs.«01_k».proof.Defs
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Adequacy

/-! The even layer's short causal convolution of q, k, v, and its SiLU. -/

@[expose] public section

set_option maxRecDepth 65536

noncomputable section

namespace Cert.Kernel22Ideal.Product

open Idealize.ShloMosaic Idealize.ShloMosaic.TcCoe Idealize.SL.Sem
open Cert.Kernel22Ideal Cert.Kernel22Ideal.Gen Cert.Reference22Ideal.Read

variable (m : (ℓ : Loc nD τ sig) → Buf (Elt Ideal) ℓ)

/-- Which blocks grid point `t` takes of its arrays. -/
theorem idx : ∀ t : Fin cfg0.N, win0_0.index t = ![t.val % 4 * 128 - 1, t.val / 4] ∧ win0_1.index t = ![t.val % 4, t.val / 4]
    ∧ win0_2.index t = ![0, t.val / 4] ∧ win0_3.index t = ![t.val % 4, t.val / 4] :=
  (by decide +kernel : ∀ t : Fin grid0.N, _)

theorem coord : ∀ t : Fin cfg0.N, (grid0.coords t 1).val = t.val % 4 :=
  (by decide +kernel : ∀ t : Fin grid0.N, _)

/-- What the reference computes. -/
abbrev REF (x : FVec Ideal S4096x3072 .f32) (w : FVec Ideal S4x3072 .f32) : FVec Ideal S4096x3072 .f32 :=
  val_main_v32 (F := Ideal) x w

/-- An entry of block `a` of the convolution is the reference's entry: `M` holds the block's rows, `P` the eight rows before
them, for which the kernel takes zeros in the first block. -/
theorem out_at (i : grid0.Coords) (P : FVec Ideal S8x512 .f32) (M : FVec Ideal S1024x512 .f32) (W : FVec Ideal S4x512 .f32)
    (x : FVec Ideal S4096x3072 .f32) (w : FVec Ideal S4x3072 .f32) (r : Fin 1024) (l : Fin 512) (q : Fin 4096) (n : Fin 3072)
    (a : ℕ) (ha : (i 1).val = a) (ha4 : a < 4) (hq : q.val = a * 1024 + r.val)
    (hM : ∀ (k : Fin 1024) (p : Fin 4096), p.val = a * 1024 + k.val → M (ix2 k l) = x (ix2 p n))
    (hP : ∀ (k : Fin 8) (p : Fin 4096), 0 < a → p.val + 8 = a * 1024 + k.val → P (ix2 k l) = x (ix2 p n))
    (hW : ∀ k : Fin 4, W (ix2 k l) = w (ix2 k n)) :
    k0_pay1 i P M (View.ld (Val := Elt Ideal) W r0_2) (View.ld (Val := Elt Ideal) W r0_3) (View.ld (Val := Elt Ideal) W r0_4)
      (View.ld (Val := Elt Ideal) W r0_5) (ix2 r l) = REF x w (ix2 q n) := by
  have hz : (FloatOps.sitofp (F := Ideal) .f32 (0#32 : BitVec 32) : EReal) = 0 := by
    show (((0#32 : BitVec 32).toInt : ℝ) : EReal) = 0
    simp
  have hs : ∀ v : EReal, (Scalar.select (Scalar.cmpi .sgt (BitVec.ofNat 32 (i 1).val) 0#32) v 0 : EReal) = if 0 < a then v else 0 := by
    intro v
    rw [ha]
    interval_cases a <;> rfl
  -- the tap `j` rows back
  have tap : ∀ (j : ℕ) (h1 : 1 ≤ j) (h2 : j ≤ 3),
      (if h : (8 + r.val + 1032 - j) % 1032 < 8 then
          (Scalar.select (Scalar.cmpi .sgt (BitVec.ofNat 32 (i 1).val) 0#32) (P (ix2 ⟨(8 + r.val + 1032 - j) % 1032, h⟩ l)) 0 : EReal)
        else M (ix2 ⟨(8 + r.val + 1032 - j) % 1032 - 8, by omega⟩ l))
      = if h : j ≤ q.val ∧ q.val - j < 4096 then x (ix2 ⟨q.val - j, h.2⟩ n) else 0 := by
    intro j h1 h2
    by_cases h : (8 + r.val + 1032 - j) % 1032 < 8
    · rw [dif_pos h, hs]
      by_cases h0 : 0 < a
      · rw [if_pos h0, dif_pos ⟨by omega, by omega⟩]
        exact hP _ _ h0 (by show q.val - j + 8 = a * 1024 + (8 + r.val + 1032 - j) % 1032; omega)
      · rw [if_neg h0, dif_neg (by omega)]
    · rw [dif_neg h, dif_pos ⟨by omega, by omega⟩]
      exact hM _ _ (by show q.val - j = a * 1024 + ((8 + r.val + 1032 - j) % 1032 - 8); omega)
  have t1 := tap 1 (by omega) (by omega)
  have t2 := tap 2 (by omega) (by omega)
  have t3 := tap 3 (by omega) (by omega)
  pointwise [k0_pay1, REF, val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_v20, val_main_v21, val_main_v22, val_main_v23, val_main_v24, val_main_v25, val_main_v26,
    val_main_v27, val_main_v28, val_main_v29, val_main_v30, val_main_v31, val_main_call0_v0, val_main_call1_v0, val_main_call2_v0,
    val_main_call3_v0, val_main_cst, val_main_c, val_main_c_0, val_main_c_1, val_main_c_2, val_main_call4_v1, val_main_call4_v2,
    val_main_call4_v3, val_main_call4_v4, val_main_call4_v5, val_main_call4_v0, val_main_call4_cst, val_main_call4_cst_0,
    val_main_v32]
  rw [t1, t2, t3, hz, hM r q hq, hW, hW, hW, hW]
  have e : ∀ A B C D : EReal, A + B + C + D = D + C + B + A := fun A B C D => by ac_rfl
  conv_lhs => rw [e]
  rfl

/-- Entry `y` of the block that point `t` computes is the reference's entry there. -/
theorem point (c : Dev nD) (t : Fin cfg0.N) (y : S1024x512.Idx) :
    k0_pay1 (grid0.coords t) (iblk m c 0 t) (iblk m c 1 t) (View.ld (iblk m c 2 t) r0_2) (View.ld (iblk m c 2 t) r0_3)
      (View.ld (iblk m c 2 t) r0_4) (View.ld (iblk m c 2 t) r0_5) y
    = REF (m ((c : Thread nD τ).loc main_arg0)) (m ((c : Thread nD τ).loc main_arg1)) (((cfg0.win 3).blk t).view.emb y) := by
  have ht : t.val < 24 := lt_of_lt_of_eq t.isLt (by decide +kernel)
  idx_vars y
  refine (out_at (grid0.coords t) _ _ _ (m ((c : Thread nD τ).loc main_arg0)) (m ((c : Thread nD τ).loc main_arg1)) y0 y1 ⟨t.val % 4 * 1024 + y0.val, by omega⟩
    ⟨t.val / 4 * 512 + y1.val, by omega⟩ (t.val % 4) (coord t) (by omega) rfl (fun k p hp => ?_) (fun k p h0 hp => ?_)
    (fun k => ?_)).trans (congrArg _ ?_)
  all_goals blk_point [iblk, V, idx t]

/-- The output array ends as the reference's result. -/
theorem final (c : Dev nD) : (dats m 0 c).arrAt 3 cfg0.N = REF (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point m c t y

end Cert.Kernel22Ideal.Product

namespace Cert.Reference22Ideal.Product

open Idealize.ShloMosaic Idealize.ShloMosaic.TcCoe Idealize.SL.Sem Cert.Reference22Ideal.Read

/-- The reference leaves its arguments as they were; it has no semaphore. -/
theorem frame : Cert.quiescent_Reference22Ideal (hReference22Ideal := Cert.Reference22Ideal.Gen.facts) := fun m g _ =>
  (θ_run Cert.Reference22Ideal.defs _ _).mono
    (fun r h => ⟨fun c => (h c).2, Idealize.ShloMosaic.sem_eq_zero_of_no_sems (by decide) r.2⟩)
    (Cert.Reference22Ideal.Value.run (F := Ideal) m g)

/-- The two programs' results are equal. -/
theorem algebraic : Cert.algebraic_Kernel22Ideal_Reference22Ideal (hKernel22Ideal := Cert.Kernel22Ideal.Gen.facts)
    (hReference22Ideal := Cert.Reference22Ideal.Gen.facts) := by
  pair_intro
  · run_from Cert.Kernel22Ideal.Value.run_blocks m g
  · run_from Cert.Reference22Ideal.Value.run m' g'
    exact (val_main_v32_eq m' c).trans (by
      rw [(hagree c).1, (hagree c).2]
      exact (Cert.Kernel22Ideal.Product.final m c).symm)

end Cert.Reference22Ideal.Product

end
-- ==== Proof.Reals.lean ====
/- Arithmetic of extended reals that are real numbers: a sum, a quotient, a maximum of real numbers read as
   extended reals is the real number read so, and the decimal values of the constants the programs use. -/
module

public import Idealize.ShloMosaic.Lib.Pointwise
public import Idealize.ShloMosaic.Lib.IdealHost

@[expose] public section

set_option maxRecDepth 16384

noncomputable section

namespace Cert.Reals

open Idealize.ShloMosaic

/-- A finite sum of real numbers, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers with a divisor that is not zero. -/
theorem div_coe_coe (x y : ℝ) (h : y ≠ 0) : Ideal.div (x : EReal) (y : EReal) = ((x / y : ℝ) : EReal) := by
  rw [Ideal.div_coe h, ← EReal.coe_mul, mul_one_div]

theorem log_coe_pos (x : ℝ) (h : 0 < x) : Ideal.log (x : EReal) = ((Real.log x : ℝ) : EReal) := by
  rw [Ideal.log_coe, if_neg (not_le.mpr h)]

theorem rsqrt_coe_pos (x : ℝ) (h : 0 < x) : Ideal.rsqrt (x : EReal) = (((Real.sqrt x)⁻¹ : ℝ) : EReal) := by
  rw [Ideal.rsqrt_coe, if_neg (not_lt.mpr h.le), if_neg h.ne']

theorem max_coe (x y : ℝ) : max (x : EReal) (y : EReal) = ((max x y : ℝ) : EReal) := by
  exact (EReal.coe_strictMono.monotone.map_max).symm

theorem min_coe (x y : ℝ) : min (x : EReal) (y : EReal) = ((min x y : ℝ) : EReal) := by
  exact (EReal.coe_strictMono.monotone.map_min).symm

theorem ite_coe (p : Prop) [Decidable p] (x y : ℝ) : (if p then (x : EReal) else (y : EReal)) = ((if p then x else y : ℝ) : EReal) := by
  split <;> rfl

theorem zero_coe : (0 : EReal) = ((0 : ℝ) : EReal) := rfl
theorem one_coe : (1 : EReal) = ((1 : ℝ) : EReal) := rfl

theorem ofBits_80 : Ideal.ofBits .f32 0x42A00000#32 = ((80 : ℝ) : EReal) := by
  simp [Ideal.ofBits, Ideal.ieee]; rw [← EReal.coe_mul]; norm_num

theorem ofBits_sixteenth : Ideal.ofBits .f32 0x3D800000#32 = ((1 / 16 : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

theorem ofBits_128 : Ideal.ofBits .f32 0x43000000#32 = ((128 : ℝ) : EReal) := by
  simp [Ideal.ofBits, Ideal.ieee]; rw [← EReal.coe_mul]; norm_num

/-- The number the norm adds to the mean square. -/
def normEps : ℝ := 10995116 * 2 ^ (-40 : ℤ)

theorem normEps_pos : 0 < normEps := by unfold normEps; positivity

theorem ofBits_eps : Ideal.ofBits .f32 0x3727C5AC#32 = ((normEps : ℝ) : EReal) := by
  unfold normEps
  simp [Ideal.ofBits, Ideal.ieee]

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem ofBits_neg_80 : Ideal.ofBits .f32 0xC2A00000#32 = ((-80 : ℝ) : EReal) := by
  simp [Ideal.ofBits, Ideal.ieee]; rw [← EReal.coe_mul]; norm_num

/-- The logistic function of a real number. -/
def sigm (x : ℝ) : ℝ := (1 + Real.exp (-x))⁻¹

theorem sigm_pos (x : ℝ) : 0 < sigm x := by unfold sigm; positivity
theorem sigm_lt_one (x : ℝ) : sigm x < 1 := by
  unfold sigm
  have := Real.exp_pos (-x)
  exact inv_lt_one_of_one_lt₀ (by linarith)

theorem logistic_coe' (x : ℝ) : Ideal.logistic (x : EReal) = ((sigm x : ℝ) : EReal) := Ideal.logistic_coe x

/-! Casts of the reals into the extended reals, pulled outwards. -/

theorem mulR (x y : ℝ) : (x : EReal) * (y : EReal) = ((x * y : ℝ) : EReal) := (EReal.coe_mul x y).symm
theorem addR (x y : ℝ) : (x : EReal) + (y : EReal) = ((x + y : ℝ) : EReal) := (EReal.coe_add x y).symm
theorem subR (x y : ℝ) : (x : EReal) - (y : EReal) = ((x - y : ℝ) : EReal) := (EReal.coe_sub x y).symm
theorem sumR {ι : Type*} (s : Finset ι) (f : ι → ℝ) : (∑ i ∈ s, (f i : EReal)) = ((∑ i ∈ s, f i : ℝ) : EReal) :=
  (coe_sum s f).symm
theorem expR (x : ℝ) : Ideal.exp (x : EReal) = ((Real.exp x : ℝ) : EReal) := Ideal.exp_coe x

end Cert.Reals

end
-- ==== Proof.Heads.lean ====
module

public import proofs.«01_k».proof.Proof.Gen.KernelIdeal.Skeleton
public import proofs.«01_k».proof.Proof.Reals

/-! The kernel's two layouts of sixteen heads of 128 lanes: side by side in 2048 lanes, and stacked. -/

@[expose] public section

set_option maxRecDepth 16384

noncomputable section

namespace Cert.KernelIdeal.Chain

open Idealize.ShloMosaic Idealize.ShloMosaic.TcCoe Idealize.SL.Sem
open Cert.KernelIdeal Cert.KernelIdeal.Gen Cert.Reals

/-- Lane `d` of head `h` among 2048 lanes. -/
def lane (h : Fin 16) (d : Fin 128) : Fin 2048 := ⟨128 * h.val + d.val, by omega⟩

/-- The stacked heads laid side by side. -/
def flat (Y : FVec Ideal S16x64x128 .f32) : FVec Ideal S64x2048 .f32 :=
  concatenate S64x2048 1 [
     ⟨S64x128, shapeCast S64x128 (extractStridedSlice S1x64x128 ![0, 0, 0] Y slices_S16x64x128_o0_0_0_S1x64x128) shapeCasts_S1x64x128_S64x128⟩,
     ⟨S64x128, shapeCast S64x128 (extractStridedSlice S1x64x128 ![1, 0, 0] Y slices_S16x64x128_o1_0_0_S1x64x128) shapeCasts_S1x64x128_S64x128⟩,
     ⟨S64x128, shapeCast S64x128 (extractStridedSlice S1x64x128 ![2, 0, 0] Y slices_S16x64x128_o2_0_0_S1x64x128) shapeCasts_S1x64x128_S64x128⟩,
     ⟨S64x128, shapeCast S64x128 (extractStridedSlice S1x64x128 ![3, 0, 0] Y slices_S16x64x128_o3_0_0_S1x64x128) shapeCasts_S1x64x128_S64x128⟩,
     ⟨S64x128, shapeCast S64x128 (extractStridedSlice S1x64x128 ![4, 0, 0] Y slices_S16x64x128_o4_0_0_S1x64x128) shapeCasts_S1x64x128_S64x128⟩,
     ⟨S64x128, shapeCast S64x128 (extractStridedSlice S1x64x128 ![5, 0, 0] Y slices_S16x64x128_o5_0_0_S1x64x128) shapeCasts_S1x64x128_S64x128⟩,
     ⟨S64x128, shapeCast S64x128 (extractStridedSlice S1x64x128 ![6, 0, 0] Y slices_S16x64x128_o6_0_0_S1x64x128) shapeCasts_S1x64x128_S64x128⟩,
     ⟨S64x128, shapeCast S64x128 (extractStridedSlice S1x64x128 ![7, 0, 0] Y slices_S16x64x128_o7_0_0_S1x64x128) shapeCasts_S1x64x128_S64x128⟩,
     ⟨S64x128, shapeCast S64x128 (extractStridedSlice S1x64x128 ![8, 0, 0] Y slices_S16x64x128_o8_0_0_S1x64x128) shapeCasts_S1x64x128_S64x128⟩,
     ⟨S64x128, shapeCast S64x128 (extractStridedSlice S1x64x128 ![9, 0, 0] Y slices_S16x64x128_o9_0_0_S1x64x128) shapeCasts_S1x64x128_S64x128⟩,
     ⟨S64x128, shapeCast S64x128 (extractStridedSlice S1x64x128 ![10, 0, 0] Y slices_S16x64x128_o10_0_0_S1x64x128) shapeCasts_S1x64x128_S64x128⟩,
     ⟨S64x128, shapeCast S64x128 (extractStridedSlice S1x64x128 ![11, 0, 0] Y slices_S16x64x128_o11_0_0_S1x64x128) shapeCasts_S1x64x128_S64x128⟩,
     ⟨S64x128, shapeCast S64x128 (extractStridedSlice S1x64x128 ![12, 0, 0] Y slices_S16x64x128_o12_0_0_S1x64x128) shapeCasts_S1x64x128_S64x128⟩,
     ⟨S64x128, shapeCast S64x128 (extractStridedSlice S1x64x128 ![13, 0, 0] Y slices_S16x64x128_o13_0_0_S1x64x128) shapeCasts_S1x64x128_S64x128⟩,
     ⟨S64x128, shapeCast S64x128 (extractStridedSlice S1x64x128 ![14, 0, 0] Y slices_S16x64x128_o14_0_0_S1x64x128) shapeCasts_S1x64x128_S64x128⟩,
     ⟨S64x128, shapeCast S64x128 (extractStridedSlice S1x64x128 ![15, 0, 0] Y slices_S16x64x128_o15_0_0_S1x64x128) shapeCasts_S1x64x128_S64x128⟩] concatenates_S64x128_S64x128_S64x128_S64x128_S64x128_S64x128_S64x128_S64x128_S64x128_S64x128_S64x128_S64x128_S64x128_S64x128_S64x128_S64x128_S64x2048_d1

/-- The side-by-side heads stacked. -/
def stack (X : FVec Ideal S64x2048 .f32) : FVec Ideal S16x64x128 .f32 :=
  concatenate S16x64x128 0 [
     ⟨S1x64x128, shapeCast S1x64x128 (extractStridedSlice S64x128 ![0, 0] X slices_S64x2048_o0_0_S64x128) shapeCasts_S64x128_S1x64x128⟩,
     ⟨S1x64x128, shapeCast S1x64x128 (extractStridedSlice S64x128 ![0, 128] X slices_S64x2048_o0_128_S64x128) shapeCasts_S64x128_S1x64x128⟩,
     ⟨S1x64x128, shapeCast S1x64x128 (extractStridedSlice S64x128 ![0, 256] X slices_S64x2048_o0_256_S64x128) shapeCasts_S64x128_S1x64x128⟩,
     ⟨S1x64x128, shapeCast S1x64x128 (extractStridedSlice S64x128 ![0, 384] X slices_S64x2048_o0_384_S64x128) shapeCasts_S64x128_S1x64x128⟩,
     ⟨S1x64x128, shapeCast S1x64x128 (extractStridedSlice S64x128 ![0, 512] X slices_S64x2048_o0_512_S64x128) shapeCasts_S64x128_S1x64x128⟩,
     ⟨S1x64x128, shapeCast S1x64x128 (extractStridedSlice S64x128 ![0, 640] X slices_S64x2048_o0_640_S64x128) shapeCasts_S64x128_S1x64x128⟩,
     ⟨S1x64x128, shapeCast S1x64x128 (extractStridedSlice S64x128 ![0, 768] X slices_S64x2048_o0_768_S64x128) shapeCasts_S64x128_S1x64x128⟩,
     ⟨S1x64x128, shapeCast S1x64x128 (extractStridedSlice S64x128 ![0, 896] X slices_S64x2048_o0_896_S64x128) shapeCasts_S64x128_S1x64x128⟩,
     ⟨S1x64x128, shapeCast S1x64x128 (extractStridedSlice S64x128 ![0, 1024] X slices_S64x2048_o0_1024_S64x128) shapeCasts_S64x128_S1x64x128⟩,
     ⟨S1x64x128, shapeCast S1x64x128 (extractStridedSlice S64x128 ![0, 1152] X slices_S64x2048_o0_1152_S64x128) shapeCasts_S64x128_S1x64x128⟩,
     ⟨S1x64x128, shapeCast S1x64x128 (extractStridedSlice S64x128 ![0, 1280] X slices_S64x2048_o0_1280_S64x128) shapeCasts_S64x128_S1x64x128⟩,
     ⟨S1x64x128, shapeCast S1x64x128 (extractStridedSlice S64x128 ![0, 1408] X slices_S64x2048_o0_1408_S64x128) shapeCasts_S64x128_S1x64x128⟩,
     ⟨S1x64x128, shapeCast S1x64x128 (extractStridedSlice S64x128 ![0, 1536] X slices_S64x2048_o0_1536_S64x128) shapeCasts_S64x128_S1x64x128⟩,
     ⟨S1x64x128, shapeCast S1x64x128 (extractStridedSlice S64x128 ![0, 1664] X slices_S64x2048_o0_1664_S64x128) shapeCasts_S64x128_S1x64x128⟩,
     ⟨S1x64x128, shapeCast S1x64x128 (extractStridedSlice S64x128 ![0, 1792] X slices_S64x2048_o0_1792_S64x128) shapeCasts_S64x128_S1x64x128⟩,
     ⟨S1x64x128, shapeCast S1x64x128 (extractStridedSlice S64x128 ![0, 1920] X slices_S64x2048_o0_1920_S64x128) shapeCasts_S64x128_S1x64x128⟩] concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0

theorem head_at (Y : FVec Ideal S16x64x128 .f32) (k : ℕ) (hk : k < 16)
    (hs : S16x64x128.Slices ![k, 0, 0] S1x64x128) (t : Fin 64) (d : Fin 128) :
    shapeCast S64x128 (extractStridedSlice S1x64x128 ![k, 0, 0] Y hs) shapeCasts_S1x64x128_S64x128 (ix2 t d)
      = Y (ix3 ⟨k, hk⟩ t d) := by
  pointwise

set_option maxHeartbeats 1000000 in
theorem flat_at (Y : FVec Ideal S16x64x128 .f32) (t : Fin 64) (h : Fin 16) (d : Fin 128) :
    flat Y (ix2 t (lane h d)) = Y (ix3 h t d) := by
  unfold flat
  refine concatenate_apply_piece (t := S64x2048) 1 _ _ _ h.val (by simp) S64x128 (fun j => Y (ix3 h (j 0) (j 1))) ?_
    rfl (128 * h.val) ?_ (ix2 t d) ?_ rfl
  · fin_cases h
    all_goals
      simp only [List.getElem_cons_succ, List.getElem_cons_zero]
      refine Sigma.ext rfl (heq_of_eq (funext fun j => ?_))
      idx_vars j
      exact head_at Y _ _ _ _ _
  · fin_cases h <;> simp only [List.take_succ_cons, List.take_zero, List.map_cons, List.map_nil, List.sum_cons, List.sum_nil] <;> rfl
  · intro b hb
    fin_cases b
    · rfl
    · exact absurd rfl hb

theorem stack_at (X : FVec Ideal S64x2048 .f32) (h : Fin 16) (t : Fin 64) (d : Fin 128) :
    stack X (ix3 h t d) = X (ix2 t (lane h d)) := by
  pointwise [stack]
  simp only [lane]
  fin_vals h with hk
  all_goals
    simp only [hk, Nat.reduceSub, Nat.reduceLT, ↓reduceDIte, Nat.mul_zero, Nat.zero_add]

end Cert.KernelIdeal.Chain

end
-- ==== Proof.Chain.lean ====
module

public import proofs.«01_k».proof.Proof.Gen.KernelIdeal.Skeleton
public import proofs.«01_k».proof.Proof.Reals

/-! The values one grid point of the kernel computes, as a chain of named arrays over the arrays the point
reads: each name is the printed program's own (`v373` is `%373`), and each right side is the printed operation
group over the names before it. -/

@[expose] public section

set_option maxRecDepth 16384

noncomputable section

namespace Cert.KernelIdeal.Chain

open Idealize.ShloMosaic Idealize.ShloMosaic.TcCoe Idealize.SL.Sem
open Cert.KernelIdeal Cert.KernelIdeal.Gen

/-- What a grid point reads, the heads already stacked: the four projections' blocks, the two rows of lower
bounds, the state saved at the chunk's start, the norm's gain, the block of the output's gradient and the
gradient of the state after the chunk. -/
structure In where
  qraw : FVec Ideal S16x64x128 .f32
  fraw : FVec Ideal S16x64x128 .f32
  val : FVec Ideal S16x64x128 .f32
  zraw : FVec Ideal S16x64x128 .f32
  low : FVec Ideal S16x1x128 .f32
  high : FVec Ideal S16x1x128 .f32
  state : FVec Ideal S16x128x128 .f32
  gain : FVec Ideal S1x128 .f32
  dout : FVec Ideal S16x64x128 .f32
  carry : FVec Ideal S16x128x128 .f32

variable (I : In)

/-- `%212` of the printed body. -/
def v212 : IVec S64x64 32 := k0_pay13
/-- `%208` of the printed body. -/
def v208 : IVec S64x64 32 := iota .tc S64x64 32 [0] iota_S64x64_d0_w32
/-- `%209` of the printed body. -/
def v209 : IVec S64x64 32 := iota .tc S64x64 32 [1] iota_S64x64_d1_w32
/-- `%221` of the printed body. -/
def v221 : FVec Ideal S128x64 .f32 := k0_pay14 (F := Ideal) v208 v209 v212
/-- `%229` of the printed body. -/
def v229 : FVec Ideal S16x1x128 .f32 := k0_pay16 I.low I.high
/-- `%236` of the printed body. -/
def v236 : FVec Ideal S16x1x128 .f32 := k0_pay17 I.low I.high
/-- `%238` of the printed body. -/
def v238 : FVec Ideal S16x1x128 .f32 := k0_pay18 I.low I.high
/-- `%240` of the printed body. -/
def v240 : FVec Ideal S16x1x128 .f32 := k0_pay19 I.low I.high
/-- `%241` of the printed body. -/
def v241 : FVec Ideal S16x1x128 .f32 := k0_pay20 I.low I.high
/-- `%245` of the printed body. -/
def v245 : FVec Ideal S16x1x128 .f32 := k0_pay22 I.low I.high
/-- `%247` of the printed body. -/
def v247 : FVec Ideal S16x1x128 .f32 := k0_pay23 I.low I.high
/-- `%248` of the printed body. -/
def v248 : FVec Ideal S16x64x128 .f32 := k0_pay24 I.fraw
/-- `%251` of the printed body. -/
def v251 : FVec Ideal S16x64x128 .f32 := k0_pay25 I.fraw
/-- `%255` of the printed body. -/
def v255 : FVec Ideal S16x64x128 .f32 := k0_pay26 I.fraw I.low I.high
/-- `%256` of the printed body. -/
def v256 : FVec Ideal S16x64x128 .f32 := k0_pay27 I.qraw
/-- `%259` of the printed body. -/
def v259 : FVec Ideal S16x64x128 .f32 := k0_pay28 I.qraw
/-- `%260` of the printed body. -/
def v260 : FVec Ideal S16x64x128 .f32 := k0_pay29 I.qraw
/-- `%261` of the printed body. -/
def v261 : FVec Ideal S16x64x128 .f32 := k0_pay30 (F := Ideal)
/-- `%262` of the printed body. -/
def v262 : FVec Ideal S16x64x128 .f32 := k0_pay31 (v255 I) v261
/-- `%263` of the printed body. -/
def v263 : FVec Ideal S16x64x128 .f32 := k0_pay32 (v255 I)
/-- `%304` of the printed body. -/
def v304 : FVec Ideal S128x2048 .f32 := k0_pay33 v221 (v255 I)
/-- `%305` of the printed body. -/
def v305 : FVec Ideal S64x2048 .f32 := k0_pay34 v221 (v255 I)
/-- `%306` of the printed body. -/
def v306 : FVec Ideal S64x128 .f32 := k0_pay35 v221 (v255 I)
/-- `%307` of the printed body. -/
def v307 : FVec Ideal S64x128 .f32 := k0_pay36 v221 (v255 I)
/-- `%308` of the printed body. -/
def v308 : FVec Ideal S64x128 .f32 := k0_pay37 v221 (v255 I)
/-- `%309` of the printed body. -/
def v309 : FVec Ideal S64x128 .f32 := k0_pay38 v221 (v255 I)
/-- `%310` of the printed body. -/
def v310 : FVec Ideal S64x128 .f32 := k0_pay39 v221 (v255 I)
/-- `%311` of the printed body. -/
def v311 : FVec Ideal S64x128 .f32 := k0_pay40 v221 (v255 I)
/-- `%312` of the printed body. -/
def v312 : FVec Ideal S64x128 .f32 := k0_pay41 v221 (v255 I)
/-- `%313` of the printed body. -/
def v313 : FVec Ideal S64x128 .f32 := k0_pay42 v221 (v255 I)
/-- `%314` of the printed body. -/
def v314 : FVec Ideal S64x128 .f32 := k0_pay43 v221 (v255 I)
/-- `%315` of the printed body. -/
def v315 : FVec Ideal S64x128 .f32 := k0_pay44 v221 (v255 I)
/-- `%316` of the printed body. -/
def v316 : FVec Ideal S64x128 .f32 := k0_pay45 v221 (v255 I)
/-- `%317` of the printed body. -/
def v317 : FVec Ideal S64x128 .f32 := k0_pay46 v221 (v255 I)
/-- `%318` of the printed body. -/
def v318 : FVec Ideal S64x128 .f32 := k0_pay47 v221 (v255 I)
/-- `%319` of the printed body. -/
def v319 : FVec Ideal S64x128 .f32 := k0_pay48 v221 (v255 I)
/-- `%338` of the printed body. -/
def v338 : FVec Ideal S16x64x128 .f32 := k0_pay49 (v305 I) (v306 I) (v307 I) (v308 I) (v309 I) (v310 I) (v311 I) (v312 I) (v313 I) (v314 I) (v315 I) (v316 I) (v317 I) (v318 I) (v319 I)
/-- `%372` of the printed body. -/
def v372 : FVec Ideal S16x64x128 .f32 := k0_pay50 (v304 I)
/-- `%373` of the printed body. -/
def v373 : FVec Ideal S16x64x128 .f32 := k0_pay51 (v304 I) (v305 I) (v306 I) (v307 I) (v308 I) (v309 I) (v310 I) (v311 I) (v312 I) (v313 I) (v314 I) (v315 I) (v316 I) (v317 I) (v318 I) (v319 I)
/-- `%375` of the printed body. -/
def v375 : FVec Ideal S16x1x128 .f32 := k0_pay52 (v263 I)
/-- `%376` of the printed body. -/
def v376 : FVec Ideal S16x64x128 .f32 := k0_pay53 (v304 I) (v305 I) (v306 I) (v307 I) (v308 I) (v309 I) (v310 I) (v311 I) (v312 I) (v313 I) (v314 I) (v315 I) (v316 I) (v317 I) (v318 I) (v319 I)
/-- `%377` of the printed body. -/
def v377 : FVec Ideal S16x64x128 .f32 := k0_pay54 (v260 I) (v304 I) (v305 I) (v306 I) (v307 I) (v308 I) (v309 I) (v310 I) (v311 I) (v312 I) (v313 I) (v314 I) (v315 I) (v316 I) (v317 I) (v318 I) (v319 I)
/-- `%378` of the printed body. -/
def v378 : FVec Ideal S16x64x128 .bf16 := k0_pay55 (v260 I) (v304 I) (v305 I) (v306 I) (v307 I) (v308 I) (v309 I) (v310 I) (v311 I) (v312 I) (v313 I) (v314 I) (v315 I) (v316 I) (v317 I) (v318 I) (v319 I)
/-- `%380` of the printed body. -/
def v380 : FVec Ideal S16x64x128 .f32 := k0_pay56 I.state (v378 I)
/-- `%381` of the printed body. -/
def v381 : FVec Ideal S16x64x128 .f32 := k0_pay57 (v338 I)
/-- `%382` of the printed body. -/
def v382 : FVec Ideal S16x64x128 .f32 := k0_pay58 (v260 I) (v338 I)
/-- `%400` of the printed body. -/
def v400 : FVec Ideal S16x64x128 .f32 := k0_pay60 (v372 I) (v373 I)
/-- `%401` of the printed body. -/
def v401 : FVec Ideal S16x64x128 .f32 := k0_pay61 (v372 I) (v373 I)
/-- `%402` of the printed body. -/
def v402 : FVec Ideal S16x64x128 .f32 := k0_pay62 (v262 I) (v372 I) (v373 I)
/-- `%403` of the printed body. -/
def v403 : FVec Ideal S16x16x128 .f32 := k0_pay63 (v260 I) (v338 I)
/-- `%413` of the printed body. -/
def v413 : IVec S16x16x64 1 := k0_pay64
/-- `%415` of the printed body. -/
def v415 : FVec Ideal S16x16x64 .f32 := k0_pay65 (v260 I) (v262 I) (v338 I) (v372 I) (v373 I)
/-- `%422` of the printed body. -/
def v422 : FVec Ideal S16x64x128 .f32 := k0_pay66 (v372 I) (v373 I)
/-- `%423` of the printed body. -/
def v423 : FVec Ideal S16x64x128 .f32 := k0_pay67 (F := Ideal)
/-- `%433` of the printed body. -/
def v433 : FVec Ideal S16x64x128 .f32 := k0_pay68 (v422 I)
/-- `%434` of the printed body. -/
def v434 : FVec Ideal S16x64x128 .f32 := k0_pay69 (v422 I) v423
/-- `%435` of the printed body. -/
def v435 : FVec Ideal S16x64x128 .f32 := k0_pay70 (v262 I) (v422 I) v423
/-- `%436` of the printed body. -/
def v436 : FVec Ideal S16x16x128 .f32 := k0_pay71 (v382 I)
/-- `%446` of the printed body. -/
def v446 : IVec S16x16x64 1 := k0_pay72
/-- `%448` of the printed body. -/
def v448 : FVec Ideal S16x16x64 .f32 := k0_pay73 (v262 I) (v382 I) (v422 I) v423
/-- `%466` of the printed body. -/
def v466 : FVec Ideal S16x64x128 .f32 := k0_pay75 (v372 I) (v373 I)
/-- `%467` of the printed body. -/
def v467 : FVec Ideal S16x64x128 .f32 := k0_pay76 (v372 I) (v373 I)
/-- `%468` of the printed body. -/
def v468 : FVec Ideal S16x64x128 .f32 := k0_pay77 (v262 I) (v467 I)
/-- `%469` of the printed body. -/
def v469 : FVec Ideal S16x16x128 .f32 := k0_pay78 (v382 I)
/-- `%479` of the printed body. -/
def v479 : IVec S16x16x64 1 := k0_pay79
/-- `%481` of the printed body. -/
def v481 : FVec Ideal S16x16x64 .f32 := k0_pay80 (v262 I) (v382 I) (v467 I)
/-- `%499` of the printed body. -/
def v499 : FVec Ideal S16x64x128 .f32 := k0_pay82 (v372 I) (v373 I)
/-- `%500` of the printed body. -/
def v500 : FVec Ideal S16x64x128 .f32 := k0_pay83 (v372 I) (v373 I)
/-- `%501` of the printed body. -/
def v501 : FVec Ideal S16x64x128 .f32 := k0_pay84 (v262 I) (v372 I) (v373 I)
/-- `%502` of the printed body. -/
def v502 : FVec Ideal S16x16x128 .f32 := k0_pay85 (v382 I)
/-- `%505` of the printed body. -/
def v505 : FVec Ideal S16x16x64 .f32 := k0_pay86 (v262 I) (v372 I) (v373 I) (v382 I)
/-- `%512` of the printed body. -/
def v512 : IVec S16x16x64 1 := k0_pay87
/-- `%513` of the printed body. -/
def v513 : FVec Ideal S16x16x64 .f32 := k0_pay88 (F := Ideal)
/-- `%515` of the printed body. -/
def v515 : FVec Ideal S16x64x64 .f32 := k0_pay89 (v415 I) (v448 I) (v481 I) (v505 I) v512 v513
/-- `%519` of the printed body. -/
def v519 : FVec Ideal S16x64x128 .f32 := k0_pay90 I.val (v380 I) (v415 I) (v448 I) (v481 I) (v505 I) v512 v513
/-- `%522` of the printed body. -/
def v522 : FVec Ideal S16x64x128 .f32 := k0_pay91 (v373 I) (v375 I)
/-- `%523` of the printed body. -/
def v523 : FVec Ideal S16x64x128 .f32 := k0_pay92 (v262 I) (v373 I) (v375 I)
/-- `%531` of the printed body. -/
def v531 : FVec Ideal S16x64x1 .f32 := k0_pay94 I.val (v380 I) (v415 I) (v448 I) (v481 I) (v505 I) v512 v513
/-- `%534` of the printed body. -/
def v534 : FVec Ideal S16x64x1 .f32 := k0_pay95 I.val (v380 I) (v415 I) (v448 I) (v481 I) (v505 I) v512 v513
/-- `%536` of the printed body. -/
def v536 : FVec Ideal S16x64x128 .f32 := k0_pay96 I.val (v380 I) (v415 I) (v448 I) (v481 I) (v505 I) v512 v513
/-- `%537` of the printed body. -/
def v537 : FVec Ideal S1x1x128 .f32 := k0_pay97 I.gain
/-- `%539` of the printed body. -/
def v539 : FVec Ideal S16x64x128 .f32 := k0_pay98 I.val I.gain (v380 I) (v415 I) (v448 I) (v481 I) (v505 I) v512 v513
/-- `%540` of the printed body. -/
def v540 : FVec Ideal S16x64x128 .f32 := k0_pay99 I.zraw
/-- `%543` of the printed body. -/
def v543 : FVec Ideal S16x64x128 .f32 := k0_pay100 I.zraw
/-- `%544` of the printed body. -/
def v544 : FVec Ideal S16x64x128 .f32 := k0_pay101 I.zraw
/-- `%545` of the printed body. -/
def v545 : FVec Ideal S16x1x128 .f32 := k0_pay102 (v375 I)
/-- `%580` of the printed body. -/
def v580 : FVec Ideal S16x128x128 .f32 := k0_pay104 I.carry
/-- `%584` of the printed body. -/
def v584 : FVec Ideal S16x64x128 .f32 := k0_pay106 (v523 I) I.carry
/-- `%587` of the printed body. -/
def v587 : FVec Ideal S16x64x128 .f32 := k0_pay107 I.val I.carry
/-- `%589` of the printed body. -/
def v589 : FVec Ideal S16x128 .f32 := k0_pay108 I.state I.carry
/-- `%592` of the printed body. -/
def v592 : FVec Ideal S16x128x128 .f32 := k0_pay109 (v545 I) (v580 I)
/-- `%599` of the printed body. -/
def v599 : FVec Ideal S16x64x128 .f32 := k0_pay111 I.zraw (v539 I) (v540 I) (v543 I) I.dout
/-- `%606` of the printed body. -/
def v606 : FVec Ideal S1x128 .f32 := k0_pay112 (v536 I) (v544 I) I.dout
/-- `%621` of the printed body. -/
def v621 : FVec Ideal S16x64x128 .f32 := k0_pay113 (v519 I) (v531 I) (v534 I) (v537 I) (v544 I) I.dout
/-- `%623` of the printed body. -/
def v623 : FVec Ideal S16x64x128 .f32 := k0_pay114 (v522 I) (v587 I)
/-- `%628` of the printed body. -/
def v628 : FVec Ideal S16x64x128 .f32 := k0_pay116 (v262 I) (v522 I) (v587 I)
/-- `%629` of the printed body. -/
def v629 : FVec Ideal S16x1x128 .f32 := k0_pay117 (v262 I) (v522 I) (v545 I) (v587 I) (v589 I)
/-- `%636` of the printed body. -/
def v636 : FVec Ideal S16x64x128 .f32 := k0_pay119 (v515 I) (v519 I) (v531 I) (v534 I) (v537 I) (v544 I) I.dout (v584 I)
/-- `%637` of the printed body. -/
def v637 : FVec Ideal S16x16x64 .f32 := k0_pay120 I.val (v519 I) (v531 I) (v534 I) (v537 I) (v544 I) I.dout
/-- `%638` of the printed body. -/
def v638 : FVec Ideal S16x16x64 .f32 := k0_pay121 I.val (v519 I) (v531 I) (v534 I) (v537 I) (v544 I) I.dout
/-- `%639` of the printed body. -/
def v639 : FVec Ideal S16x16x64 .f32 := k0_pay122 I.val (v519 I) (v531 I) (v534 I) (v537 I) (v544 I) I.dout
/-- `%640` of the printed body. -/
def v640 : FVec Ideal S16x16x64 .f32 := k0_pay123 I.val (v519 I) (v531 I) (v534 I) (v537 I) (v544 I) I.dout
/-- `%660` of the printed body. -/
def v660 : FVec Ideal S16x64x128 .f32 := k0_pay127 (v262 I) (v499 I) (v500 I) (v502 I) v512 (v628 I) (v640 I)
/-- `%667` of the printed body. -/
def v667 : FVec Ideal S16x64x128 .f32 := k0_pay128 (v262 I) (v499 I) (v500 I) (v502 I) v512 (v640 I)
/-- `%679` of the printed body. -/
def v679 : FVec Ideal S16x64x128 .f32 := k0_pay131 (v468 I) v479 (v501 I) v512 (v639 I) (v640 I)
/-- `%682` of the printed body. -/
def v682 : FVec Ideal S16x64x128 .f32 := k0_pay132 (v467 I) (v469 I) v479 (v500 I) (v502 I) v512 (v623 I) (v639 I) (v640 I)
/-- `%684` of the printed body. -/
def v684 : FVec Ideal S16x64x128 .f32 := k0_pay133 (v262 I) (v466 I) (v467 I) (v469 I) v479 (v639 I)
/-- `%685` of the printed body. -/
def v685 : FVec Ideal S16x128 .f32 := k0_pay134 (v262 I) (v466 I) (v467 I) (v469 I) v479 (v639 I)
/-- `%710` of the printed body. -/
def v710 : FVec Ideal S16x64x128 .f32 := k0_pay137 (v435 I) v446 (v638 I) (v679 I)
/-- `%713` of the printed body. -/
def v713 : FVec Ideal S16x64x128 .f32 := k0_pay138 (v434 I) (v436 I) v446 (v638 I) (v682 I)
/-- `%720` of the printed body. -/
def v720 : FVec Ideal S16x64x128 .f32 := k0_pay140 (v262 I) (v433 I) (v434 I) (v436 I) v446 (v638 I) (v660 I) (v684 I)
/-- `%729` of the printed body. -/
def v729 : FVec Ideal S16x64x128 .f32 := k0_pay141 (v262 I) (v433 I) (v434 I) (v436 I) v446 (v638 I) (v667 I) (v685 I)
/-- `%743` of the printed body. -/
def v743 : FVec Ideal S16x64x128 .f32 := k0_pay145 (v401 I) (v403 I) v413 (v637 I) (v713 I)
/-- `%761` of the printed body. -/
def v761 : FVec Ideal S16x64x128 .f32 := k0_pay147 (v260 I) (v381 I) (v402 I) v413 (v637 I) (v710 I)
/-- `%768` of the printed body. -/
def v768 : FVec Ideal S16x128x128 .f32 := k0_pay149 (v377 I) (v592 I) (v621 I)
/-- `%771` of the printed body. -/
def v771 : FVec Ideal S16x64x128 .f32 := k0_pay150 I.state (v376 I) (v381 I) (v402 I) v413 (v621 I) (v637 I) (v710 I)
/-- `%773` of the printed body. -/
def v773 : FVec Ideal S16x64x128 .f32 := k0_pay151 I.state (v260 I) (v262 I) (v376 I) (v400 I) (v401 I) (v403 I) v413 (v621 I) (v637 I) (v720 I)
/-- `%776` of the printed body. -/
def v776 : FVec Ideal S16x64x128 .f32 := k0_pay152 (v629 I)
/-- `%777` of the printed body. -/
def v777 : FVec Ideal S16x64x128 .f32 := k0_pay153 I.state (v260 I) (v262 I) (v376 I) (v400 I) (v401 I) (v403 I) v413 (v621 I) (v637 I) (v720 I) (v729 I)
/-- `%778` of the printed body. -/
def v778 : FVec Ideal S16x64x128 .f32 := k0_pay154 (v761 I) (v773 I)
/-- `%813` of the printed body. -/
def v813 : FVec Ideal S128x2048 .f32 := k0_pay155 (v777 I)
/-- `%815` of the printed body. -/
def v815 : FVec Ideal S64x128 .f32 := k0_pay156 (v761 I) (v773 I)
/-- `%817` of the printed body. -/
def v817 : FVec Ideal S64x128 .f32 := k0_pay157 (v761 I) (v773 I)
/-- `%819` of the printed body. -/
def v819 : FVec Ideal S64x128 .f32 := k0_pay158 (v761 I) (v773 I)
/-- `%821` of the printed body. -/
def v821 : FVec Ideal S64x128 .f32 := k0_pay159 (v761 I) (v773 I)
/-- `%823` of the printed body. -/
def v823 : FVec Ideal S64x128 .f32 := k0_pay160 (v761 I) (v773 I)
/-- `%825` of the printed body. -/
def v825 : FVec Ideal S64x128 .f32 := k0_pay161 (v761 I) (v773 I)
/-- `%827` of the printed body. -/
def v827 : FVec Ideal S64x128 .f32 := k0_pay162 (v761 I) (v773 I)
/-- `%829` of the printed body. -/
def v829 : FVec Ideal S64x128 .f32 := k0_pay163 (v761 I) (v773 I)
/-- `%831` of the printed body. -/
def v831 : FVec Ideal S64x128 .f32 := k0_pay164 (v761 I) (v773 I)
/-- `%833` of the printed body. -/
def v833 : FVec Ideal S64x128 .f32 := k0_pay165 (v761 I) (v773 I)
/-- `%835` of the printed body. -/
def v835 : FVec Ideal S64x128 .f32 := k0_pay166 (v761 I) (v773 I)
/-- `%836` of the printed body. -/
def v836 : FVec Ideal S1x64x128 .f32 := k0_pay167 (v761 I) (v773 I)
/-- `%892` of the printed body. -/
def v892 : FVec Ideal S16x64x128 .f32 := k0_pay168 v221 (v255 I) (v776 I) (v778 I) (v813 I) (v815 I) (v817 I) (v819 I) (v821 I) (v823 I) (v825 I) (v827 I) (v829 I) (v831 I) (v833 I) (v835 I) (v836 I)
/-- `%899` of the printed body. -/
def v899 : FVec Ideal S16x64x128 .f32 := k0_pay170 I.qraw (v256 I) (v259 I) (v771 I)
/-- `%cst_291` of the printed body. -/
def cst_291 : Ideal .f32 := Scalar.ofBits .f32 0x00000000#32
/-- `%907` of the printed body. -/
def v907 : FVec Ideal S16x64x128 .f32 := k0_pay171 (v247 I) (v251 I) (v743 I) (v892 I) cst_291
/-- `%925` of the printed body. -/
def v925 : FVec Ideal S16x1x128 .f32 := k0_pay177 (v236 I) (v238 I) (v240 I) (v241 I) (v245 I) (v248 I) (v743 I) (v892 I) cst_291
/-- `%927` of the printed body. -/
def v927 : FVec Ideal S16x1x128 .f32 := k0_pay178 (v229 I) (v238 I) (v240 I) (v241 I) (v245 I) (v248 I) (v743 I) (v892 I) cst_291

end Cert.KernelIdeal.Chain

end
-- ==== Proof.Spec.lean ====
module

public import proofs.«01_k».proof.Proof.Reals

/-! What one chunk of the kernel computes, over the real numbers: 64 rows of one head (`Fw`, `Bw`), and the
gates, the norm and the lower bounds around them (`Rin`). The formulas are the kernel's own. -/

@[expose] public section

noncomputable section

namespace Cert.Spec

open Cert.Reals

/-- Row `i` of block `B` of a chunk. -/
def row (B : Fin 4) (i : Fin 16) : Fin 64 := ⟨16 * B.val + i.val, by omega⟩

/-- The block a row lies in. -/
def blk (t : Fin 64) : Fin 4 := ⟨t.val / 16, by omega⟩

/-- One where `s` is at or before `t` in the block of `t`. -/
def mi (t s : Fin 64) : ℝ := if s.val ≤ t.val ∧ t.val / 16 * 16 ≤ s.val then 1 else 0

/-- One where `s` is before the block of `t`. -/
def ms (t s : Fin 64) : ℝ := if s.val < t.val / 16 * 16 then 1 else 0

/-- One head's chunk as the forward pass has it: queries, keys, log decays, values and the state before it. -/
structure Fw where
  q : Fin 64 → Fin 128 → ℝ
  k : Fin 64 → Fin 128 → ℝ
  lf : Fin 64 → Fin 128 → ℝ
  v : Fin 64 → Fin 128 → ℝ
  S : Fin 128 → Fin 128 → ℝ

namespace Fw
variable (F : Fw)

/-- The log decay summed from the start of the row's block. -/
def inr (t : Fin 64) (d : Fin 128) : ℝ := ∑ s, mi t s * F.lf s d
/-- The log decay summed up to the row's block. -/
def sta (t : Fin 64) (d : Fin 128) : ℝ := ∑ s, ms t s * F.lf s d
/-- The log decay summed from the start of the chunk. -/
def b (t : Fin 64) (d : Fin 128) : ℝ := F.sta t d + F.inr t d
/-- The log decay of the whole chunk. -/
def bl (d : Fin 128) : ℝ := ∑ s, F.lf s d
def eb (t : Fin 64) (d : Fin 128) : ℝ := Real.exp (F.b t d)
def ei (t : Fin 64) (d : Fin 128) : ℝ := Real.exp (F.inr t d)
def qe (t : Fin 64) (d : Fin 128) : ℝ := F.q t d * F.eb t d
def qt (t : Fin 64) (d : Fin 128) : ℝ := F.q t d * F.ei t d
/-- A block's reference decay less a row's. -/
def x (B : Fin 4) (s : Fin 64) (d : Fin 128) : ℝ := (∑ i, F.sta (row B i) d) * (1 / 16) - F.b s d
def mn (B : Fin 4) (s : Fin 64) (d : Fin 128) : ℝ := Real.exp (min (F.x B s d) 80)
/-- The derivative of the minimum with 80. -/
def sl (B : Fin 4) (s : Fin 64) (d : Fin 128) : ℝ := if F.x B s d < 80 then 1 else if 80 = F.x B s d then 1 / 2 else 0
def kt (B : Fin 4) (s : Fin 64) (d : Fin 128) : ℝ := F.k s d * F.mn B s d
/-- The weights inside the chunk. -/
def P (t s : Fin 64) : ℝ := if s.val ≤ t.val then ∑ d, F.qt t d * F.kt (blk t) s d else 0
def o1 (t : Fin 64) (e : Fin 128) : ℝ := ∑ d, F.qe t d * F.S e d
/-- The output before the norm. -/
def o (t : Fin 64) (e : Fin 128) : ℝ := F.o1 t e + ∑ s, F.P t s * F.v s e
/-- The decay from a row to the chunk's end. -/
def ed (t : Fin 64) (d : Fin 128) : ℝ := Real.exp (F.bl d - F.b t d)
def kd (t : Fin 64) (d : Fin 128) : ℝ := F.k t d * F.ed t d
def el (d : Fin 128) : ℝ := Real.exp (F.bl d)
end Fw

/-- The chunk with the gradient of its output before the norm, and that of the state after it. -/
structure Bw extends Fw where
  c : Fin 64 → Fin 128 → ℝ
  D : Fin 128 → Fin 128 → ℝ

namespace Bw
variable (F : Bw)

def u (s : Fin 64) (d : Fin 128) : ℝ := ∑ e, F.v s e * F.D e d
def w (s : Fin 64) (d : Fin 128) : ℝ := F.k s d * F.u s d * F.ed s d
def cS (t : Fin 64) (d : Fin 128) : ℝ := ∑ e, F.c t e * F.S e d
/-- The gradient of a weight. -/
def dP (t s : Fin 64) : ℝ := ∑ e, F.c t e * F.v s e
def dqt (t : Fin 64) (d : Fin 128) : ℝ := ∑ s : Fin 64, if s.val ≤ t.val then F.dP t s * F.kt (blk t) s d else 0
def dkt (B : Fin 4) (s : Fin 64) (d : Fin 128) : ℝ :=
  ∑ i, if s.val ≤ (row B i).val then F.dP (row B i) s * F.qt (row B i) d else 0
def dx (B : Fin 4) (s : Fin 64) (d : Fin 128) : ℝ := F.k s d * F.dkt B s d * F.mn B s d * F.sl B s d
/-- The gradient of the keys. -/
def dk (s : Fin 64) (d : Fin 128) : ℝ :=
  F.u s d * F.ed s d + F.dkt 3 s d * F.mn 3 s d + F.dkt 2 s d * F.mn 2 s d + F.dkt 1 s d * F.mn 1 s d
    + F.dkt 0 s d * F.mn 0 s d
/-- The gradient of the decay from the chunk's start. -/
def db (s : Fin 64) (d : Fin 128) : ℝ :=
  0 - F.w s d + (0 - F.dx 3 s d) + (0 - F.dx 2 s d) + (0 - F.dx 1 s d) + (0 - F.dx 0 s d)
    + F.q s d * F.cS s d * F.eb s d
def dr (B : Fin 4) (d : Fin 128) : ℝ := (∑ s, F.dx B s d) * (1 / 16)
def dsta (t : Fin 64) (d : Fin 128) : ℝ := F.dr (blk t) d + F.db t d
def dinr (t : Fin 64) (d : Fin 128) : ℝ := F.q t d * F.dqt t d * F.ei t d + F.db t d
def dbl (d : Fin 128) : ℝ := (∑ e, F.S e d * F.D e d) * F.el d + ∑ s, F.w s d
/-- The gradient of the log decays. -/
def dlf (r : Fin 64) (d : Fin 128) : ℝ :=
  F.dbl d + ((∑ t, mi t r * F.dinr t d) + ∑ t, ms t r * F.dsta t d)
/-- The gradient of the values. -/
def dv (s : Fin 64) (e : Fin 128) : ℝ := (∑ d, F.kd s d * F.D e d) + ∑ t, F.P t s * F.c t e
/-- The gradient of the queries. -/
def dq (t : Fin 64) (d : Fin 128) : ℝ := F.dqt t d * F.ei t d + F.cS t d * F.eb t d
/-- The gradient of the state before the chunk. -/
def dS (e d : Fin 128) : ℝ := F.D e d * F.el d + ∑ t, F.c t e * F.qe t d
end Bw

/-- What a grid point reads, over the reals. -/
structure Rin where
  qr : Fin 16 → Fin 64 → Fin 128 → ℝ
  fr : Fin 16 → Fin 64 → Fin 128 → ℝ
  v : Fin 16 → Fin 64 → Fin 128 → ℝ
  z : Fin 16 → Fin 64 → Fin 128 → ℝ
  l0 : Fin 16 → Fin 128 → ℝ
  l1 : Fin 16 → Fin 128 → ℝ
  S : Fin 16 → Fin 128 → Fin 128 → ℝ
  g : Fin 128 → ℝ
  dout : Fin 16 → Fin 64 → Fin 128 → ℝ
  D : Fin 16 → Fin 128 → Fin 128 → ℝ

namespace Rin
variable (r : Rin)

def e0 (h : Fin 16) (d : Fin 128) : ℝ := Real.exp (r.l0 h d - max (r.l0 h d) (r.l1 h d))
def e1 (h : Fin 16) (d : Fin 128) : ℝ := Real.exp (r.l1 h d - max (r.l0 h d) (r.l1 h d))
def sm (h : Fin 16) (d : Fin 128) : ℝ := r.e0 h d + r.e1 h d
/-- The lower bound of the forget gate. -/
def lb (h : Fin 16) (d : Fin 128) : ℝ := r.e1 h d / r.sm h d
def f (h : Fin 16) (t : Fin 64) (d : Fin 128) : ℝ := r.lb h d + (1 - r.lb h d) * sigm (r.fr h t d)
def q (h : Fin 16) (t : Fin 64) (d : Fin 128) : ℝ := r.qr h t d * sigm (r.qr h t d)
def sq (h : Fin 16) (t : Fin 64) (d : Fin 128) : ℝ := sigm (r.qr h t d) * (1 - sigm (r.qr h t d))
def sf (h : Fin 16) (t : Fin 64) (d : Fin 128) : ℝ := sigm (r.fr h t d) * (1 - sigm (r.fr h t d))
def sz (h : Fin 16) (t : Fin 64) (d : Fin 128) : ℝ := sigm (r.z h t d) * (1 - sigm (r.z h t d))
def fw (h : Fin 16) : Fw :=
  ⟨r.q h, fun t d => 1 - r.f h t d, fun t d => Real.log (r.f h t d), r.v h, r.S h⟩
/-- The mean square of a row of the output. -/
def msq (h : Fin 16) (t : Fin 64) : ℝ := (∑ e, (r.fw h).o t e * (r.fw h).o t e) / 128 + normEps
def rs (h : Fin 16) (t : Fin 64) : ℝ := (Real.sqrt (r.msq h t))⁻¹
def on (h : Fin 16) (t : Fin 64) (e : Fin 128) : ℝ := (r.fw h).o t e * r.rs h t
def zz (h : Fin 16) (t : Fin 64) (e : Fin 128) : ℝ := r.z h t e * sigm (r.z h t e)
def y (h : Fin 16) (t : Fin 64) (e : Fin 128) : ℝ := r.dout h t e * r.zz h t e * r.g e
def aa (h : Fin 16) (t : Fin 64) : ℝ :=
  (∑ e, (r.fw h).o t e * r.y h t e) * (-(1 / 2) * (r.rs h t / r.msq h t)) / 128
/-- The gradient of the output before the norm. -/
def c (h : Fin 16) (t : Fin 64) (e : Fin 128) : ℝ :=
  r.y h t e * r.rs h t + (r.fw h).o t e * r.aa h t + r.aa h t * (r.fw h).o t e
def bw (h : Fin 16) : Bw := ⟨r.fw h, r.c h, r.D h⟩
def dz (h : Fin 16) (t : Fin 64) (e : Fin 128) : ℝ :=
  r.on h t e * r.g e * r.dout h t e * sigm (r.z h t e) + r.z h t e * (r.on h t e * r.g e * r.dout h t e) * r.sz h t e
def dg (e : Fin 128) : ℝ := ∑ h, ∑ t, r.on h t e * (r.dout h t e * r.zz h t e)
def df (h : Fin 16) (t : Fin 64) (d : Fin 128) : ℝ := (r.bw h).dlf t d / r.f h t d + (0 - (r.bw h).dk t d)
def dqr (h : Fin 16) (t : Fin 64) (d : Fin 128) : ℝ :=
  (r.bw h).dq t d * sigm (r.qr h t d) + r.qr h t d * (r.bw h).dq t d * r.sq h t d
def dfr (h : Fin 16) (t : Fin 64) (d : Fin 128) : ℝ := (1 - r.lb h d) * r.df h t d * r.sf h t d
def dL (h : Fin 16) (d : Fin 128) : ℝ := (∑ t, r.df h t d) + (0 - ∑ t, r.df h t d * sigm (r.fr h t d))
def c1 (h : Fin 16) (d : Fin 128) : ℝ :=
  (r.dL h d / r.sm h d + (0 - r.dL h d * (1 / (r.sm h d * r.sm h d)) * r.e1 h d)) * r.e1 h d
def c0 (h : Fin 16) (d : Fin 128) : ℝ := (0 - r.dL h d * (1 / (r.sm h d * r.sm h d)) * r.e1 h d) * r.e0 h d

theorem sm_pos (h : Fin 16) (d : Fin 128) : 0 < r.sm h d := by unfold sm e0 e1; positivity
theorem lb_pos (h : Fin 16) (d : Fin 128) : 0 < r.lb h d := by
  have := r.sm_pos h d; unfold lb e1; positivity
theorem lb_lt_one (h : Fin 16) (d : Fin 128) : r.lb h d < 1 := by
  have h0 : 0 < r.e0 h d := by unfold e0; positivity
  unfold lb; rw [div_lt_one (r.sm_pos h d)]; unfold sm; linarith
theorem f_pos (h : Fin 16) (t : Fin 64) (d : Fin 128) : 0 < r.f h t d := by
  have h1 := r.lb_pos h d; have h2 := r.lb_lt_one h d; have h3 := sigm_pos (r.fr h t d)
  have : 0 < (1 - r.lb h d) * sigm (r.fr h t d) := mul_pos (by linarith) h3
  unfold f; linarith
theorem f_lt_one (h : Fin 16) (t : Fin 64) (d : Fin 128) : r.f h t d < 1 := by
  have h2 := r.lb_lt_one h d; have h3 := sigm_lt_one (r.fr h t d)
  have : (1 - r.lb h d) * sigm (r.fr h t d) < (1 - r.lb h d) * 1 := mul_lt_mul_of_pos_left h3 (by linarith)
  unfold f; linarith
theorem msq_pos (h : Fin 16) (t : Fin 64) : 0 < r.msq h t := by
  have := normEps_pos
  have : 0 ≤ ∑ e, (r.fw h).o t e * (r.fw h).o t e := Finset.sum_nonneg fun e _ => mul_self_nonneg _
  unfold msq; positivity
/-- The gradients of the two exponentials under the shift by their maximum cancel. -/
theorem c1_add_c0 (h : Fin 16) (d : Fin 128) : r.c1 h d + r.c0 h d = 0 := by
  have h1 := (r.sm_pos h d).ne'
  have h2 : r.e0 h d = r.sm h d - r.e1 h d := by unfold sm; ring
  unfold c1 c0; rw [h2]; field_simp; ring
end Rin

end Cert.Spec

end
-- ==== Proof.Values1.lean ====
module

public import proofs.«01_k».proof.Proof.Chain
public import proofs.«01_k».proof.Proof.Spec

/-! The first part of a grid point's values over the reals: the gates, the decays and the output before the norm. -/

@[expose] public section

set_option maxRecDepth 16384

noncomputable section

namespace Cert.KernelIdeal.Chain

open Idealize.ShloMosaic Idealize.ShloMosaic.TcCoe Idealize.SL.Sem
open Cert.KernelIdeal Cert.KernelIdeal.Gen Cert.Reals Cert.Spec

/-- The arrays a grid point reads hold the real numbers `r`. -/
structure Reads (I : In) (r : Rin) : Prop where
  qraw : ∀ h t d, I.qraw (ix3 h t d) = ((r.qr h t d : ℝ) : EReal)
  fraw : ∀ h t d, I.fraw (ix3 h t d) = ((r.fr h t d : ℝ) : EReal)
  val : ∀ h t d, I.val (ix3 h t d) = ((r.v h t d : ℝ) : EReal)
  zraw : ∀ h t d, I.zraw (ix3 h t d) = ((r.z h t d : ℝ) : EReal)
  low : ∀ h t d, I.low (ix3 h t d) = ((r.l0 h d : ℝ) : EReal)
  high : ∀ h t d, I.high (ix3 h t d) = ((r.l1 h d : ℝ) : EReal)
  state : ∀ h e d, I.state (ix3 h e d) = ((r.S h e d : ℝ) : EReal)
  gain : ∀ t d, I.gain (ix2 t d) = ((r.g d : ℝ) : EReal)
  dout : ∀ h t d, I.dout (ix3 h t d) = ((r.dout h t d : ℝ) : EReal)
  carry : ∀ h e d, I.carry (ix3 h e d) = ((r.D h e d : ℝ) : EReal)

variable {I : In} {r : Rin} (H : Reads I r)
include H

theorem v238_at : ∀ h t d, v238 I (ix3 h t d) = (((r.e0 h d) : ℝ) : EReal) := by
  intro h t d
  unfold v238
  simp only [k0_pay18, k0_pay15]
  pointwise [H.low, H.high]
  simp only [mulR, addR, subR, sumR, expR, logistic_coe', max_coe, min_coe, ite_coe, zero_coe, one_coe]
  rfl

theorem v240_at : ∀ h t d, v240 I (ix3 h t d) = (((r.e1 h d) : ℝ) : EReal) := by
  intro h t d
  unfold v240
  simp only [k0_pay19, k0_pay15]
  pointwise [H.low, H.high]
  simp only [mulR, addR, subR, sumR, expR, logistic_coe', max_coe, min_coe, ite_coe, zero_coe, one_coe]
  rfl

theorem v241_at : ∀ h t d, v241 I (ix3 h t d) = (((r.sm h d) : ℝ) : EReal) := by
  intro h t d
  unfold v241
  simp only [k0_pay20, ← v238.eq_1, ← v240.eq_1]
  pointwise [v238_at H, v240_at H]
  simp only [mulR, addR, subR, sumR, expR, logistic_coe', max_coe, min_coe, ite_coe, zero_coe, one_coe]
  rfl

theorem v245_at : ∀ h t d, v245 I (ix3 h t d) = (((1 / (r.sm h d * r.sm h d)) : ℝ) : EReal) := by
  intro h t d
  unfold v245
  simp only [k0_pay22, ← v241.eq_1]
  pointwise [v241_at H]
  simp only [mulR, one_coe]
  exact div_coe_coe _ _ (mul_pos (r.sm_pos h d) (r.sm_pos h d)).ne'

theorem v247_at : ∀ h t d, v247 I (ix3 h t d) = (((1 - r.lb h d) : ℝ) : EReal) := by
  intro h t d
  unfold v247
  simp only [k0_pay23, k0_pay21, ← v240.eq_1, ← v241.eq_1]
  pointwise [v241_at H, v240_at H]
  rw [div_coe_coe _ _ (r.sm_pos h d).ne']
  simp only [subR, one_coe]
  rfl

theorem v248_at : ∀ h t d, v248 I (ix3 h t d) = (((sigm (r.fr h t d)) : ℝ) : EReal) := by
  intro h t d
  unfold v248
  simp only [k0_pay24]
  pointwise [H.fraw]
  exact logistic_coe' _

theorem v251_at : ∀ h t d, v251 I (ix3 h t d) = (((r.sf h t d) : ℝ) : EReal) := by
  intro h t d
  unfold v251
  simp only [k0_pay25, ← v248.eq_1]
  pointwise [v248_at H]
  simp only [mulR, addR, subR, sumR, expR, logistic_coe', max_coe, min_coe, ite_coe, zero_coe, one_coe]
  rfl

theorem v255_at : ∀ h t d, v255 I (ix3 h t d) = (((r.f h t d) : ℝ) : EReal) := by
  intro h t d
  unfold v255
  simp only [k0_pay26, k0_pay21, ← v240.eq_1, ← v241.eq_1, ← v247.eq_1, ← v248.eq_1]
  pointwise [v240_at H, v241_at H, v247_at H, v248_at H]
  rw [div_coe_coe _ _ (r.sm_pos h d).ne']
  simp only [addR, mulR]
  rfl

theorem v256_at : ∀ h t d, v256 I (ix3 h t d) = (((sigm (r.qr h t d)) : ℝ) : EReal) := by
  intro h t d
  unfold v256
  simp only [k0_pay27]
  pointwise [H.qraw]
  exact logistic_coe' _

theorem v259_at : ∀ h t d, v259 I (ix3 h t d) = (((r.sq h t d) : ℝ) : EReal) := by
  intro h t d
  unfold v259
  simp only [k0_pay28, ← v256.eq_1]
  pointwise [v256_at H]
  simp only [mulR, addR, subR, sumR, expR, logistic_coe', max_coe, min_coe, ite_coe, zero_coe, one_coe]
  rfl

theorem v260_at : ∀ h t d, v260 I (ix3 h t d) = ((((r.fw h).q t d) : ℝ) : EReal) := by
  intro h t d
  unfold v260
  simp only [k0_pay29, ← v256.eq_1]
  pointwise [v256_at H, H.qraw]
  simp only [mulR, addR, subR, sumR, expR, logistic_coe', max_coe, min_coe, ite_coe, zero_coe, one_coe]
  rfl

theorem v262_at : ∀ h t d, v262 I (ix3 h t d) = ((((r.fw h).k t d) : ℝ) : EReal) := by
  intro h t d
  unfold v262
  simp only [k0_pay31, v261, k0_pay30]
  pointwise [v255_at H]
  simp only [mulR, addR, subR, sumR, expR, logistic_coe', max_coe, min_coe, ite_coe, zero_coe, one_coe]
  rfl

theorem v263_at : ∀ h t d, v263 I (ix3 h t d) = ((((r.fw h).lf t d) : ℝ) : EReal) := by
  intro h t d
  unfold v263
  simp only [k0_pay32]
  pointwise [v255_at H]
  exact log_coe_pos _ (r.f_pos h t d)

end Cert.KernelIdeal.Chain

end
-- ==== Proof.Sums.lean ====
module

public import proofs.«01_k».proof.Proof.Heads
public import proofs.«01_k».proof.Proof.Values1

/-! The decays summed along a chunk: the kernel's product with a mask of ones, over the reals. -/

@[expose] public section

set_option maxRecDepth 16384

noncomputable section

namespace Cert.KernelIdeal.Chain

open Idealize.ShloMosaic Idealize.ShloMosaic.TcCoe Idealize.SL.Sem
open Cert.KernelIdeal Cert.KernelIdeal.Gen Cert.Reals Cert.Spec

/-- The mask times side-by-side rows, in two parts as the kernel takes it. -/
def maskDot (M : FVec Ideal S128x64 .f32) (Y : FVec Ideal S64x2048 .f32) : FVec Ideal S128x2048 .f32 :=
  addf
    (matmul dot_S128x64_S64x2048_S128x2048_1_0_0_1_n_n none (truncf .bf16 M bitsLt_bf16_f32)
      (truncf .bf16 Y bitsLt_bf16_f32) (constant S128x2048 .f32 0x00000000#32))
    (matmul dot_S128x64_S64x2048_S128x2048_1_0_0_1_n_n none (truncf .bf16 M bitsLt_bf16_f32)
      (truncf .bf16 (subf Y (extf .f32 (truncf .bf16 Y bitsLt_bf16_f32 : FVec Ideal S64x2048 .bf16) bitsLt_bf16_f32)) bitsLt_bf16_f32)
      (constant S128x2048 .f32 0x00000000#32))

theorem sitofp_one : (FloatOps.sitofp FTy.f32 (1#32) : Ideal .f32) = ((1 : ℝ) : EReal) := by
  show ((((1#32).toInt : ℝ)) : EReal) = _
  norm_num
theorem sitofp_zero : (FloatOps.sitofp FTy.f32 (0#32) : Ideal .f32) = ((0 : ℝ) : EReal) := by
  show ((((0#32).toInt : ℝ)) : EReal) = _
  norm_num

theorem bits_lo : ∀ t s : Fin 64, BitVec.setWidth 32
        (IntOp.andi (IntOp.cmpi CmpIPredicate.sge (BitVec.ofNat 32 t.val) (BitVec.ofNat 32 s.val))
          (IntOp.cmpi CmpIPredicate.sge (BitVec.ofNat 32 s.val)
            (IntOp.subi (BitVec.ofNat 32 t.val) (IntOp.andi (BitVec.ofNat 32 t.val) 15#32))))
      = if s.val ≤ t.val ∧ t.val / 16 * 16 ≤ s.val then 1#32 else 0#32 := by decide +kernel
theorem bits_hi : ∀ t s : Fin 64, BitVec.setWidth 32
        (IntOp.cmpi CmpIPredicate.slt (BitVec.ofNat 32 s.val)
          (IntOp.subi (BitVec.ofNat 32 t.val) (IntOp.andi (BitVec.ofNat 32 t.val) 15#32)))
      = if s.val < t.val / 16 * 16 then 1#32 else 0#32 := by decide +kernel

/-- The mask's upper half: the rows of the row's own block up to the row. -/
theorem v221_lo : ∀ t s : Fin 64, v221 (ix2 (⟨t.val, by omega⟩ : Fin 128) s) = ((mi t s : ℝ) : EReal) := by
  intro t s
  unfold v221 v208 v209 v212
  pointwise [k0_pay13, k0_pay14]
  rw [bits_lo]
  unfold mi
  split_ifs
  · exact sitofp_one
  · exact sitofp_zero

/-- The mask's lower half: the rows before the row's block. -/
theorem v221_hi : ∀ t s : Fin 64, v221 (ix2 (⟨64 + t.val, by omega⟩ : Fin 128) s) = ((ms t s : ℝ) : EReal) := by
  intro t s
  unfold v221 v208 v209 v212
  pointwise [k0_pay13, k0_pay14]
  rw [bits_hi]
  unfold ms
  split_ifs
  · exact sitofp_one
  · exact sitofp_zero

theorem maskDot_at (M : FVec Ideal S128x64 .f32) (Y : FVec Ideal S16x64x128 .f32) (r : Fin 128) (h : Fin 16) (d : Fin 128) :
    maskDot M (flat Y) (ix2 r (lane h d)) = (∑ s, M (ix2 r s) * Y (ix3 h s d)) + ∑ s, M (ix2 r s) * (Y (ix3 h s d) - Y (ix3 h s d)) := by
  pointwise [maskDot, flat_at]

theorem v304_eq (I : In) : v304 I = maskDot v221 (flat (v263 I)) := rfl
theorem v338_eq (I : In) : v338 I = stack (extractStridedSlice S64x2048 ![0, 0] (v304 I) slices_S128x2048_o0_0_S64x2048) := rfl
theorem v372_eq (I : In) : v372 I = stack (extractStridedSlice S64x2048 ![64, 0] (v304 I) slices_S128x2048_o64_0_S64x2048) := rfl

variable {I : In} {r : Rin} (H : Reads I r)
include H

theorem v338_at : ∀ h t d, v338 I (ix3 h t d) = (((r.fw h).inr t d : ℝ) : EReal) := by
  intro h t d
  rw [v338_eq, stack_at]
  pointwise [v304_eq, maskDot_at, v221_lo, v263_at H]
  simp only [mulR, addR, subR, sumR]
  congr 1
  simp [Fw.inr]

theorem v372_at : ∀ h t d, v372 I (ix3 h t d) = (((r.fw h).sta t d : ℝ) : EReal) := by
  intro h t d
  rw [v372_eq, stack_at]
  pointwise [v304_eq, maskDot_at, v221_hi, v263_at H]
  simp only [mulR, addR, subR, sumR]
  congr 1
  simp [Fw.sta]

theorem v373_at : ∀ h t d, v373 I (ix3 h t d) = (((r.fw h).b t d : ℝ) : EReal) := by
  intro h t d
  have e : v373 I = addf (v372 I) (v338 I) := rfl
  rw [e]
  pointwise [v372_at H, v338_at H]
  simp only [addR]
  rfl

theorem v376_at : ∀ h t d, v376 I (ix3 h t d) = (((r.fw h).eb t d : ℝ) : EReal) := by
  intro h t d
  have e : v376 I = Idealize.ShloMosaic.exp (v373 I) := rfl
  rw [e]
  pointwise [v373_at H]
  simp only [expR]
  rfl

theorem v377_at : ∀ h t d, v377 I (ix3 h t d) = (((r.fw h).qe t d : ℝ) : EReal) := by
  intro h t d
  have e : v377 I = mulf (v260 I) (v376 I) := rfl
  rw [e]
  pointwise [v376_at H, v260_at H]
  simp only [mulR]
  rfl

theorem v378_at : ∀ h t d, v378 I (ix3 h t d) = (((r.fw h).qe t d : ℝ) : EReal) := by
  intro h t d
  have e : v378 I = truncf .bf16 (v377 I) bitsLt_bf16_f32 := rfl
  rw [e]
  pointwise [v377_at H]

end Cert.KernelIdeal.Chain

end
-- ==== Proof.Values2.lean ====
module

public import proofs.«01_k».proof.Proof.Sums

/-! The decays, weights and the output of a grid point over the reals. -/

@[expose] public section

set_option maxRecDepth 16384

noncomputable section

namespace Cert.KernelIdeal.Chain

open Idealize.ShloMosaic Idealize.ShloMosaic.TcCoe Idealize.SL.Sem
open Cert.KernelIdeal Cert.KernelIdeal.Gen Cert.Reals Cert.Spec

/-- A block's weight between two rows. -/
def pr (F : Fw) (B : Fin 4) (t s : Fin 64) : ℝ := if s.val ≤ t.val then ∑ d, F.qt t d * F.kt B s d else 0
theorem pr_eq (F : Fw) (t s : Fin 64) : F.P t s = pr F (blk t) t s := rfl

theorem pr_idx (F : Fw) (B : Fin 4) (t t' s : Fin 64) (hB : blk t = B) (h : t'.val = t.val) :
    pr F B t' s = pr F (blk t) t s := by
  obtain rfl := Fin.ext h
  rw [hB]

theorem bits0 : ∀ (t : Fin 16) (s : Fin 64), IntOp.cmpi CmpIPredicate.sle (BitVec.ofNat 32 s.val)
    (IntOp.addi (BitVec.ofNat 32 t.val) 0#32) = if s.val ≤ t.val then 1#1 else 0#1 := by decide +kernel
theorem bits1 : ∀ (t : Fin 16) (s : Fin 64), IntOp.cmpi CmpIPredicate.sle (BitVec.ofNat 32 s.val)
    (IntOp.addi (BitVec.ofNat 32 t.val) 16#32) = if s.val ≤ 16 + t.val then 1#1 else 0#1 := by decide +kernel
theorem bits2 : ∀ (t : Fin 16) (s : Fin 64), IntOp.cmpi CmpIPredicate.sle (BitVec.ofNat 32 s.val)
    (IntOp.addi (BitVec.ofNat 32 t.val) 32#32) = if s.val ≤ 32 + t.val then 1#1 else 0#1 := by decide +kernel
theorem bits3 : ∀ (t : Fin 16) (s : Fin 64), IntOp.cmpi CmpIPredicate.sle (BitVec.ofNat 32 s.val)
    (IntOp.addi (BitVec.ofNat 32 t.val) 48#32) = if s.val ≤ 48 + t.val then 1#1 else 0#1 := by decide +kernel

theorem selR (p : Prop) [Decidable p] (x y : ℝ) :
    Scalar.select (if p then 1#1 else 0#1) (x : EReal) (y : EReal) = ((if p then x else y : ℝ) : EReal) := by
  split <;> rfl
/-- A select whose comparison with 80 gives one, one half at a tie, or zero. -/
theorem row_zero (i : Fin 16) : row 0 i = ⟨i.val, by omega⟩ := Fin.ext (by simp [row])

theorem v413_at : ∀ (h : Fin 16) (t : Fin 16) (s : Fin 64), v413 (ix3 h t s) = if s.val ≤ t.val then 1#1 else 0#1 := by
  intro h t s
  unfold v413
  pointwise [k0_pay64]
  exact bits0 t s

theorem v446_at : ∀ (h : Fin 16) (t : Fin 16) (s : Fin 64), v446 (ix3 h t s) = if s.val ≤ 16 + t.val then 1#1 else 0#1 := by
  intro h t s
  unfold v446
  pointwise [k0_pay72]
  exact bits1 t s

theorem v479_at : ∀ (h : Fin 16) (t : Fin 16) (s : Fin 64), v479 (ix3 h t s) = if s.val ≤ 32 + t.val then 1#1 else 0#1 := by
  intro h t s
  unfold v479
  pointwise [k0_pay79]
  exact bits2 t s

theorem v512_at : ∀ (h : Fin 16) (t : Fin 16) (s : Fin 64), v512 (ix3 h t s) = if s.val ≤ 48 + t.val then 1#1 else 0#1 := by
  intro h t s
  unfold v512
  pointwise [k0_pay87]
  exact bits3 t s

variable {I : In} {r : Rin} (H : Reads I r)
include H

theorem v375_at : ∀ h t d, v375 I (ix3 h t d) = ((((r.fw h).bl d) : ℝ) : EReal) := by
  intro h t d
  unfold v375
  simp only [k0_pay52]
  pointwise [v263_at H]
  simp only [mulR, addR, subR, sumR, expR, logistic_coe', max_coe, min_coe, ite_coe, zero_coe, one_coe]
  rfl

theorem v380_at : ∀ h t d, v380 I (ix3 h t d) = ((((r.fw h).o1 t d) : ℝ) : EReal) := by
  intro h t d
  unfold v380
  simp only [k0_pay56]
  pointwise [v378_at H, H.state]
  simp only [mulR, addR, subR, sumR, expR, logistic_coe', max_coe, min_coe, ite_coe, zero_coe, one_coe]
  rfl

theorem v381_at : ∀ h t d, v381 I (ix3 h t d) = ((((r.fw h).ei t d) : ℝ) : EReal) := by
  intro h t d
  unfold v381
  simp only [k0_pay57]
  pointwise [v338_at H]
  simp only [mulR, addR, subR, sumR, expR, logistic_coe', max_coe, min_coe, ite_coe, zero_coe, one_coe]
  rfl

theorem v382_at : ∀ h t d, v382 I (ix3 h t d) = ((((r.fw h).qt t d) : ℝ) : EReal) := by
  intro h t d
  unfold v382
  simp only [k0_pay58, k0_pay57, ← v381.eq_1]
  pointwise [v260_at H, v338_at H, v381_at H]
  simp only [mulR, addR, subR, sumR, expR, logistic_coe', max_coe, min_coe, ite_coe, zero_coe, one_coe]
  rfl

theorem v400_at : ∀ h t d, v400 I (ix3 h t d) = ((((r.fw h).sl 0 t d) : ℝ) : EReal) := by
  intro h t d
  unfold v400
  simp only [k0_pay60, k0_pay59]
  pointwise [v372_at H, v373_at H, ofBits_80, ofBits_sixteenth, ofBits_half]
  simp only [← row_zero]
  simp only [mulR, addR, subR, sumR, expR, logistic_coe', max_coe, min_coe, ite_coe, zero_coe, one_coe, EReal.coe_lt_coe_iff, EReal.coe_eq_coe_iff]
  congr 1

theorem v401_at : ∀ h t d, v401 I (ix3 h t d) = ((((r.fw h).mn 0 t d) : ℝ) : EReal) := by
  intro h t d
  unfold v401
  simp only [k0_pay61, k0_pay59]
  pointwise [v372_at H, v373_at H, ofBits_80, ofBits_sixteenth, ofBits_half]
  simp only [← row_zero]
  simp only [mulR, addR, subR, sumR, expR, logistic_coe', max_coe, min_coe, ite_coe, zero_coe, one_coe]
  rfl

theorem v402_at : ∀ h t d, v402 I (ix3 h t d) = ((((r.fw h).kt 0 t d) : ℝ) : EReal) := by
  intro h t d
  unfold v402
  simp only [k0_pay62, k0_pay61, k0_pay59]
  pointwise [v372_at H, v373_at H, ofBits_80, ofBits_sixteenth, ofBits_half, v262_at H]
  simp only [← row_zero]
  simp only [mulR, addR, subR, sumR, expR, logistic_coe', max_coe, min_coe, ite_coe, zero_coe, one_coe]
  rfl

theorem v422_at : ∀ h t d, v422 I (ix3 h t d) = ((((r.fw h).x 1 t d) : ℝ) : EReal) := by
  intro h t d
  unfold v422
  simp only [k0_pay66]
  pointwise [v372_at H, v373_at H, ofBits_sixteenth]
  simp only [mulR, addR, subR, sumR, expR, logistic_coe', max_coe, min_coe, ite_coe, zero_coe, one_coe]
  rfl

theorem v423_at : ∀ h t d, v423 (ix3 h t d) = ((80 : ℝ) : EReal) := by
  clear H
  intro h t d
  unfold v423
  simp only [k0_pay67]
  pointwise [ofBits_80]

theorem v433_at : ∀ h t d, v433 I (ix3 h t d) = ((((r.fw h).sl 1 t d) : ℝ) : EReal) := by
  intro h t d
  unfold v433
  simp only [k0_pay68]
  pointwise [v422_at H, v423_at H, ofBits_80, ofBits_half]
  simp only [mulR, addR, subR, sumR, expR, logistic_coe', max_coe, min_coe, ite_coe, zero_coe, one_coe, EReal.coe_lt_coe_iff, EReal.coe_eq_coe_iff]
  congr 1

theorem v434_at : ∀ h t d, v434 I (ix3 h t d) = ((((r.fw h).mn 1 t d) : ℝ) : EReal) := by
  intro h t d
  unfold v434
  simp only [k0_pay69]
  pointwise [v422_at H, v423_at H, ofBits_80, ofBits_half]
  simp only [mulR, addR, subR, sumR, expR, logistic_coe', max_coe, min_coe, ite_coe, zero_coe, one_coe]
  rfl

theorem v435_at : ∀ h t d, v435 I (ix3 h t d) = ((((r.fw h).kt 1 t d) : ℝ) : EReal) := by
  intro h t d
  unfold v435
  simp only [k0_pay70, k0_pay69]
  pointwise [v422_at H, v423_at H, ofBits_80, ofBits_half, v262_at H]
  simp only [mulR, addR, subR, sumR, expR, logistic_coe', max_coe, min_coe, ite_coe, zero_coe, one_coe]
  rfl

theorem v466_at : ∀ h t d, v466 I (ix3 h t d) = ((((r.fw h).sl 2 t d) : ℝ) : EReal) := by
  intro h t d
  unfold v466
  simp only [k0_pay75, k0_pay74]
  pointwise [v372_at H, v373_at H, ofBits_80, ofBits_sixteenth, ofBits_half]
  simp only [mulR, addR, subR, sumR, expR, logistic_coe', max_coe, min_coe, ite_coe, zero_coe, one_coe, EReal.coe_lt_coe_iff, EReal.coe_eq_coe_iff]
  congr 1

theorem v467_at : ∀ h t d, v467 I (ix3 h t d) = ((((r.fw h).mn 2 t d) : ℝ) : EReal) := by
  intro h t d
  unfold v467
  simp only [k0_pay76, k0_pay74]
  pointwise [v372_at H, v373_at H, ofBits_80, ofBits_sixteenth, ofBits_half]
  simp only [mulR, addR, subR, sumR, expR, logistic_coe', max_coe, min_coe, ite_coe, zero_coe, one_coe]
  rfl

theorem v468_at : ∀ h t d, v468 I (ix3 h t d) = ((((r.fw h).kt 2 t d) : ℝ) : EReal) := by
  intro h t d
  unfold v468
  simp only [k0_pay77]
  pointwise [v372_at H, v373_at H, ofBits_80, ofBits_sixteenth, ofBits_half, v262_at H, v467_at H]
  simp only [mulR, addR, subR, sumR, expR, logistic_coe', max_coe, min_coe, ite_coe, zero_coe, one_coe]
  rfl

theorem v499_at : ∀ h t d, v499 I (ix3 h t d) = ((((r.fw h).sl 3 t d) : ℝ) : EReal) := by
  intro h t d
  unfold v499
  simp only [k0_pay82, k0_pay81]
  pointwise [v372_at H, v373_at H, ofBits_80, ofBits_sixteenth, ofBits_half]
  simp only [mulR, addR, subR, sumR, expR, logistic_coe', max_coe, min_coe, ite_coe, zero_coe, one_coe, EReal.coe_lt_coe_iff, EReal.coe_eq_coe_iff]
  congr 1

theorem v500_at : ∀ h t d, v500 I (ix3 h t d) = ((((r.fw h).mn 3 t d) : ℝ) : EReal) := by
  intro h t d
  unfold v500
  simp only [k0_pay83, k0_pay81]
  pointwise [v372_at H, v373_at H, ofBits_80, ofBits_sixteenth, ofBits_half]
  simp only [mulR, addR, subR, sumR, expR, logistic_coe', max_coe, min_coe, ite_coe, zero_coe, one_coe]
  rfl

theorem v501_at : ∀ h t d, v501 I (ix3 h t d) = ((((r.fw h).kt 3 t d) : ℝ) : EReal) := by
  intro h t d
  unfold v501
  simp only [k0_pay84, k0_pay83, k0_pay81]
  pointwise [v372_at H, v373_at H, ofBits_80, ofBits_sixteenth, ofBits_half, v262_at H]
  simp only [mulR, addR, subR, sumR, expR, logistic_coe', max_coe, min_coe, ite_coe, zero_coe, one_coe]
  rfl

theorem v403_at : ∀ h i d, v403 I (ix3 h i d) = ((((r.fw h).qt ⟨i.val, by omega⟩ d) : ℝ) : EReal) := by
  intro h i d
  unfold v403
  simp only [k0_pay63, k0_pay58, k0_pay57, ← v382.eq_1]
  pointwise [v260_at H, v338_at H]
  simp only [mulR, expR]
  rfl

theorem v436_at : ∀ h i d, v436 I (ix3 h i d) = ((((r.fw h).qt ⟨16 + i.val, by omega⟩ d) : ℝ) : EReal) := by
  intro h i d
  unfold v436
  simp only [k0_pay71]
  pointwise [v382_at H]

theorem v469_at : ∀ h i d, v469 I (ix3 h i d) = ((((r.fw h).qt ⟨32 + i.val, by omega⟩ d) : ℝ) : EReal) := by
  intro h i d
  unfold v469
  simp only [k0_pay78]
  pointwise [v382_at H]

theorem v502_at : ∀ h i d, v502 I (ix3 h i d) = ((((r.fw h).qt ⟨48 + i.val, by omega⟩ d) : ℝ) : EReal) := by
  intro h i d
  unfold v502
  simp only [k0_pay85]
  pointwise [v382_at H]

theorem v415_at : ∀ h i s, v415 I (ix3 h i s) = (((pr (r.fw h) 0 ⟨i.val, by omega⟩ s) : ℝ) : EReal) := by
  intro h i s
  unfold v415
  simp only [k0_pay65, ← v413.eq_1, ← v403.eq_1, ← v402.eq_1]
  pointwise [v413_at, v403_at H, v402_at H]
  simp only [mulR, addR, subR, sumR, expR, logistic_coe', max_coe, min_coe, ite_coe, zero_coe, one_coe, selR]
  rfl

theorem v448_at : ∀ h i s, v448 I (ix3 h i s) = (((pr (r.fw h) 1 ⟨16 + i.val, by omega⟩ s) : ℝ) : EReal) := by
  intro h i s
  unfold v448
  simp only [k0_pay73, ← v446.eq_1, ← v436.eq_1, ← v435.eq_1]
  pointwise [v446_at, v436_at H, v435_at H]
  simp only [mulR, addR, subR, sumR, expR, logistic_coe', max_coe, min_coe, ite_coe, zero_coe, one_coe, selR]
  rfl

theorem v481_at : ∀ h i s, v481 I (ix3 h i s) = (((pr (r.fw h) 2 ⟨32 + i.val, by omega⟩ s) : ℝ) : EReal) := by
  intro h i s
  unfold v481
  simp only [k0_pay80, ← v479.eq_1, ← v469.eq_1, ← v468.eq_1]
  pointwise [v479_at, v469_at H, v468_at H]
  simp only [mulR, addR, subR, sumR, expR, logistic_coe', max_coe, min_coe, ite_coe, zero_coe, one_coe, selR]
  rfl

theorem v505_at : ∀ h i s, v505 I (ix3 h i s) = (((∑ d, (r.fw h).qt ⟨48 + i.val, by omega⟩ d * (r.fw h).kt 3 s d) : ℝ) : EReal) := by
  intro h i s
  unfold v505
  simp only [k0_pay86, ← v502.eq_1, ← v501.eq_1]
  pointwise [v502_at H, v501_at H]
  simp only [mulR, addR, subR, sumR, expR, logistic_coe', max_coe, min_coe, ite_coe, zero_coe, one_coe, selR]

theorem v513_at : ∀ (h : Fin 16) (i : Fin 16) (s : Fin 64), v513 (ix3 h i s) = ((0 : ℝ) : EReal) := by
  clear H
  intro h i s
  unfold v513
  pointwise [k0_pay88]
  rfl

theorem v515_at : ∀ h t s, v515 I (ix3 h t s) = ((((r.fw h).P t s) : ℝ) : EReal) := by
  intro h t s
  unfold v515
  simp only [k0_pay89]
  pointwise [v415_at H, v448_at H, v481_at H, v505_at H, v512_at, v513_at H]
  simp only [selR]
  rw [pr_eq]
  have ht := t.isLt
  by_cases h0 : t.val < 16
  · rw [dif_pos h0]
    exact congrArg _ (pr_idx _ _ _ _ _ (Fin.ext (show t.val / 16 = 0 by omega)) rfl)
  rw [dif_neg h0]
  by_cases h1 : t.val - 16 < 16
  · rw [dif_pos h1]
    exact congrArg _ (pr_idx _ _ _ _ _ (Fin.ext (show t.val / 16 = 1 by omega)) (show 16 + (t.val - 16) = t.val by omega))
  rw [dif_neg h1]
  by_cases h2 : t.val - 16 - 16 < 16
  · rw [dif_pos h2]
    exact congrArg _ (pr_idx _ _ _ _ _ (Fin.ext (show t.val / 16 = 2 by omega)) (show 32 + (t.val - 16 - 16) = t.val by omega))
  rw [dif_neg h2]
  exact congrArg _ (pr_idx (r.fw h) 3 t ⟨48 + (t.val - 16 - 16 - 16), by omega⟩ s (Fin.ext (show t.val / 16 = 3 by omega))
    (show 48 + (t.val - 16 - 16 - 16) = t.val by omega))

theorem v519_at : ∀ h t d, v519 I (ix3 h t d) = ((((r.fw h).o t d) : ℝ) : EReal) := by
  intro h t d
  unfold v519
  simp only [k0_pay90, ← v515.eq_1]
  pointwise [v380_at H, v515_at H, H.val]
  simp only [mulR, addR, subR, sumR, expR, logistic_coe', max_coe, min_coe, ite_coe, zero_coe, one_coe]
  rfl

theorem v522_at : ∀ h t d, v522 I (ix3 h t d) = ((((r.fw h).ed t d) : ℝ) : EReal) := by
  intro h t d
  unfold v522
  simp only [k0_pay91]
  pointwise [v373_at H, v375_at H]
  simp only [mulR, addR, subR, sumR, expR, logistic_coe', max_coe, min_coe, ite_coe, zero_coe, one_coe]
  rfl

theorem v523_at : ∀ h t d, v523 I (ix3 h t d) = ((((r.fw h).kd t d) : ℝ) : EReal) := by
  intro h t d
  unfold v523
  simp only [k0_pay92, k0_pay91, ← v522.eq_1]
  pointwise [v262_at H, v522_at H, v373_at H, v375_at H]
  simp only [mulR, addR, subR, sumR, expR, logistic_coe', max_coe, min_coe, ite_coe, zero_coe, one_coe]
  rfl

theorem pay93_at : ∀ h t (u : Fin 1), k0_pay93 I.val (v380 I) (v415 I) (v448 I) (v481 I) (v505 I) v512 v513 (ix3 h t u) = ((r.msq h t : ℝ) : EReal) := by
  intro h t u
  simp only [k0_pay93, ← v519.eq_1]
  pointwise [v519_at H, ofBits_128, ofBits_eps]
  simp only [mulR, sumR]
  rw [div_coe_coe _ _ (by norm_num : (128:ℝ) ≠ 0)]
  simp only [addR]
  rfl

theorem v531_at : ∀ h t (u : Fin 1), v531 I (ix3 h t u) = (((r.rs h t) : ℝ) : EReal) := by
  intro h t u
  unfold v531
  simp only [k0_pay94]
  pointwise [pay93_at H]
  exact rsqrt_coe_pos _ (r.msq_pos h t)

theorem v534_at : ∀ h t (u : Fin 1), v534 I (ix3 h t u) = (((-(1 / 2) * (r.rs h t / r.msq h t)) : ℝ) : EReal) := by
  intro h t u
  unfold v534
  simp only [k0_pay95, ← v531.eq_1]
  pointwise [pay93_at H, v531_at H, ofBits_neg_half]
  rw [div_coe_coe _ _ (r.msq_pos h t).ne']
  simp only [mulR]

theorem v536_at : ∀ h t d, v536 I (ix3 h t d) = (((r.on h t d) : ℝ) : EReal) := by
  intro h t d
  unfold v536
  simp only [k0_pay96, ← v519.eq_1, ← v531.eq_1]
  pointwise [v519_at H, v531_at H]
  simp only [mulR, addR, subR, sumR, expR, logistic_coe', max_coe, min_coe, ite_coe, zero_coe, one_coe]
  rfl

theorem v537_at : ∀ (a b : Fin 1) (d : Fin 128), v537 I (ix3 a b d) = (((r.g d) : ℝ) : EReal) := by
  intro a b d
  unfold v537
  simp only [k0_pay97]
  pointwise [H.gain]

theorem v539_at : ∀ h t d, v539 I (ix3 h t d) = (((r.on h t d * r.g d) : ℝ) : EReal) := by
  intro h t d
  unfold v539
  simp only [k0_pay98, ← v536.eq_1, ← v537.eq_1]
  pointwise [v536_at H, v537_at H]
  simp only [mulR]

theorem v540_at : ∀ h t d, v540 I (ix3 h t d) = (((sigm (r.z h t d)) : ℝ) : EReal) := by
  intro h t d
  unfold v540
  simp only [k0_pay99]
  pointwise [H.zraw]
  exact logistic_coe' _

theorem v543_at : ∀ h t d, v543 I (ix3 h t d) = (((r.sz h t d) : ℝ) : EReal) := by
  intro h t d
  unfold v543
  simp only [k0_pay100, ← v540.eq_1]
  pointwise [v540_at H]
  simp only [mulR, addR, subR, sumR, expR, logistic_coe', max_coe, min_coe, ite_coe, zero_coe, one_coe]
  rfl

theorem v544_at : ∀ h t d, v544 I (ix3 h t d) = (((r.zz h t d) : ℝ) : EReal) := by
  intro h t d
  unfold v544
  simp only [k0_pay101, ← v540.eq_1]
  pointwise [v540_at H, H.zraw]
  simp only [mulR, addR, subR, sumR, expR, logistic_coe', max_coe, min_coe, ite_coe, zero_coe, one_coe]
  rfl

theorem v545_at : ∀ h t d, v545 I (ix3 h t d) = (((Fw.el (r.fw h) d) : ℝ) : EReal) := by
  intro h t d
  unfold v545
  simp only [k0_pay102]
  pointwise [v375_at H]
  simp only [mulR, addR, subR, sumR, expR, logistic_coe', max_coe, min_coe, ite_coe, zero_coe, one_coe]
  rfl

end Cert.KernelIdeal.Chain

end
-- ==== Proof.Values3.lean ====
module

public import proofs.«01_k».proof.Proof.Values2

/-! A grid point's gradients over the reals. -/

@[expose] public section

set_option maxRecDepth 16384

noncomputable section

namespace Cert.KernelIdeal.Chain

open Idealize.ShloMosaic Idealize.ShloMosaic.TcCoe Idealize.SL.Sem
open Cert.KernelIdeal Cert.KernelIdeal.Gen Cert.Reals Cert.Spec

/-- A block's part of the gradient of the scaled queries. -/
def gq (F : Bw) (B : Fin 4) (t : Fin 64) (d : Fin 128) : ℝ :=
  ∑ s : Fin 64, if s.val ≤ t.val then F.dP t s * F.kt B s d else 0
theorem gq_eq (F : Bw) (t : Fin 64) (d : Fin 128) : F.dqt t d = gq F (blk t) t d := rfl
theorem gq_idx (F : Bw) (B : Fin 4) (t t' : Fin 64) (d : Fin 128) (h : t'.val = t.val) : gq F B t' d = gq F B t d := by
  obtain rfl := Fin.ext h
  rfl
theorem dkt_zero (F : Bw) (s : Fin 64) (d : Fin 128) : F.dkt 0 s d =
    ∑ i : Fin 16, if s.val ≤ i.val then F.dP ⟨i.val, by omega⟩ s * F.qt ⟨i.val, by omega⟩ d else 0 := by
  simp only [Bw.dkt, row_zero]
theorem diteR (p : Prop) [Decidable p] (x : p → ℝ) (y : ¬ p → ℝ) :
    (if h : p then ((x h : ℝ) : EReal) else ((y h : ℝ) : EReal)) = ((if h : p then x h else y h : ℝ) : EReal) := by
  split <;> rfl
/-- The four blocks' parts, each kept where its rows are, make the gradient of the scaled queries. -/
theorem gq_parts (F : Bw) (t : Fin 64) (d : Fin 128) :
    ((if t.val < 48 then 0 else gq F 3 t d) + (if t.val < 32 then 0 else if t.val - 32 < 16 then gq F 2 t d else 0))
      + (if t.val < 16 then 0 else if t.val - 16 < 16 then gq F 1 t d else 0) + (if t.val < 16 then gq F 0 t d else 0)
      = F.dqt t d := by
  have ht := t.isLt
  rw [gq_eq]
  rcases (by omega : t.val < 16 ∨ (16 ≤ t.val ∧ t.val < 32) ∨ (32 ≤ t.val ∧ t.val < 48) ∨ 48 ≤ t.val) with h | h | h | h
  · rw [show blk t = 0 from Fin.ext (show t.val / 16 = 0 by omega), if_pos (by omega), if_pos (by omega), if_pos h, if_pos h]; ring
  · rw [show blk t = 1 from Fin.ext (show t.val / 16 = 1 by omega), if_pos (by omega), if_pos (by omega), if_neg (by omega),
      if_pos (by omega), if_neg (by omega)]; ring
  · rw [show blk t = 2 from Fin.ext (show t.val / 16 = 2 by omega), if_pos (by omega), if_neg (by omega), if_pos (by omega),
      if_neg (by omega), if_neg (by omega), if_neg (by omega)]; ring
  · rw [show blk t = 3 from Fin.ext (show t.val / 16 = 3 by omega), if_neg (by omega), if_neg (by omega), if_neg (by omega),
      if_neg (by omega), if_neg (by omega), if_neg (by omega)]; ring

theorem kt_eq (F : Fw) (B : Fin 4) (s : Fin 64) (d : Fin 128) : F.k s d * F.mn B s d = F.kt B s d := rfl

variable {I : In} {r : Rin} (H : Reads I r)
include H

theorem v580_at : ∀ h e d, v580 I (ix3 h e d) = (((r.D h e d) : ℝ) : EReal) := by
  intro h e d
  unfold v580
  simp only [k0_pay104]
  pointwise [H.carry]

theorem v584_at : ∀ h t e, v584 I (ix3 h t e) = (((∑ d, (r.fw h).kd t d * r.D h e d) : ℝ) : EReal) := by
  intro h t e
  unfold v584
  simp only [k0_pay106, k0_pay105, k0_pay104]
  pointwise [v523_at H, H.carry]
  simp only [mulR, addR, subR, sumR, expR, logistic_coe', max_coe, min_coe, ite_coe, zero_coe, one_coe]

theorem v587_at : ∀ h t d, v587 I (ix3 h t d) = ((((r.bw h).u t d) : ℝ) : EReal) := by
  intro h t d
  unfold v587
  simp only [k0_pay107, k0_pay105, k0_pay104]
  pointwise [H.val, H.carry]
  simp only [mulR, addR, subR, sumR, expR, logistic_coe', max_coe, min_coe, ite_coe, zero_coe, one_coe]
  rfl

theorem v589_at : ∀ h d, v589 I (ix2 h d) = (((∑ e, r.S h e d * r.D h e d) : ℝ) : EReal) := by
  intro h d
  unfold v589
  simp only [k0_pay108, k0_pay104]
  pointwise [H.state, H.carry]
  simp only [mulR, addR, subR, sumR, expR, logistic_coe', max_coe, min_coe, ite_coe, zero_coe, one_coe]

theorem v592_at : ∀ h e d, v592 I (ix3 h e d) = (((r.D h e d * (r.fw h).el d) : ℝ) : EReal) := by
  intro h e d
  unfold v592
  simp only [k0_pay109]
  pointwise [v580_at H, v545_at H]
  simp only [mulR, addR, subR, sumR, expR, logistic_coe', max_coe, min_coe, ite_coe, zero_coe, one_coe]

theorem v599_at : ∀ h t d, v599 I (ix3 h t d) = (((r.dz h t d) : ℝ) : EReal) := by
  intro h t d
  unfold v599
  simp only [k0_pay111]
  pointwise [H.zraw, v539_at H, v540_at H, v543_at H, H.dout]
  simp only [mulR, addR, subR, sumR, expR, logistic_coe', max_coe, min_coe, ite_coe, zero_coe, one_coe]
  rfl

theorem v621_at : ∀ h t d, v621 I (ix3 h t d) = (((r.c h t d) : ℝ) : EReal) := by
  intro h t d
  unfold v621
  simp only [k0_pay113, k0_pay110]
  pointwise [v519_at H, v531_at H, v534_at H, v537_at H, v544_at H, H.dout, ofBits_128]
  simp only [mulR, addR, subR, sumR, expR, logistic_coe', max_coe, min_coe, ite_coe, zero_coe, one_coe, div_coe_coe _ _ (by norm_num : (128:ℝ) ≠ 0)]
  simp only [Finset.univ_unique, Finset.sum_singleton]
  rfl

theorem v623_at : ∀ h t d, v623 I (ix3 h t d) = ((((r.bw h).u t d * (r.fw h).ed t d) : ℝ) : EReal) := by
  intro h t d
  unfold v623
  simp only [k0_pay114]
  pointwise [v522_at H, v587_at H]
  simp only [mulR, addR, subR, sumR, expR, logistic_coe', max_coe, min_coe, ite_coe, zero_coe, one_coe]

theorem v628_at : ∀ h t d, v628 I (ix3 h t d) = (((0 - (r.bw h).w t d) : ℝ) : EReal) := by
  intro h t d
  unfold v628
  simp only [k0_pay116, k0_pay115]
  pointwise [v262_at H, v522_at H, v587_at H]
  simp only [mulR, addR, subR, sumR, expR, logistic_coe', max_coe, min_coe, ite_coe, zero_coe, one_coe]
  rfl

theorem v629_at : ∀ h (u : Fin 1) d, v629 I (ix3 h u d) = ((((r.bw h).dbl d) : ℝ) : EReal) := by
  intro h (u : Fin 1) d
  unfold v629
  simp only [k0_pay117, k0_pay115]
  pointwise [v262_at H, v522_at H, v545_at H, v587_at H, v589_at H]
  simp only [mulR, addR, subR, sumR, expR, logistic_coe', max_coe, min_coe, ite_coe, zero_coe, one_coe]
  rfl

theorem v636_at : ∀ h t d, v636 I (ix3 h t d) = ((((r.bw h).dv t d) : ℝ) : EReal) := by
  intro h t d
  unfold v636
  simp only [k0_pay119, k0_pay118, ← v621.eq_1]
  pointwise [v515_at H, v584_at H, v621_at H]
  simp only [mulR, addR, subR, sumR, expR, logistic_coe', max_coe, min_coe, ite_coe, zero_coe, one_coe]
  rfl

theorem v637_at : ∀ h i s, v637 I (ix3 h i s) = ((((r.bw h).dP ⟨i.val, by omega⟩ s) : ℝ) : EReal) := by
  intro h i s
  unfold v637
  simp only [k0_pay120, k0_pay118, ← v621.eq_1]
  pointwise [v621_at H, H.val]
  simp only [mulR, addR, subR, sumR, expR, logistic_coe', max_coe, min_coe, ite_coe, zero_coe, one_coe]
  rfl

theorem v638_at : ∀ h i s, v638 I (ix3 h i s) = ((((r.bw h).dP ⟨16 + i.val, by omega⟩ s) : ℝ) : EReal) := by
  intro h i s
  unfold v638
  simp only [k0_pay121, k0_pay118, ← v621.eq_1]
  pointwise [v621_at H, H.val]
  simp only [mulR, addR, subR, sumR, expR, logistic_coe', max_coe, min_coe, ite_coe, zero_coe, one_coe]
  rfl

theorem v639_at : ∀ h i s, v639 I (ix3 h i s) = ((((r.bw h).dP ⟨32 + i.val, by omega⟩ s) : ℝ) : EReal) := by
  intro h i s
  unfold v639
  simp only [k0_pay122, k0_pay118, ← v621.eq_1]
  pointwise [v621_at H, H.val]
  simp only [mulR, addR, subR, sumR, expR, logistic_coe', max_coe, min_coe, ite_coe, zero_coe, one_coe]
  rfl

theorem v640_at : ∀ h i s, v640 I (ix3 h i s) = ((((r.bw h).dP ⟨48 + i.val, by omega⟩ s) : ℝ) : EReal) := by
  intro h i s
  unfold v640
  simp only [k0_pay123, k0_pay118, ← v621.eq_1]
  pointwise [v621_at H, H.val]
  simp only [mulR, addR, subR, sumR, expR, logistic_coe', max_coe, min_coe, ite_coe, zero_coe, one_coe]
  rfl

theorem v660_at : ∀ h s d, v660 I (ix3 h s d) = (((0 - (r.bw h).w s d + (0 - (r.bw h).dx 3 s d)) : ℝ) : EReal) := by
  intro h s d
  unfold v660
  simp only [k0_pay127, k0_pay126, k0_pay125, k0_pay124]
  pointwise [v512_at, v640_at H, v502_at H, v500_at H, v499_at H, v262_at H, v628_at H]
  simp only [mulR, addR, subR, sumR, expR, logistic_coe', max_coe, min_coe, ite_coe, zero_coe, one_coe, selR, ite_mul, zero_mul]
  rfl

theorem v667_at : ∀ h t d, v667 I (ix3 h t d) = (((if t.val < 48 then 0 else (r.bw h).dr 3 d) : ℝ) : EReal) := by
  intro h t d
  unfold v667
  simp only [k0_pay128, k0_pay126, k0_pay125, k0_pay124]
  pointwise [v512_at, v640_at H, v502_at H, v500_at H, v499_at H, v262_at H, ofBits_sixteenth]
  simp only [mulR, addR, subR, sumR, expR, logistic_coe', max_coe, min_coe, ite_coe, zero_coe, one_coe, selR, ite_mul, zero_mul, diteR, dite_eq_ite]
  simp only [Finset.univ_unique, Finset.sum_singleton]
  rfl

theorem v679_at : ∀ h t d, v679 I (ix3 h t d) = ((((if t.val < 48 then 0 else gq (r.bw h) 3 t d) + (if t.val < 32 then 0 else if t.val - 32 < 16 then gq (r.bw h) 2 t d else 0)) : ℝ) : EReal) := by
  intro h t d
  unfold v679
  simp only [k0_pay131, k0_pay130, k0_pay129, k0_pay124]
  pointwise [v512_at, v640_at H, v502_at H, v500_at H, v499_at H, v262_at H, v479_at, v639_at H, v469_at H, v467_at H, v466_at H, v262_at H, v501_at H, v468_at H]
  simp only [mulR, addR, subR, sumR, expR, logistic_coe', max_coe, min_coe, ite_coe, zero_coe, one_coe, selR, ite_mul, zero_mul, diteR, dite_eq_ite]
  refine congrArg (fun x : ℝ => (x : EReal)) (congrArg₂ (· + ·) ?_ ?_)
  · by_cases h0 : t.val < 48
    · rw [if_pos h0, dif_pos h0]
    · rw [if_neg h0, dif_neg h0]
      exact gq_idx _ 3 t ⟨48 + (t.val - 48), by omega⟩ d (show 48 + (t.val - 48) = t.val by omega)
  · by_cases h0 : t.val < 32
    · simp only [if_pos h0]
    simp only [if_neg h0]
    by_cases h1 : t.val - 32 < 16
    · rw [if_pos h1, dif_pos h1]
      exact gq_idx _ 2 t ⟨32 + (t.val - 32), by omega⟩ d (show 32 + (t.val - 32) = t.val by omega)
    · rw [if_neg h1, dif_neg h1]

theorem v682_at : ∀ h s d, v682 I (ix3 h s d) = ((((r.bw h).u s d * (r.fw h).ed s d + (r.bw h).dkt 3 s d * (r.fw h).mn 3 s d + (r.bw h).dkt 2 s d * (r.fw h).mn 2 s d) : ℝ) : EReal) := by
  intro h s d
  unfold v682
  simp only [k0_pay132, k0_pay130, k0_pay129, k0_pay125, k0_pay124]
  pointwise [v512_at, v640_at H, v502_at H, v500_at H, v499_at H, v262_at H, v479_at, v639_at H, v469_at H, v467_at H, v466_at H, v262_at H, v623_at H]
  simp only [mulR, addR, subR, sumR, expR, logistic_coe', max_coe, min_coe, ite_coe, zero_coe, one_coe, selR, ite_mul, zero_mul]
  rfl

theorem v684_at : ∀ h s d, v684 I (ix3 h s d) = ((((r.bw h).dx 2 s d) : ℝ) : EReal) := by
  intro h s d
  unfold v684
  simp only [k0_pay133, k0_pay130, k0_pay129]
  pointwise [v479_at, v639_at H, v469_at H, v467_at H, v466_at H, v262_at H]
  simp only [mulR, addR, subR, sumR, expR, logistic_coe', max_coe, min_coe, ite_coe, zero_coe, one_coe, selR, ite_mul, zero_mul]
  rfl

theorem v685_at : ∀ h d, v685 I (ix2 h d) = (((∑ s, (r.bw h).dx 2 s d) : ℝ) : EReal) := by
  intro h d
  unfold v685
  simp only [k0_pay134, ← v684.eq_1]
  pointwise [v684_at H]
  exact sumR _ _

theorem v710_at : ∀ h t d, v710 I (ix3 h t d) = ((((if t.val < 48 then 0 else gq (r.bw h) 3 t d) + (if t.val < 32 then 0 else if t.val - 32 < 16 then gq (r.bw h) 2 t d else 0) + (if t.val < 16 then 0 else if t.val - 16 < 16 then gq (r.bw h) 1 t d else 0)) : ℝ) : EReal) := by
  intro h t d
  unfold v710
  simp only [k0_pay137, k0_pay136, k0_pay135]
  pointwise [v446_at, v638_at H, v436_at H, v434_at H, v433_at H, v262_at H, v679_at H, v435_at H]
  simp only [mulR, addR, subR, sumR, expR, logistic_coe', max_coe, min_coe, ite_coe, zero_coe, one_coe, selR, ite_mul, zero_mul, diteR, dite_eq_ite]
  refine congrArg (fun x : ℝ => (x : EReal)) (congrArg₂ (· + ·) rfl ?_)
  by_cases h0 : t.val < 16
  · simp only [if_pos h0]
  simp only [if_neg h0]
  by_cases h1 : t.val - 16 < 16
  · rw [if_pos h1, dif_pos h1]
    exact gq_idx _ 1 t ⟨16 + (t.val - 16), by omega⟩ d (show 16 + (t.val - 16) = t.val by omega)
  · rw [if_neg h1, dif_neg h1]

theorem v713_at : ∀ h s d, v713 I (ix3 h s d) = ((((r.bw h).u s d * (r.fw h).ed s d + (r.bw h).dkt 3 s d * (r.fw h).mn 3 s d + (r.bw h).dkt 2 s d * (r.fw h).mn 2 s d + (r.bw h).dkt 1 s d * (r.fw h).mn 1 s d) : ℝ) : EReal) := by
  intro h s d
  unfold v713
  simp only [k0_pay138, k0_pay136, k0_pay135]
  pointwise [v446_at, v638_at H, v436_at H, v434_at H, v433_at H, v262_at H, v682_at H]
  simp only [mulR, addR, subR, sumR, expR, logistic_coe', max_coe, min_coe, ite_coe, zero_coe, one_coe, selR, ite_mul, zero_mul]
  rfl

theorem v720_at : ∀ h s d, v720 I (ix3 h s d) = (((0 - (r.bw h).w s d + (0 - (r.bw h).dx 3 s d) + (0 - (r.bw h).dx 2 s d) + (0 - (r.bw h).dx 1 s d)) : ℝ) : EReal) := by
  intro h s d
  unfold v720
  simp only [k0_pay140, k0_pay139, k0_pay136, k0_pay135]
  pointwise [v446_at, v638_at H, v436_at H, v434_at H, v433_at H, v262_at H, v660_at H, v684_at H]
  simp only [mulR, addR, subR, sumR, expR, logistic_coe', max_coe, min_coe, ite_coe, zero_coe, one_coe, selR, ite_mul, zero_mul]
  rfl

theorem v729_at : ∀ h t d, v729 I (ix3 h t d) = (((if t.val < 16 then 0 else (r.bw h).dr (blk t) d) : ℝ) : EReal) := by
  intro h t d
  unfold v729
  simp only [k0_pay141, k0_pay139, k0_pay136, k0_pay135]
  pointwise [v446_at, v638_at H, v436_at H, v434_at H, v433_at H, v262_at H, v667_at H, v685_at H, ofBits_sixteenth]
  simp only [mulR, addR, subR, sumR, expR, logistic_coe', max_coe, min_coe, ite_coe, zero_coe, one_coe, selR, ite_mul, zero_mul, diteR, dite_eq_ite]
  simp only [Finset.univ_unique, Finset.sum_singleton]
  refine congrArg (fun x : ℝ => (x : EReal)) ?_
  have ht := t.isLt
  rcases (by omega : t.val < 16 ∨ (16 ≤ t.val ∧ t.val < 32) ∨ (32 ≤ t.val ∧ t.val < 48) ∨ 48 ≤ t.val) with h | h | h | h
  · rw [if_pos (by omega), if_pos (by omega), if_pos h, if_pos h]; ring
  · rw [show blk t = 1 from Fin.ext (show t.val / 16 = 1 by omega), if_pos (by omega), if_pos (by omega), if_neg (by omega),
      if_pos (by omega), if_neg (by omega), zero_add, zero_add]; rfl
  · rw [show blk t = 2 from Fin.ext (show t.val / 16 = 2 by omega), if_pos (by omega), if_neg (by omega), if_pos (by omega),
      if_neg (by omega), if_neg (by omega), if_neg (by omega), zero_add, add_zero]; rfl
  · rw [show blk t = 3 from Fin.ext (show t.val / 16 = 3 by omega), if_neg (by omega), if_neg (by omega), if_neg (by omega),
      if_neg (by omega), if_neg (by omega), if_neg (by omega), add_zero, add_zero]

theorem v743_at : ∀ h s d, v743 I (ix3 h s d) = ((((r.bw h).dk s d) : ℝ) : EReal) := by
  intro h s d
  unfold v743
  simp only [k0_pay145, k0_pay144, k0_pay143, k0_pay142]
  pointwise [v413_at, v637_at H, v403_at H, v401_at H, v400_at H, v262_at H, v713_at H]
  simp only [mulR, addR, subR, sumR, expR, logistic_coe', max_coe, min_coe, ite_coe, zero_coe, one_coe, selR, ite_mul, zero_mul]
  simp only [Bw.dk, Bw.dx]
  rw [dkt_zero]
  rfl

theorem v761_at : ∀ h t d, v761 I (ix3 h t d) = ((((r.fw h).q t d * (r.bw h).dqt t d * (r.fw h).ei t d) : ℝ) : EReal) := by
  intro h t d
  unfold v761
  simp only [k0_pay147, k0_pay146, k0_pay144, k0_pay143, k0_pay142]
  pointwise [v413_at, v637_at H, v403_at H, v401_at H, v400_at H, v262_at H, v710_at H, v260_at H, v381_at H, v402_at H]
  simp only [mulR, addR, subR, sumR, expR, logistic_coe', max_coe, min_coe, ite_coe, zero_coe, one_coe, selR, ite_mul, zero_mul, diteR, dite_eq_ite]
  exact congrArg (fun x : ℝ => (((r.fw h).q t d * x * (r.fw h).ei t d : ℝ) : EReal)) (gq_parts (r.bw h) t d)

theorem v768_at : ∀ h e d, v768 I (ix3 h e d) = ((((r.bw h).dS e d) : ℝ) : EReal) := by
  intro h e d
  unfold v768
  simp only [k0_pay149, k0_pay148]
  pointwise [v592_at H, v621_at H, v377_at H]
  simp only [mulR, addR, subR, sumR, expR, logistic_coe', max_coe, min_coe, ite_coe, zero_coe, one_coe]
  rfl

theorem v771_at : ∀ h t d, v771 I (ix3 h t d) = ((((r.bw h).dq t d) : ℝ) : EReal) := by
  intro h t d
  unfold v771
  simp only [k0_pay150, k0_pay148, k0_pay146, k0_pay144, k0_pay143, k0_pay142]
  pointwise [v413_at, v637_at H, v403_at H, v401_at H, v400_at H, v262_at H, v710_at H, v381_at H, v402_at H, v621_at H, v376_at H, H.state]
  simp only [mulR, addR, subR, sumR, expR, logistic_coe', max_coe, min_coe, ite_coe, zero_coe, one_coe, selR, ite_mul, zero_mul, diteR, dite_eq_ite]
  exact congrArg (fun x : ℝ => ((x * (r.fw h).ei t d + (r.bw h).cS t d * (r.fw h).eb t d : ℝ) : EReal)) (gq_parts (r.bw h) t d)

theorem v773_at : ∀ h s d, v773 I (ix3 h s d) = ((((r.bw h).db s d) : ℝ) : EReal) := by
  intro h s d
  unfold v773
  simp only [k0_pay151, k0_pay148, k0_pay146, k0_pay144, k0_pay143, k0_pay142]
  pointwise [v413_at, v637_at H, v403_at H, v401_at H, v400_at H, v262_at H, v720_at H, v621_at H, v376_at H, H.state, v260_at H]
  simp only [mulR, addR, subR, sumR, expR, logistic_coe', max_coe, min_coe, ite_coe, zero_coe, one_coe, selR, ite_mul, zero_mul]
  simp only [Bw.db, Bw.dx]
  rw [dkt_zero]
  rfl

theorem pay146_at : ∀ h s d, k0_pay146 (v262 I) (v400 I) (v401 I) (v403 I) v413 (v637 I) (ix3 h s d) = (((r.bw h).dx 0 s d : ℝ) : EReal) := by
  intro h s d
  simp only [k0_pay146, k0_pay144, k0_pay143, k0_pay142]
  pointwise [v413_at, v637_at H, v403_at H, v401_at H, v400_at H, v262_at H]
  simp only [mulR, addR, subR, sumR, expR, logistic_coe', max_coe, min_coe, ite_coe, zero_coe, one_coe, selR, ite_mul, zero_mul]
  simp only [Bw.dx]
  rw [dkt_zero]
  rfl

theorem v777_at : ∀ h t d, v777 I (ix3 h t d) = ((((r.bw h).dsta t d) : ℝ) : EReal) := by
  intro h t d
  unfold v777
  simp only [k0_pay153, ← v773.eq_1]
  pointwise [v773_at H, v729_at H, pay146_at H, ofBits_sixteenth]
  simp only [mulR, addR, subR, sumR, expR, logistic_coe', max_coe, min_coe, ite_coe, zero_coe, one_coe, diteR, dite_eq_ite]
  simp only [Finset.univ_unique, Finset.sum_singleton]
  refine congrArg (fun x : ℝ => (x : EReal)) ?_
  unfold Bw.dsta
  refine congrArg₂ (· + ·) ?_ rfl
  by_cases h0 : t.val < 16
  · rw [if_pos h0, if_pos h0, show blk t = 0 from Fin.ext (show t.val / 16 = 0 by omega), zero_add]; rfl
  · rw [if_neg h0, if_neg h0, add_zero]

theorem v776_at : ∀ h t d, v776 I (ix3 h t d) = ((((r.bw h).dbl d) : ℝ) : EReal) := by
  intro h t d
  unfold v776
  simp only [k0_pay152]
  pointwise [v629_at H]
  simp only [mulR, addR, subR, sumR, expR, logistic_coe', max_coe, min_coe, ite_coe, zero_coe, one_coe]
  simp only [Finset.univ_unique, Finset.sum_singleton]

theorem v778_at : ∀ h t d, v778 I (ix3 h t d) = ((((r.bw h).dinr t d) : ℝ) : EReal) := by
  intro h t d
  unfold v778
  simp only [k0_pay154]
  pointwise [v761_at H, v773_at H]
  simp only [mulR, addR, subR, sumR, expR, logistic_coe', max_coe, min_coe, ite_coe, zero_coe, one_coe]
  rfl

end Cert.KernelIdeal.Chain

end
-- ==== Proof.TwoAxes.lean ====
module

public import proofs.«01_k».proof.Proof.Reals

/-! Sums over the first two axes of a rank-three array. -/

@[expose] public section

namespace Cert.Reals

open Idealize.ShloMosaic

variable {n0 n1 n2 : Nat}

theorem reduces_fiber (h : (⟨3, ![n0, n1, n2]⟩ : Shape).Reduces [0, 1] ⟨1, ![n2]⟩) (d : Fin n2)
    (i : (⟨3, ![n0, n1, n2]⟩ : Shape).Idx) : h.drop i = ix1 d ↔ ∃ k : Fin n0 × Fin n1, ix3 k.1 k.2 d = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem reduces_sum (h : (⟨3, ![n0, n1, n2]⟩ : Shape).Reduces [0, 1] ⟨1, ![n2]⟩) (d : Fin n2)
    (v : (⟨3, ![n0, n1, n2]⟩ : Shape).Idx → EReal) :
    ∑ i ∈ Finset.univ.filter (fun i => h.drop i = ix1 d), v i = ∑ a : Fin n0, ∑ b : Fin n1, v (ix3 a b d) := by
  refine (Finset.sum_filter_eq_sum_of_fiber _ (fun k : Fin n0 × Fin n1 => ix3 k.1 k.2 d)
    (fun _ _ e => Prod.ext (congrFun e 0) (congrFun e 1)) (reduces_fiber h d) v).trans ?_
  simp only [Fintype.sum_prod_type]

theorem reducesTo_fiber (h : (⟨3, ![n0, n1, n2]⟩ : Shape).ReducesTo [0, 1] ⟨1, ![n2]⟩) (d : Fin n2)
    (i : (⟨3, ![n0, n1, n2]⟩ : Shape).Idx) : h.drop i = ix1 d ↔ ∃ k : Fin n0 × Fin n1, ix3 k.1 k.2 d = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem reducesTo_sum (h : (⟨3, ![n0, n1, n2]⟩ : Shape).ReducesTo [0, 1] ⟨1, ![n2]⟩) (d : Fin n2)
    (v : (⟨3, ![n0, n1, n2]⟩ : Shape).Idx → EReal) :
    ∑ i ∈ Finset.univ.filter (fun i => h.drop i = ix1 d), v i = ∑ a : Fin n0, ∑ b : Fin n1, v (ix3 a b d) := by
  refine (Finset.sum_filter_eq_sum_of_fiber _ (fun k : Fin n0 × Fin n1 => ix3 k.1 k.2 d)
    (fun _ _ e => Prod.ext (congrFun e 0) (congrFun e 1)) (reducesTo_fiber h d) v).trans ?_
  simp only [Fintype.sum_prod_type]

/-- A kernel's sum over the first two axes. -/
theorem reduceAdd_first (h : (⟨3, ![n0, n1, n2]⟩ : Shape).Reduces [0, 1] ⟨1, ![n2]⟩) (d : Fin n2)
    (v : (⟨3, ![n0, n1, n2]⟩ : Shape).Idx → EReal) :
    Ideal.reduceAdd h v (ix1 d) = ∑ a : Fin n0, ∑ b : Fin n1, v (ix3 a b d) := reduces_sum h d v

/-- The host's sum over the first two axes. -/
theorem hostReduceAdd_first (h : (⟨3, ![n0, n1, n2]⟩ : Shape).ReducesTo [0, 1] ⟨1, ![n2]⟩) (d : Fin n2)
    (v : (⟨3, ![n0, n1, n2]⟩ : Shape).Idx → EReal) (init : EReal) :
    Ideal.hostReduceAdd h v init (ix1 d) = init + ∑ a : Fin n0, ∑ b : Fin n1, v (ix3 a b d) :=
  congrArg (init + ·) (reducesTo_sum h d v)

end Cert.Reals

end
-- ==== Proof.Values4.lean ====
module

public import proofs.«01_k».proof.Proof.Values3
public import proofs.«01_k».proof.Proof.TwoAxes

/-! The gradients a grid point stores, over the reals: of the gates' arguments, the lower bounds and the gain. -/

@[expose] public section

set_option maxRecDepth 16384

noncomputable section

namespace Cert.KernelIdeal.Chain

open Idealize.ShloMosaic Idealize.ShloMosaic.TcCoe Idealize.SL.Sem
open Cert.KernelIdeal Cert.KernelIdeal.Gen Cert.Reals Cert.Spec

/-- The mask's transpose times stacked rows, in two parts as the kernel takes it. -/
def maskDotT (M : FVec Ideal S128x64 .f32) (Y : FVec Ideal S128x2048 .f32) : FVec Ideal S64x2048 .f32 :=
  addf
    (matmul dot_S128x64_S128x2048_S64x2048_0_0_1_1_n_n none (truncf .bf16 M bitsLt_bf16_f32)
      (truncf .bf16 Y bitsLt_bf16_f32) (constant S64x2048 .f32 0x00000000#32))
    (matmul dot_S128x64_S128x2048_S64x2048_0_0_1_1_n_n none (truncf .bf16 M bitsLt_bf16_f32)
      (truncf .bf16 (subf Y (extf .f32 (truncf .bf16 Y bitsLt_bf16_f32 : FVec Ideal S128x2048 .bf16) bitsLt_bf16_f32)) bitsLt_bf16_f32)
      (constant S64x2048 .f32 0x00000000#32))

theorem maskDotT_at (M : FVec Ideal S128x64 .f32) (Y : FVec Ideal S128x2048 .f32) (t : Fin 64) (l : Fin 2048) :
    maskDotT M Y (ix2 t l) = (∑ x, M (ix2 x t) * Y (ix2 x l)) + ∑ x, M (ix2 x t) * (Y (ix2 x l) - Y (ix2 x l)) := by
  pointwise [maskDotT]

/-- What the transposed mask is applied to. -/
def both (A B : FVec Ideal S64x2048 .f32) : FVec Ideal S128x2048 .f32 :=
  addf
    (concatenate S128x2048 0 [⟨S64x2048, broadcast S64x2048 (Scalar.ofBits .f32 0x00000000#32)⟩, ⟨S64x2048, B⟩]
      concatenates_S64x2048_S64x2048_S128x2048_d0)
    (concatenate S128x2048 0 [⟨S64x2048, A⟩, ⟨S64x2048, broadcast S64x2048 (Scalar.ofBits .f32 0x00000000#32)⟩]
      concatenates_S64x2048_S64x2048_S128x2048_d0)

theorem both_lo (A B : FVec Ideal S64x2048 .f32) (t : Fin 64) (l : Fin 2048) :
    both A B (ix2 (⟨t.val, by omega⟩ : Fin 128) l) = A (ix2 t l) := by
  pointwise [both]
theorem both_hi (A B : FVec Ideal S64x2048 .f32) (t : Fin 64) (l : Fin 2048) :
    both A B (ix2 (⟨64 + t.val, by omega⟩ : Fin 128) l) = B (ix2 t l) := by
  pointwise [both]

theorem v892_eq (I : In) : v892 I = divf (addf (v776 I) (stack (maskDotT v221 (both (flat (v778 I)) (flat (v777 I)))))) (v255 I) := rfl

/-- A sum over 128 rows is one over the first 64 and one over the last 64. -/
theorem sum_halves (g : Fin 128 → EReal) :
    (∑ x, g x) = (∑ t : Fin 64, g ⟨t.val, by omega⟩) + ∑ t : Fin 64, g ⟨64 + t.val, by omega⟩ :=
  Fin.sum_univ_add (a := 64) (b := 64) g

variable {I : In} {r : Rin} (H : Reads I r)
include H

theorem v892_at : ∀ h t d, v892 I (ix3 h t d) = (((r.bw h).dlf t d / r.f h t d : ℝ) : EReal) := by
  intro h t d
  rw [v892_eq]
  pointwise [stack_at, maskDotT_at, v776_at H, v255_at H]
  simp only [sum_halves, both_lo, both_hi, flat_at, v221_lo, v221_hi, v777_at H, v778_at H]
  simp only [mulR, addR, subR, sumR]
  rw [div_coe_coe _ _ (r.f_pos h t d).ne']
  congr 2
  simp only [sub_self, mul_zero, Finset.sum_const_zero, add_zero]
  rfl

theorem pay169_at : ∀ h t d, k0_pay169 (v743 I) (v892 I) cst_291 (ix3 h t d) = ((r.df h t d : ℝ) : EReal) := by
  intro h t d
  simp only [k0_pay169, cst_291]
  pointwise [v743_at H, v892_at H]
  simp only [mulR, addR, subR, sumR, expR, logistic_coe', max_coe, min_coe, ite_coe, zero_coe, one_coe]
  rfl

theorem v899_at : ∀ h t d, v899 I (ix3 h t d) = ((r.dqr h t d : ℝ) : EReal) := by
  intro h t d
  unfold v899
  simp only [k0_pay170]
  pointwise [H.qraw, v256_at H, v259_at H, v771_at H]
  simp only [mulR, addR, subR, sumR, expR, logistic_coe', max_coe, min_coe, ite_coe, zero_coe, one_coe]
  rfl

theorem v907_at : ∀ h t d, v907 I (ix3 h t d) = ((r.dfr h t d : ℝ) : EReal) := by
  intro h t d
  unfold v907
  simp only [k0_pay171]
  pointwise [v247_at H, v251_at H, pay169_at H]
  simp only [mulR, addR, subR, sumR, expR, logistic_coe', max_coe, min_coe, ite_coe, zero_coe, one_coe]
  rfl

theorem pay172_at : ∀ h (u : Fin 1) d, k0_pay172 (v248 I) (v743 I) (v892 I) cst_291 (ix3 h u d) = ((r.dL h d : ℝ) : EReal) := by
  intro h u d
  simp only [k0_pay172]
  pointwise [v248_at H, pay169_at H]
  simp only [mulR, addR, subR, sumR, expR, logistic_coe', max_coe, min_coe, ite_coe, zero_coe, one_coe]
  rfl

theorem pay173_at : ∀ h (u : Fin 1) d, k0_pay173 (v240 I) (v245 I) (v248 I) (v743 I) (v892 I) cst_291 (ix3 h u d)
    = ((0 - r.dL h d * (1 / (r.sm h d * r.sm h d)) * r.e1 h d : ℝ) : EReal) := by
  intro h u d
  simp only [k0_pay173]
  pointwise [pay172_at H, v245_at H, v240_at H]
  simp only [mulR, addR, subR, sumR, expR, logistic_coe', max_coe, min_coe, ite_coe, zero_coe, one_coe]

theorem pay174_at : ∀ h (u : Fin 1) d, k0_pay174 (v240 I) (v241 I) (v245 I) (v248 I) (v743 I) (v892 I) cst_291 (ix3 h u d)
    = ((r.c1 h d : ℝ) : EReal) := by
  intro h u d
  simp only [k0_pay174]
  pointwise [pay172_at H, pay173_at H, v241_at H, v240_at H]
  rw [div_coe_coe _ _ (r.sm_pos h d).ne']
  simp only [mulR, addR, subR, sumR, expR, logistic_coe', max_coe, min_coe, ite_coe, zero_coe, one_coe]
  rfl

theorem pay175_at : ∀ h (u : Fin 1) d, k0_pay175 (v238 I) (v240 I) (v245 I) (v248 I) (v743 I) (v892 I) cst_291 (ix3 h u d)
    = ((r.c0 h d : ℝ) : EReal) := by
  intro h u d
  simp only [k0_pay175]
  pointwise [pay173_at H, v238_at H]
  simp only [mulR, addR, subR, sumR, expR, logistic_coe', max_coe, min_coe, ite_coe, zero_coe, one_coe]
  rfl

/-- What reaches the maximum is zero. -/
theorem pay176_at : ∀ h (u : Fin 1) d, k0_pay176 (v238 I) (v240 I) (v241 I) (v245 I) (v248 I) (v743 I) (v892 I) cst_291 (ix3 h u d)
    = (0 : EReal) := by
  intro h u d
  simp only [k0_pay176]
  pointwise [pay174_at H, pay175_at H]
  simp only [mulR, addR, subR, sumR, expR, logistic_coe', max_coe, min_coe, ite_coe, zero_coe, one_coe]
  refine congrArg (fun x : ℝ => (x : EReal)) ?_
  have := r.c1_add_c0 h d
  linarith

theorem v925_at : ∀ h (u : Fin 1) d, v925 I (ix3 h u d) = ((r.c1 h d : ℝ) : EReal) := by
  intro h u d
  unfold v925
  simp only [k0_pay177]
  pointwise [pay174_at H, pay176_at H]
  rw [zero_mul, add_zero]

theorem v927_at : ∀ h (u : Fin 1) d, v927 I (ix3 h u d) = ((r.c0 h d : ℝ) : EReal) := by
  intro h u d
  unfold v927
  simp only [k0_pay178]
  pointwise [pay175_at H, pay176_at H]
  rw [zero_mul, add_zero]

theorem v606_at : ∀ (u : Fin 1) d, v606 I (ix2 u d) = ((r.dg d : ℝ) : EReal) := by
  intro u d
  unfold v606
  simp only [k0_pay112, k0_pay110]
  pointwise [v536_at H, v544_at H, H.dout]
  rw [reduceAdd_first]
  simp only [Finset.univ_unique, Finset.sum_singleton]
  pointwise [reduceAdd_first, v536_at H, v544_at H, H.dout]
  simp only [mulR, sumR]
  rfl

end Cert.KernelIdeal.Chain

end
-- ==== Proof.Bridge.lean ====
module

public import proofs.«01_k».proof.Proof.Values4
public import proofs.«01_k».proof.Proof.Gen.KernelIdeal.Value
public import Idealize.ShloMosaic.Lib.Pipeline.ValueKit
public import Idealize.ShloMosaic.Lib.Pipeline.ReadBack

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

variable (m : (ℓ : Loc nD τ sig) → Buf (Elt Ideal) ℓ)

/-- What grid point `t` reads, with `carry` the gradient of the state after its chunk: the loaded slices of the
point's blocks, stacked by heads. -/
def chunkIn (c : Dev nD) (t : Fin cfg0.N) (carry : FVec Ideal S16x128x128 .f32) : In where
  qraw := k0_pay6 (View.ld (iblk m c 0 t) (Rect.unit ![0, 0] ![64, 128] inb_S64x8192_S64x128_0_0))
      (View.ld (iblk m c 0 t) (Rect.unit ![0, 128] ![64, 128] inb_S64x8192_S64x128_0_128))
      (View.ld (iblk m c 0 t) (Rect.unit ![0, 256] ![64, 128] inb_S64x8192_S64x128_0_256))
      (View.ld (iblk m c 0 t) (Rect.unit ![0, 384] ![64, 128] inb_S64x8192_S64x128_0_384))
      (View.ld (iblk m c 0 t) (Rect.unit ![0, 512] ![64, 128] inb_S64x8192_S64x128_0_512))
      (View.ld (iblk m c 0 t) (Rect.unit ![0, 640] ![64, 128] inb_S64x8192_S64x128_0_640))
      (View.ld (iblk m c 0 t) (Rect.unit ![0, 768] ![64, 128] inb_S64x8192_S64x128_0_768))
      (View.ld (iblk m c 0 t) (Rect.unit ![0, 896] ![64, 128] inb_S64x8192_S64x128_0_896))
      (View.ld (iblk m c 0 t) (Rect.unit ![0, 1024] ![64, 128] inb_S64x8192_S64x128_0_1024))
      (View.ld (iblk m c 0 t) (Rect.unit ![0, 1152] ![64, 128] inb_S64x8192_S64x128_0_1152))
      (View.ld (iblk m c 0 t) (Rect.unit ![0, 1280] ![64, 128] inb_S64x8192_S64x128_0_1280))
      (View.ld (iblk m c 0 t) (Rect.unit ![0, 1408] ![64, 128] inb_S64x8192_S64x128_0_1408))
      (View.ld (iblk m c 0 t) (Rect.unit ![0, 1536] ![64, 128] inb_S64x8192_S64x128_0_1536))
      (View.ld (iblk m c 0 t) (Rect.unit ![0, 1664] ![64, 128] inb_S64x8192_S64x128_0_1664))
      (View.ld (iblk m c 0 t) (Rect.unit ![0, 1792] ![64, 128] inb_S64x8192_S64x128_0_1792))
      (View.ld (iblk m c 0 t) (Rect.unit ![0, 1920] ![64, 128] inb_S64x8192_S64x128_0_1920))
  fraw := k0_pay7 (View.ld (iblk m c 0 t) (Rect.unit ![0, 2048] ![64, 128] inb_S64x8192_S64x128_0_2048))
      (View.ld (iblk m c 0 t) (Rect.unit ![0, 2176] ![64, 128] inb_S64x8192_S64x128_0_2176))
      (View.ld (iblk m c 0 t) (Rect.unit ![0, 2304] ![64, 128] inb_S64x8192_S64x128_0_2304))
      (View.ld (iblk m c 0 t) (Rect.unit ![0, 2432] ![64, 128] inb_S64x8192_S64x128_0_2432))
      (View.ld (iblk m c 0 t) (Rect.unit ![0, 2560] ![64, 128] inb_S64x8192_S64x128_0_2560))
      (View.ld (iblk m c 0 t) (Rect.unit ![0, 2688] ![64, 128] inb_S64x8192_S64x128_0_2688))
      (View.ld (iblk m c 0 t) (Rect.unit ![0, 2816] ![64, 128] inb_S64x8192_S64x128_0_2816))
      (View.ld (iblk m c 0 t) (Rect.unit ![0, 2944] ![64, 128] inb_S64x8192_S64x128_0_2944))
      (View.ld (iblk m c 0 t) (Rect.unit ![0, 3072] ![64, 128] inb_S64x8192_S64x128_0_3072))
      (View.ld (iblk m c 0 t) (Rect.unit ![0, 3200] ![64, 128] inb_S64x8192_S64x128_0_3200))
      (View.ld (iblk m c 0 t) (Rect.unit ![0, 3328] ![64, 128] inb_S64x8192_S64x128_0_3328))
      (View.ld (iblk m c 0 t) (Rect.unit ![0, 3456] ![64, 128] inb_S64x8192_S64x128_0_3456))
      (View.ld (iblk m c 0 t) (Rect.unit ![0, 3584] ![64, 128] inb_S64x8192_S64x128_0_3584))
      (View.ld (iblk m c 0 t) (Rect.unit ![0, 3712] ![64, 128] inb_S64x8192_S64x128_0_3712))
      (View.ld (iblk m c 0 t) (Rect.unit ![0, 3840] ![64, 128] inb_S64x8192_S64x128_0_3840))
      (View.ld (iblk m c 0 t) (Rect.unit ![0, 3968] ![64, 128] inb_S64x8192_S64x128_0_3968))
  val := k0_pay8 (View.ld (iblk m c 0 t) (Rect.unit ![0, 4096] ![64, 128] inb_S64x8192_S64x128_0_4096))
      (View.ld (iblk m c 0 t) (Rect.unit ![0, 4224] ![64, 128] inb_S64x8192_S64x128_0_4224))
      (View.ld (iblk m c 0 t) (Rect.unit ![0, 4352] ![64, 128] inb_S64x8192_S64x128_0_4352))
      (View.ld (iblk m c 0 t) (Rect.unit ![0, 4480] ![64, 128] inb_S64x8192_S64x128_0_4480))
      (View.ld (iblk m c 0 t) (Rect.unit ![0, 4608] ![64, 128] inb_S64x8192_S64x128_0_4608))
      (View.ld (iblk m c 0 t) (Rect.unit ![0, 4736] ![64, 128] inb_S64x8192_S64x128_0_4736))
      (View.ld (iblk m c 0 t) (Rect.unit ![0, 4864] ![64, 128] inb_S64x8192_S64x128_0_4864))
      (View.ld (iblk m c 0 t) (Rect.unit ![0, 4992] ![64, 128] inb_S64x8192_S64x128_0_4992))
      (View.ld (iblk m c 0 t) (Rect.unit ![0, 5120] ![64, 128] inb_S64x8192_S64x128_0_5120))
      (View.ld (iblk m c 0 t) (Rect.unit ![0, 5248] ![64, 128] inb_S64x8192_S64x128_0_5248))
      (View.ld (iblk m c 0 t) (Rect.unit ![0, 5376] ![64, 128] inb_S64x8192_S64x128_0_5376))
      (View.ld (iblk m c 0 t) (Rect.unit ![0, 5504] ![64, 128] inb_S64x8192_S64x128_0_5504))
      (View.ld (iblk m c 0 t) (Rect.unit ![0, 5632] ![64, 128] inb_S64x8192_S64x128_0_5632))
      (View.ld (iblk m c 0 t) (Rect.unit ![0, 5760] ![64, 128] inb_S64x8192_S64x128_0_5760))
      (View.ld (iblk m c 0 t) (Rect.unit ![0, 5888] ![64, 128] inb_S64x8192_S64x128_0_5888))
      (View.ld (iblk m c 0 t) (Rect.unit ![0, 6016] ![64, 128] inb_S64x8192_S64x128_0_6016))
  zraw := k0_pay9 (View.ld (iblk m c 0 t) (Rect.unit ![0, 6144] ![64, 128] inb_S64x8192_S64x128_0_6144))
      (View.ld (iblk m c 0 t) (Rect.unit ![0, 6272] ![64, 128] inb_S64x8192_S64x128_0_6272))
      (View.ld (iblk m c 0 t) (Rect.unit ![0, 6400] ![64, 128] inb_S64x8192_S64x128_0_6400))
      (View.ld (iblk m c 0 t) (Rect.unit ![0, 6528] ![64, 128] inb_S64x8192_S64x128_0_6528))
      (View.ld (iblk m c 0 t) (Rect.unit ![0, 6656] ![64, 128] inb_S64x8192_S64x128_0_6656))
      (View.ld (iblk m c 0 t) (Rect.unit ![0, 6784] ![64, 128] inb_S64x8192_S64x128_0_6784))
      (View.ld (iblk m c 0 t) (Rect.unit ![0, 6912] ![64, 128] inb_S64x8192_S64x128_0_6912))
      (View.ld (iblk m c 0 t) (Rect.unit ![0, 7040] ![64, 128] inb_S64x8192_S64x128_0_7040))
      (View.ld (iblk m c 0 t) (Rect.unit ![0, 7168] ![64, 128] inb_S64x8192_S64x128_0_7168))
      (View.ld (iblk m c 0 t) (Rect.unit ![0, 7296] ![64, 128] inb_S64x8192_S64x128_0_7296))
      (View.ld (iblk m c 0 t) (Rect.unit ![0, 7424] ![64, 128] inb_S64x8192_S64x128_0_7424))
      (View.ld (iblk m c 0 t) (Rect.unit ![0, 7552] ![64, 128] inb_S64x8192_S64x128_0_7552))
      (View.ld (iblk m c 0 t) (Rect.unit ![0, 7680] ![64, 128] inb_S64x8192_S64x128_0_7680))
      (View.ld (iblk m c 0 t) (Rect.unit ![0, 7808] ![64, 128] inb_S64x8192_S64x128_0_7808))
      (View.ld (iblk m c 0 t) (Rect.unit ![0, 7936] ![64, 128] inb_S64x8192_S64x128_0_7936))
      (View.ld (iblk m c 0 t) (Rect.unit ![0, 8064] ![64, 128] inb_S64x8192_S64x128_0_8064))
  low := k0_pay10 (View.ld (iblk m c 3 t) (Rect.unit ![0, 0] ![1, 128] inb_S2x2048_S1x128_0_0))
      (View.ld (iblk m c 3 t) (Rect.unit ![0, 128] ![1, 128] inb_S2x2048_S1x128_0_128))
      (View.ld (iblk m c 3 t) (Rect.unit ![0, 256] ![1, 128] inb_S2x2048_S1x128_0_256))
      (View.ld (iblk m c 3 t) (Rect.unit ![0, 384] ![1, 128] inb_S2x2048_S1x128_0_384))
      (View.ld (iblk m c 3 t) (Rect.unit ![0, 512] ![1, 128] inb_S2x2048_S1x128_0_512))
      (View.ld (iblk m c 3 t) (Rect.unit ![0, 640] ![1, 128] inb_S2x2048_S1x128_0_640))
      (View.ld (iblk m c 3 t) (Rect.unit ![0, 768] ![1, 128] inb_S2x2048_S1x128_0_768))
      (View.ld (iblk m c 3 t) (Rect.unit ![0, 896] ![1, 128] inb_S2x2048_S1x128_0_896))
      (View.ld (iblk m c 3 t) (Rect.unit ![0, 1024] ![1, 128] inb_S2x2048_S1x128_0_1024))
      (View.ld (iblk m c 3 t) (Rect.unit ![0, 1152] ![1, 128] inb_S2x2048_S1x128_0_1152))
      (View.ld (iblk m c 3 t) (Rect.unit ![0, 1280] ![1, 128] inb_S2x2048_S1x128_0_1280))
      (View.ld (iblk m c 3 t) (Rect.unit ![0, 1408] ![1, 128] inb_S2x2048_S1x128_0_1408))
      (View.ld (iblk m c 3 t) (Rect.unit ![0, 1536] ![1, 128] inb_S2x2048_S1x128_0_1536))
      (View.ld (iblk m c 3 t) (Rect.unit ![0, 1664] ![1, 128] inb_S2x2048_S1x128_0_1664))
      (View.ld (iblk m c 3 t) (Rect.unit ![0, 1792] ![1, 128] inb_S2x2048_S1x128_0_1792))
      (View.ld (iblk m c 3 t) (Rect.unit ![0, 1920] ![1, 128] inb_S2x2048_S1x128_0_1920))
  high := k0_pay11 (View.ld (iblk m c 3 t) (Rect.unit ![1, 0] ![1, 128] inb_S2x2048_S1x128_1_0))
      (View.ld (iblk m c 3 t) (Rect.unit ![1, 128] ![1, 128] inb_S2x2048_S1x128_1_128))
      (View.ld (iblk m c 3 t) (Rect.unit ![1, 256] ![1, 128] inb_S2x2048_S1x128_1_256))
      (View.ld (iblk m c 3 t) (Rect.unit ![1, 384] ![1, 128] inb_S2x2048_S1x128_1_384))
      (View.ld (iblk m c 3 t) (Rect.unit ![1, 512] ![1, 128] inb_S2x2048_S1x128_1_512))
      (View.ld (iblk m c 3 t) (Rect.unit ![1, 640] ![1, 128] inb_S2x2048_S1x128_1_640))
      (View.ld (iblk m c 3 t) (Rect.unit ![1, 768] ![1, 128] inb_S2x2048_S1x128_1_768))
      (View.ld (iblk m c 3 t) (Rect.unit ![1, 896] ![1, 128] inb_S2x2048_S1x128_1_896))
      (View.ld (iblk m c 3 t) (Rect.unit ![1, 1024] ![1, 128] inb_S2x2048_S1x128_1_1024))
      (View.ld (iblk m c 3 t) (Rect.unit ![1, 1152] ![1, 128] inb_S2x2048_S1x128_1_1152))
      (View.ld (iblk m c 3 t) (Rect.unit ![1, 1280] ![1, 128] inb_S2x2048_S1x128_1_1280))
      (View.ld (iblk m c 3 t) (Rect.unit ![1, 1408] ![1, 128] inb_S2x2048_S1x128_1_1408))
      (View.ld (iblk m c 3 t) (Rect.unit ![1, 1536] ![1, 128] inb_S2x2048_S1x128_1_1536))
      (View.ld (iblk m c 3 t) (Rect.unit ![1, 1664] ![1, 128] inb_S2x2048_S1x128_1_1664))
      (View.ld (iblk m c 3 t) (Rect.unit ![1, 1792] ![1, 128] inb_S2x2048_S1x128_1_1792))
      (View.ld (iblk m c 3 t) (Rect.unit ![1, 1920] ![1, 128] inb_S2x2048_S1x128_1_1920))
  state := k0_pay12 (iblk m c 2 t)
  gain := iblk m c 4 t
  dout := k0_pay103 (View.ld (iblk m c 1 t) (Rect.unit ![0, 0] ![64, 128] inb_S64x2048_S64x128_0_0))
      (View.ld (iblk m c 1 t) (Rect.unit ![0, 128] ![64, 128] inb_S64x2048_S64x128_0_128))
      (View.ld (iblk m c 1 t) (Rect.unit ![0, 256] ![64, 128] inb_S64x2048_S64x128_0_256))
      (View.ld (iblk m c 1 t) (Rect.unit ![0, 384] ![64, 128] inb_S64x2048_S64x128_0_384))
      (View.ld (iblk m c 1 t) (Rect.unit ![0, 512] ![64, 128] inb_S64x2048_S64x128_0_512))
      (View.ld (iblk m c 1 t) (Rect.unit ![0, 640] ![64, 128] inb_S64x2048_S64x128_0_640))
      (View.ld (iblk m c 1 t) (Rect.unit ![0, 768] ![64, 128] inb_S64x2048_S64x128_0_768))
      (View.ld (iblk m c 1 t) (Rect.unit ![0, 896] ![64, 128] inb_S64x2048_S64x128_0_896))
      (View.ld (iblk m c 1 t) (Rect.unit ![0, 1024] ![64, 128] inb_S64x2048_S64x128_0_1024))
      (View.ld (iblk m c 1 t) (Rect.unit ![0, 1152] ![64, 128] inb_S64x2048_S64x128_0_1152))
      (View.ld (iblk m c 1 t) (Rect.unit ![0, 1280] ![64, 128] inb_S64x2048_S64x128_0_1280))
      (View.ld (iblk m c 1 t) (Rect.unit ![0, 1408] ![64, 128] inb_S64x2048_S64x128_0_1408))
      (View.ld (iblk m c 1 t) (Rect.unit ![0, 1536] ![64, 128] inb_S64x2048_S64x128_0_1536))
      (View.ld (iblk m c 1 t) (Rect.unit ![0, 1664] ![64, 128] inb_S64x2048_S64x128_0_1664))
      (View.ld (iblk m c 1 t) (Rect.unit ![0, 1792] ![64, 128] inb_S64x2048_S64x128_0_1792))
      (View.ld (iblk m c 1 t) (Rect.unit ![0, 1920] ![64, 128] inb_S64x2048_S64x128_0_1920))
  carry := carry

set_option maxHeartbeats 4000000 in
/-- Before the last chunk nothing flows back: the scratch is cleared, and the point leaves the gradient of the
state before its chunk. -/
theorem scratch_A (c : Dev nD) (t : Fin cfg0.N) (h : t.val % 64 = 0) :
    (outsAt0 m c t.val t.isLt).2.2.2 = k0_pay179 (v768 (chunkIn m c t k0_pay3)) := by
  rw [outsAt0_A m c t h h]
  frame_out
  exact rfl

set_option maxHeartbeats 4000000 in
/-- At a later point the scratch holds what the point before left. -/
theorem scratch_B (c : Dev nD) (t : Fin cfg0.N) (h : ¬ t.val % 64 = 0) :
    (outsAt0 m c t.val t.isLt).2.2.2 =
      k0_pay179 (v768 (chunkIn m c t (outsAt0 m c (t.val - 1) (by omega)).2.2.2)) := by
  rw [outsAt0_B m c t h h]
  frame_out
  simp only [read_unread_whole]
  exact rfl

set_option maxHeartbeats 4000000 in
/-- The norm's gain: the first point starts its gradient from zero. -/
theorem gain_A (c : Dev nD) (t : Fin cfg0.N) (h : t.val % 64 = 0) :
    (outsAt0 m c t.val t.isLt).2.2.1 = k0_pay2 (v606 (chunkIn m c t k0_pay3)) (k0_pay5 (F := Ideal)) := by
  rw [outsAt0_A m c t h h]
  frame_out
  exact rfl

set_option maxHeartbeats 4000000 in
/-- A later point adds its part to the gain's gradient. -/
theorem gain_B (c : Dev nD) (t : Fin cfg0.N) (h : ¬ t.val % 64 = 0) :
    (outsAt0 m c t.val t.isLt).2.2.1 =
      k0_pay2 (v606 (chunkIn m c t (outsAt0 m c (t.val - 1) (by omega)).2.2.2))
        (outsAt0 m c (t.val - 1) (by omega)).2.2.1 := by
  rw [outsAt0_B m c t h h]
  frame_out
  exact rfl

end Cert.KernelIdeal.Bridge
-- ==== Proof.Whole.lean ====
module

public import proofs.«01_k».proof.Proof.Spec

/-! One head over the whole sequence: the decayed sums of the recurrence and of its gradient, and the chunk of
`Spec` cut out of them. -/

@[expose] public section

noncomputable section

namespace Cert.Spec

open Finset

/-- One head over the whole sequence: queries, keys, values, log decays and the gradient of the output before the
norm, by row. -/
structure Hd where
  q : ℕ → Fin 128 → ℝ
  k : ℕ → Fin 128 → ℝ
  v : ℕ → Fin 128 → ℝ
  lf : ℕ → Fin 128 → ℝ
  c : ℕ → Fin 128 → ℝ

namespace Hd
variable (H : Hd)

/-- The log decay summed over the rows before `t`. -/
def E (t : ℕ) (d : Fin 128) : ℝ := ∑ s ∈ range t, H.lf s d
/-- The decay from row `s` to row `t`. -/
def w (t s : ℕ) (d : Fin 128) : ℝ := Real.exp (H.E (t + 1) d - H.E (s + 1) d)
/-- The weight of row `s` in row `t`. -/
def A (t s : ℕ) : ℝ := ∑ d, H.q t d * H.k s d * H.w t s d
/-- The gradient of that weight. -/
def G (t s : ℕ) : ℝ := ∑ e, H.c t e * H.v s e
/-- The gradient of the exponent in that weight, by lane. -/
def X (t s : ℕ) (d : Fin 128) : ℝ := H.G t s * H.q t d * H.k s d * H.w t s d
/-- The state before row `m`. -/
def St (m : ℕ) (e d : Fin 128) : ℝ := ∑ s ∈ range m, H.v s e * (H.k s d * Real.exp (H.E m d - H.E (s + 1) d))
/-- The gradient of the state before row `m`. -/
def Dt (m : ℕ) (e d : Fin 128) : ℝ := ∑ t ∈ Ico m 4096, H.c t e * (H.q t d * Real.exp (H.E (t + 1) d - H.E m d))
/-- The output before the norm. -/
def o (t : ℕ) (e : Fin 128) : ℝ := ∑ s ∈ range (t + 1), H.A t s * H.v s e
def dv (s : ℕ) (e : Fin 128) : ℝ := ∑ t ∈ Ico s 4096, H.A t s * H.c t e
def dq (t : ℕ) (d : Fin 128) : ℝ := ∑ s ∈ range (t + 1), H.G t s * H.k s d * H.w t s d
def dk (s : ℕ) (d : Fin 128) : ℝ := ∑ t ∈ Ico s 4096, H.G t s * H.q t d * H.w t s d
def dlf (r : ℕ) (d : Fin 128) : ℝ := ∑ t ∈ Ico r 4096, ∑ s ∈ range r, H.X t s d

/-- Chunk `n`'s forward values. -/
def fw (n : ℕ) : Fw :=
  ⟨fun t => H.q (64 * n + t.val), fun t => H.k (64 * n + t.val), fun t => H.lf (64 * n + t.val),
   fun t => H.v (64 * n + t.val), H.St (64 * n)⟩
/-- Chunk `n` with the gradients that reach it. -/
def bw (n : ℕ) : Bw := ⟨H.fw n, fun t => H.c (64 * n + t.val), H.Dt (64 * n + 64)⟩

/-- No decay grows, and none over an aligned block of sixteen rows falls below the clamp. -/
structure Tame : Prop where
  neg : ∀ t d, H.lf t d ≤ 0
  big : ∀ m, m < 256 → ∀ d, -80 < ∑ s ∈ range 16, H.lf (16 * m + s) d
end Hd

/-- A sum over a chunk's rows from `a` up to `b` is a difference of prefix sums. -/
theorem sum_window (g : ℕ → ℝ) (a b : ℕ) (hb : b ≤ 64) :
    (∑ s : Fin 64, (if a ≤ s.val ∧ s.val < b then 1 else 0) * g s.val) = ∑ s ∈ Ico a b, g s := by
  rw [Fin.sum_univ_eq_sum_range (fun s => (if a ≤ s ∧ s < b then (1 : ℝ) else 0) * g s) 64]
  simp only [ite_mul, one_mul, zero_mul]
  rw [← sum_filter]
  congr 1
  ext s; simp only [mem_filter, mem_range, mem_Ico]; omega

theorem sum_shift (g : ℕ → ℝ) (n a b : ℕ) (h : a ≤ b) :
    ∑ s ∈ Ico a b, g (n + s) = (∑ s ∈ range (n + b), g s) - ∑ s ∈ range (n + a), g s := by
  rw [sum_Ico_add g a b n, add_comm a n, add_comm b n, sum_Ico_eq_sub _ (by omega)]

namespace Hd
variable (H : Hd)

theorem fw_inr (n : ℕ) (t : Fin 64) (d : Fin 128) :
    (H.fw n).inr t d = H.E (64 * n + t.val + 1) d - H.E (64 * n + t.val / 16 * 16) d := by
  have h := sum_window (fun s => H.lf (64 * n + s) d) (t.val / 16 * 16) (t.val + 1) (by omega)
  rw [sum_shift (fun s => H.lf s d) (64 * n) _ _ (by omega)] at h
  unfold Fw.inr mi
  simp only [fw, E, add_assoc] at h ⊢
  rw [← h]
  refine sum_congr rfl fun s _ => ?_
  congr 1
  exact if_congr (by omega) rfl rfl

theorem fw_sta (n : ℕ) (t : Fin 64) (d : Fin 128) :
    (H.fw n).sta t d = H.E (64 * n + t.val / 16 * 16) d - H.E (64 * n) d := by
  have h := sum_window (fun s => H.lf (64 * n + s) d) 0 (t.val / 16 * 16) (by omega)
  rw [sum_shift (fun s => H.lf s d) (64 * n) _ _ (by omega)] at h
  unfold Fw.sta ms
  simp only [fw, E, add_zero] at h ⊢
  rw [← h]
  refine sum_congr rfl fun s _ => ?_
  congr 1
  exact if_congr (by omega) rfl rfl

theorem fw_b (n : ℕ) (t : Fin 64) (d : Fin 128) :
    (H.fw n).b t d = H.E (64 * n + t.val + 1) d - H.E (64 * n) d := by
  unfold Fw.b; rw [fw_inr, fw_sta]; ring

theorem fw_bl (n : ℕ) (d : Fin 128) : (H.fw n).bl d = H.E (64 * n + 64) d - H.E (64 * n) d := by
  have h := sum_window (fun s => H.lf (64 * n + s) d) 0 64 le_rfl
  rw [sum_shift (fun s => H.lf s d) (64 * n) _ _ (by omega)] at h
  unfold Fw.bl
  simp only [fw, E, add_zero] at h ⊢
  rw [← h]
  refine sum_congr rfl fun s _ => ?_
  rw [if_pos ⟨by omega, s.isLt⟩, one_mul]

theorem E_anti (T : H.Tame) {a b : ℕ} (h : a ≤ b) (d : Fin 128) : H.E b d ≤ H.E a d := by
  induction b, h using Nat.le_induction with
  | base => exact le_rfl
  | succ b h ih => unfold E at *; rw [sum_range_succ]; linarith [T.neg b d]

theorem E_block (T : H.Tame) (m : ℕ) (hm : m < 256) (d : Fin 128) : H.E (16 * m) d - 80 < H.E (16 * m + 16) d := by
  have h := T.big m hm d
  have e := sum_shift (fun s => H.lf s d) (16 * m) 0 16 (by omega)
  rw [Nat.Ico_zero_eq_range, add_zero] at e
  unfold E; linarith

/-- Up to the end of block `B` the exponent stays below the clamp. -/
theorem fw_x (T : H.Tame) (n : ℕ) (hn : n < 64) (B : Fin 4) (s : Fin 64) (d : Fin 128) :
    (H.fw n).x B s d = H.E (64 * n + 16 * B.val) d - H.E (64 * n + s.val + 1) d := by
  unfold Fw.x
  simp only [fw_b, fw_sta]
  have e : ∀ i : Fin 16, (row B i).val / 16 * 16 = 16 * B.val := fun i => by simp only [row]; omega
  simp only [e]
  rw [sum_const, card_univ, Fintype.card_fin, nsmul_eq_mul]
  push_cast; ring

theorem fw_x_lt (T : H.Tame) (n : ℕ) (hn : n < 64) (B : Fin 4) (s : Fin 64) (h : s.val / 16 ≤ B.val) (d : Fin 128) :
    (H.fw n).x B s d < 80 := by
  rw [H.fw_x T n hn]
  have h1 := H.E_anti T (a := 64 * n + s.val + 1) (b := 64 * n + 16 * B.val + 16) (by omega) d
  have h2 := H.E_block T (4 * n + B.val) (by omega) d
  have e : 16 * (4 * n + B.val) = 64 * n + 16 * B.val := by ring
  rw [e] at h2
  linarith

theorem fw_mn (T : H.Tame) (n : ℕ) (hn : n < 64) (B : Fin 4) (s : Fin 64) (h : s.val / 16 ≤ B.val) (d : Fin 128) :
    (H.fw n).mn B s d = Real.exp (H.E (64 * n + 16 * B.val) d - H.E (64 * n + s.val + 1) d) := by
  unfold Fw.mn
  rw [min_eq_left (H.fw_x_lt T n hn B s h d).le, H.fw_x T n hn]

theorem fw_sl (T : H.Tame) (n : ℕ) (hn : n < 64) (B : Fin 4) (s : Fin 64) (h : s.val / 16 ≤ B.val) (d : Fin 128) :
    (H.fw n).sl B s d = 1 := if_pos (H.fw_x_lt T n hn B s h d)

/-- A row of a block against a row of the chunk not after it: the two decays meet at the block's start. -/
theorem ei_mn (T : H.Tame) (n : ℕ) (hn : n < 64) (t s : Fin 64) (h : s.val ≤ t.val) (d : Fin 128) :
    (H.fw n).ei t d * (H.fw n).mn (blk t) s d = H.w (64 * n + t.val) (64 * n + s.val) d := by
  rw [H.fw_mn T n hn _ _ (by simp only [blk]; omega)]
  unfold Fw.ei w
  rw [fw_inr, ← Real.exp_add]
  simp only [blk, Nat.mul_comm 16]
  congr 1; ring

theorem fw_P (T : H.Tame) (n : ℕ) (hn : n < 64) (t s : Fin 64) :
    (H.fw n).P t s = if s.val ≤ t.val then H.A (64 * n + t.val) (64 * n + s.val) else 0 := by
  unfold Fw.P
  split
  · rename_i h
    unfold A
    refine sum_congr rfl fun d _ => ?_
    rw [← H.ei_mn T n hn t s h]
    unfold Fw.qt Fw.kt
    simp only [fw]; ring
  · rfl

/-- A sum over a chunk's rows. -/
theorem sum_rows (g : ℕ → ℝ) (n a b : ℕ) (hb : b ≤ 64) :
    (∑ s : Fin 64, if a ≤ s.val ∧ s.val < b then g (64 * n + s.val) else 0) = ∑ s ∈ Ico (64 * n + a) (64 * n + b), g s := by
  have h := sum_window (fun s => g (64 * n + s)) a b hb
  simp only [ite_mul, one_mul, zero_mul] at h
  rw [h, sum_Ico_add g a b (64 * n), add_comm a, add_comm b]

theorem sum_upto (g : ℕ → ℝ) (n : ℕ) (t : Fin 64) :
    (∑ s : Fin 64, if s.val ≤ t.val then g (64 * n + s.val) else 0)
      = ∑ s ∈ Ico (64 * n) (64 * n + t.val + 1), g s := by
  have h := sum_rows g n 0 (t.val + 1) (by omega)
  rw [add_zero, ← add_assoc] at h
  rw [← h]
  exact sum_congr rfl fun s _ => if_congr (by omega) rfl rfl

theorem sum_from (g : ℕ → ℝ) (n : ℕ) (s : Fin 64) :
    (∑ t : Fin 64, if s.val ≤ t.val then g (64 * n + t.val) else 0)
      = ∑ t ∈ Ico (64 * n + s.val) (64 * n + 64), g t := by
  rw [← sum_rows g n s.val 64 le_rfl]
  exact sum_congr rfl fun t _ => if_congr (by omega) rfl rfl

/-- The chunk's output. -/
theorem fw_o (T : H.Tame) (n : ℕ) (hn : n < 64) (t : Fin 64) (e : Fin 128) :
    (H.fw n).o t e = H.o (64 * n + t.val) e := by
  unfold Fw.o o
  rw [range_eq_Ico, ← sum_Ico_consecutive _ (Nat.zero_le (64 * n)) (by omega : 64 * n ≤ 64 * n + t.val + 1)]
  congr 1
  · unfold Fw.o1 Fw.qe Fw.eb A
    simp only [fw_b]
    simp only [fw, St, mul_sum, sum_mul]
    rw [sum_comm, range_eq_Ico]
    refine sum_congr rfl fun s _ => sum_congr rfl fun d _ => ?_
    unfold w
    rw [show H.E (64 * n + t.val + 1) d - H.E (s + 1) d = (H.E (64 * n + t.val + 1) d - H.E (64 * n) d)
      + (H.E (64 * n) d - H.E (s + 1) d) by ring, Real.exp_add]
    ring
  · rw [← sum_upto (fun s => H.A (64 * n + t.val) s * H.v s e) n t]
    refine sum_congr rfl fun s _ => ?_
    rw [H.fw_P T n hn]
    simp only [fw, ite_mul, zero_mul]

end Hd
end Cert.Spec
-- ==== Proof.Back.lean ====
module

public import proofs.«01_k».proof.Proof.Whole

/-! A chunk's gradients, from the gradients that reach it, are the whole head's gradients at the chunk's rows. -/

@[expose] public section

noncomputable section

namespace Cert.Spec

open Finset

/-- A sum over the chunk's rows, block by block. -/
theorem sum_blocks (g : Fin 64 → ℝ) : ∑ t, g t = ∑ B, ∑ i, g (row B i) := by
  rw [← Fintype.sum_prod_type']
  refine (Fintype.sum_equiv (finProdFinEquiv (m := 4) (n := 16)) (fun p => g (row p.1 p.2)) g fun p => ?_).symm
  exact congrArg g (Fin.ext (by simp only [row, finProdFinEquiv, Equiv.coe_fn_mk]; omega))

/-- What enters a row from the rows before it less what leaves it for the rows after it, summed from `r` on, is
what crosses `r`. -/
theorem crossing {N : ℕ} (x : Fin N → Fin N → ℝ) (r : Fin N) :
    (∑ t : Fin N, if r.val ≤ t.val then
        (∑ s : Fin N, if s.val ≤ t.val then x t s else 0) - ∑ t' : Fin N, if t.val ≤ t'.val then x t' t else 0 else 0)
      = ∑ t : Fin N, if r.val ≤ t.val then ∑ s : Fin N, (if s.val < r.val then x t s else 0) else 0 := by
  have h1 : ∀ t : Fin N, (if r.val ≤ t.val then
        (∑ s : Fin N, if s.val ≤ t.val then x t s else 0) - ∑ t' : Fin N, if t.val ≤ t'.val then x t' t else 0 else 0)
      = (∑ s : Fin N, if r.val ≤ t.val ∧ s.val ≤ t.val then x t s else 0)
        - ∑ t' : Fin N, if r.val ≤ t.val ∧ t.val ≤ t'.val then x t' t else 0 := fun t => by
    by_cases h : r.val ≤ t.val <;> simp [h]
  simp only [h1]
  rw [sum_sub_distrib, sum_comm (f := fun t t' : Fin N => if r.val ≤ t.val ∧ t.val ≤ t'.val then x t' t else 0),
    ← sum_sub_distrib]
  refine sum_congr rfl fun t _ => ?_
  rw [← sum_sub_distrib]
  by_cases h : r.val ≤ t.val
  · rw [if_pos h]
    refine sum_congr rfl fun s _ => ?_
    by_cases h2 : s.val ≤ t.val
    · by_cases h3 : r.val ≤ s.val
      · rw [if_pos ⟨h, h2⟩, if_pos ⟨h3, h2⟩, if_neg (by omega), sub_self]
      · rw [if_pos ⟨h, h2⟩, if_neg (by omega), if_pos (by omega), sub_zero]
    · rw [if_neg (by omega), if_neg (by omega), if_neg (by omega), sub_self]
  · rw [if_neg h]
    exact sum_eq_zero fun s _ => by rw [if_neg (by omega), if_neg (by omega), sub_self]

/-- Spreading each block's total evenly over its rows changes no sum over whole blocks. -/
theorem spread (Y b : Fin 64 → ℝ) (r : Fin 64) :
    (∑ t, mi t r * (Y t + b t)) + ∑ t, ms t r * ((∑ i, Y (row (blk t) i)) * (1 / 16) + b t)
      = ∑ t : Fin 64, if r.val ≤ t.val then Y t + b t else 0 := by
  have h : ∑ t, ms t r * ((∑ i, Y (row (blk t) i)) * (1 / 16)) = ∑ t, ms t r * Y t := by
    rw [sum_blocks, sum_blocks]
    refine sum_congr rfl fun B _ => ?_
    have e : ∀ i : Fin 16, blk (row B i) = B := fun i => Fin.ext (by simp only [blk, row]; omega)
    have e' : ∀ i : Fin 16, ms (row B i) r = ms (row B 0) r := fun i => by
      unfold ms row; exact if_congr (by simp only [Fin.val_zero]; omega) rfl rfl
    simp only [e, e']
    rw [sum_const, card_univ, Fintype.card_fin, nsmul_eq_mul, ← mul_sum]
    push_cast; ring
  simp only [mul_add] at h ⊢
  rw [sum_add_distrib, sum_add_distrib, h, add_add_add_comm, ← sum_add_distrib, ← sum_add_distrib, ← sum_add_distrib]
  refine sum_congr rfl fun t _ => ?_
  rw [← add_mul, ← add_mul, ← mul_add]
  have e : mi t r + ms t r = if r.val ≤ t.val then 1 else 0 := by
    unfold mi ms
    by_cases h1 : r.val ≤ t.val
    · by_cases h2 : t.val / 16 * 16 ≤ r.val
      · rw [if_pos ⟨h1, h2⟩, if_neg (by omega), if_pos h1, add_zero]
      · rw [if_neg (by omega), if_pos (by omega), if_pos h1, zero_add]
    · rw [if_neg (by omega), if_neg (by omega), if_neg h1, add_zero]
  rw [e, ite_mul, one_mul, zero_mul]

namespace Hd
variable (H : Hd)

/-- What the rows after the chunk ask of its row `s`. -/
theorem bw_u (n : ℕ) (s : Fin 64) (d : Fin 128) :
    (H.bw n).u s d * (H.fw n).ed s d
      = ∑ t ∈ Ico (64 * n + 64) 4096, H.G t (64 * n + s.val) * H.q t d * H.w t (64 * n + s.val) d := by
  unfold Bw.u Fw.ed
  rw [fw_bl, fw_b]
  simp only [bw, fw, Dt, mul_sum, sum_mul]
  rw [sum_comm]
  refine sum_congr rfl fun t _ => ?_
  unfold G w
  simp only [sum_mul]
  refine sum_congr rfl fun e _ => ?_
  rw [show H.E (t + 1) d - H.E (64 * n + s.val + 1) d = (H.E (t + 1) d - H.E (64 * n + 64) d)
    + (H.E (64 * n + 64) d - H.E (64 * n) d - (H.E (64 * n + s.val + 1) d - H.E (64 * n) d)) by ring, Real.exp_add]
  ring

/-- What row `t` takes from the rows before the chunk. -/
theorem bw_cS (n : ℕ) (t : Fin 64) (d : Fin 128) :
    (H.bw n).cS t d * (H.fw n).eb t d
      = ∑ s ∈ range (64 * n), H.G (64 * n + t.val) s * H.k s d * H.w (64 * n + t.val) s d := by
  unfold Bw.cS Fw.eb
  rw [fw_b]
  simp only [bw, fw, St, mul_sum, sum_mul]
  rw [sum_comm]
  refine sum_congr rfl fun s _ => ?_
  unfold G w
  simp only [sum_mul]
  refine sum_congr rfl fun e _ => ?_
  rw [show H.E (64 * n + t.val + 1) d - H.E (s + 1) d = (H.E (64 * n + t.val + 1) d - H.E (64 * n) d)
    + (H.E (64 * n) d - H.E (s + 1) d) by ring, Real.exp_add]
  ring

theorem bw_dqt (T : H.Tame) (n : ℕ) (hn : n < 64) (t : Fin 64) (d : Fin 128) :
    (H.bw n).dqt t d * (H.fw n).ei t d
      = ∑ s : Fin 64, if s.val ≤ t.val then
          H.G (64 * n + t.val) (64 * n + s.val) * H.k (64 * n + s.val) d * H.w (64 * n + t.val) (64 * n + s.val) d else 0 := by
  unfold Bw.dqt
  rw [sum_mul]
  refine sum_congr rfl fun s _ => ?_
  split
  · rename_i h
    rw [← H.ei_mn T n hn t s h]
    unfold Bw.dP Fw.kt G
    simp only [bw, fw]; ring
  · exact zero_mul _

/-- What the rows of block `B` ask of row `s`. -/
theorem bw_dkt (T : H.Tame) (n : ℕ) (hn : n < 64) (B : Fin 4) (s : Fin 64) (d : Fin 128) :
    (H.bw n).dkt B s d * (H.fw n).mn B s d
      = ∑ i, if s.val ≤ (row B i).val then
          H.G (64 * n + (row B i).val) (64 * n + s.val) * H.q (64 * n + (row B i).val) d
            * H.w (64 * n + (row B i).val) (64 * n + s.val) d else 0 := by
  unfold Bw.dkt
  rw [sum_mul]
  refine sum_congr rfl fun i _ => ?_
  split
  · rename_i h
    have e : blk (row B i) = B := Fin.ext (by simp only [blk, row]; omega)
    rw [← H.ei_mn T n hn (row B i) s h, e]
    unfold Bw.dP Fw.qt G
    simp only [bw, fw]; ring
  · exact zero_mul _

theorem bw_dx (T : H.Tame) (n : ℕ) (hn : n < 64) (B : Fin 4) (s : Fin 64) (d : Fin 128) :
    (H.bw n).dx B s d
      = ∑ i, if s.val ≤ (row B i).val then H.X (64 * n + (row B i).val) (64 * n + s.val) d else 0 := by
  have h : (H.bw n).dx B s d = H.k (64 * n + s.val) d * ((H.bw n).dkt B s d * (H.fw n).mn B s d) * (H.fw n).sl B s d := by
    unfold Bw.dx
    simp only [bw, fw]; ring
  rw [h, H.bw_dkt T n hn]
  by_cases hs : s.val / 16 ≤ B.val
  · rw [H.fw_sl T n hn B s hs, mul_one, mul_sum]
    refine sum_congr rfl fun i _ => ?_
    split
    · unfold X; ring
    · exact mul_zero _
  · have e : ∀ i : Fin 16, ¬ s.val ≤ (row B i).val := fun i => by simp only [row]; omega
    simp only [e, if_false, sum_const_zero, mul_zero, zero_mul]

/-- The gradient of the values. -/
theorem bw_dv (T : H.Tame) (n : ℕ) (hn : n < 64) (s : Fin 64) (e : Fin 128) :
    (H.bw n).dv s e = H.dv (64 * n + s.val) e := by
  unfold Bw.dv dv
  rw [← sum_Ico_consecutive _ (by omega : 64 * n + s.val ≤ 64 * n + 64) (by omega : 64 * n + 64 ≤ 4096), add_comm]
  congr 1
  · rw [← sum_from (fun t => H.A t (64 * n + s.val) * H.c t e)]
    refine sum_congr rfl fun t _ => ?_
    have := H.fw_P T n hn t s
    simp only [bw] at this ⊢
    rw [this, ite_mul, zero_mul]
  · unfold Fw.kd Fw.ed A
    simp only [bw, fw_bl, fw_b]
    simp only [fw, Dt, mul_sum, sum_mul]
    rw [sum_comm]
    refine sum_congr rfl fun t _ => sum_congr rfl fun d _ => ?_
    unfold w
    rw [show H.E (t + 1) d - H.E (64 * n + s.val + 1) d = (H.E (t + 1) d - H.E (64 * n + 64) d)
      + (H.E (64 * n + 64) d - H.E (64 * n) d - (H.E (64 * n + s.val + 1) d - H.E (64 * n) d)) by ring, Real.exp_add]
    ring

/-- The gradient of the queries. -/
theorem bw_dq (T : H.Tame) (n : ℕ) (hn : n < 64) (t : Fin 64) (d : Fin 128) :
    (H.bw n).dq t d = H.dq (64 * n + t.val) d := by
  have h : (H.bw n).dq t d = (H.bw n).dqt t d * (H.fw n).ei t d + (H.bw n).cS t d * (H.fw n).eb t d := rfl
  rw [h, H.bw_dqt T n hn, H.bw_cS]
  unfold dq
  rw [range_eq_Ico, range_eq_Ico,
    ← sum_Ico_consecutive _ (Nat.zero_le (64 * n)) (by omega : 64 * n ≤ 64 * n + t.val + 1), add_comm]
  congr 1
  exact sum_upto (fun s => H.G (64 * n + t.val) s * H.k s d * H.w (64 * n + t.val) s d) n t

/-- The gradient of the keys. -/
theorem bw_dk (T : H.Tame) (n : ℕ) (hn : n < 64) (s : Fin 64) (d : Fin 128) :
    (H.bw n).dk s d = H.dk (64 * n + s.val) d := by
  have h : (H.bw n).dk s d = (H.bw n).u s d * (H.fw n).ed s d
      + ∑ B, (H.bw n).dkt B s d * (H.fw n).mn B s d := by
    rw [Fin.sum_univ_four]
    unfold Bw.dk
    simp only [bw]; ring
  rw [h, H.bw_u]
  simp only [H.bw_dkt T n hn]
  rw [← sum_blocks (fun t => if s.val ≤ t.val then
          H.G (64 * n + t.val) (64 * n + s.val) * H.q (64 * n + t.val) d
            * H.w (64 * n + t.val) (64 * n + s.val) d else 0)]
  rw [sum_from (fun t => H.G t (64 * n + s.val) * H.q t d * H.w t (64 * n + s.val) d)]
  unfold dk
  rw [← sum_Ico_consecutive _ (by omega : 64 * n + s.val ≤ 64 * n + 64) (by omega : 64 * n + 64 ≤ 4096), add_comm]

/-- The gradient of the state before the chunk. -/
theorem bw_dS (n : ℕ) (hn : n < 64) (e d : Fin 128) : (H.bw n).dS e d = H.Dt (64 * n) e d := by
  unfold Bw.dS Dt
  rw [← sum_Ico_consecutive _ (by omega : 64 * n ≤ 64 * n + 64) (by omega : 64 * n + 64 ≤ 4096), add_comm]
  congr 1
  · have h := sum_rows (fun t => H.c t e * (H.q t d * Real.exp (H.E (t + 1) d - H.E (64 * n) d))) n 0 64 le_rfl
    rw [add_zero] at h
    rw [← h]
    refine sum_congr rfl fun t _ => ?_
    rw [if_pos ⟨Nat.zero_le _, t.isLt⟩]
    unfold Fw.qe Fw.eb
    simp only [bw, fw_b]
    rfl
  · unfold Fw.el
    simp only [bw, fw_bl, Dt, sum_mul]
    refine sum_congr rfl fun t _ => ?_
    rw [show H.E (t + 1) d - H.E (64 * n) d = (H.E (t + 1) d - H.E (64 * n + 64) d)
      + (H.E (64 * n + 64) d - H.E (64 * n) d) by ring, Real.exp_add]
    ring

/-- The gradient of the log decays. -/
theorem bw_dlf (T : H.Tame) (n : ℕ) (hn : n < 64) (r : Fin 64) (d : Fin 128) :
    (H.bw n).dlf r d = H.dlf (64 * n + r.val) d := by
  set x : Fin 64 → Fin 64 → ℝ := fun t s => H.X (64 * n + t.val) (64 * n + s.val) d with hx
  set Xe : Fin 64 → ℝ := fun t => ∑ s ∈ range (64 * n), H.X (64 * n + t.val) s d with hXe
  set Z : Fin 64 → ℝ := fun s => ∑ t ∈ Ico (64 * n + 64) 4096, H.X t (64 * n + s.val) d with hZ
  set W : ℝ := ∑ t ∈ Ico (64 * n + 64) 4096, ∑ s ∈ range (64 * n), H.X t s d with hW
  have hw : ∀ s, (H.bw n).w s d = Z s := fun s => by
    have : (H.bw n).w s d = H.k (64 * n + s.val) d * ((H.bw n).u s d * (H.fw n).ed s d) := by
      unfold Bw.w; simp only [bw, fw]; ring
    rw [this, H.bw_u, mul_sum, hZ]
    exact sum_congr rfl fun t _ => by unfold X; ring
  have hX : ∀ t, (H.fw n).q t d * (H.bw n).cS t d * (H.fw n).eb t d = Xe t := fun t => by
    rw [mul_assoc, H.bw_cS, mul_sum, hXe]
    exact sum_congr rfl fun s _ => by unfold X; simp only [fw]; ring
  have hY : ∀ t, (H.fw n).q t d * (H.bw n).dqt t d * (H.fw n).ei t d
      = ∑ s : Fin 64, if s.val ≤ t.val then x t s else 0 := fun t => by
    rw [mul_assoc, H.bw_dqt T n hn, mul_sum]
    refine sum_congr rfl fun s _ => ?_
    split
    · rw [hx]; unfold X; simp only [fw]; ring
    · exact mul_zero _
  have hdx : ∀ B s, (H.bw n).dx B s d = ∑ i, if s.val ≤ (row B i).val then x (row B i) s else 0 :=
    fun B s => H.bw_dx T n hn B s d
  have hdb : ∀ s, (H.bw n).db s d = Xe s - Z s - ∑ t : Fin 64, if s.val ≤ t.val then x t s else 0 := fun s => by
    have h : (H.bw n).db s d = (H.fw n).q s d * (H.bw n).cS s d * (H.fw n).eb s d - (H.bw n).w s d
        - ∑ B, (H.bw n).dx B s d := by
      rw [Fin.sum_univ_four]; unfold Bw.db; simp only [bw]; ring
    rw [h, hX, hw]
    simp only [hdx]
    rw [← sum_blocks (fun t => if s.val ≤ t.val then x t s else 0)]
  set Y : Fin 64 → ℝ := fun t => ∑ s : Fin 64, if s.val ≤ t.val then x t s else 0 with hYd
  have hdinr : ∀ t, (H.bw n).dinr t d = Y t + (H.bw n).db t d := fun t => by
    have h : (H.bw n).dinr t d
        = (H.fw n).q t d * (H.bw n).dqt t d * (H.fw n).ei t d + (H.bw n).db t d := rfl
    rw [h, hY]
  have hdsta : ∀ t, (H.bw n).dsta t d = (∑ i, Y (row (blk t) i)) * (1 / 16) + (H.bw n).db t d := fun t => by
    unfold Bw.dsta Bw.dr
    simp only [hdx, hYd]
    rw [sum_comm]
  have hdbl : (H.bw n).dbl d = W + ∑ s, Z s := by
    unfold Bw.dbl
    simp only [hw]
    congr 1
    rw [hW]
    unfold Fw.el
    simp only [bw, fw_bl]
    simp only [fw, St, Dt, sum_mul, mul_sum]
    rw [sum_comm]
    refine sum_congr rfl fun t _ => ?_
    rw [sum_comm]
    refine sum_congr rfl fun s _ => ?_
    unfold X G w
    simp only [sum_mul]
    refine sum_congr rfl fun e _ => ?_
    rw [show H.E (t + 1) d - H.E (s + 1) d = (H.E (t + 1) d - H.E (64 * n + 64) d)
      + ((H.E (64 * n + 64) d - H.E (64 * n) d) + (H.E (64 * n) d - H.E (s + 1) d)) by ring, Real.exp_add, Real.exp_add]
    ring
  have hl : (H.bw n).dlf r d = W + ∑ s, Z s + ∑ t : Fin 64, if r.val ≤ t.val then Y t + (H.bw n).db t d else 0 := by
    unfold Bw.dlf
    simp only [hdinr, hdsta]
    rw [hdbl, spread Y (fun t => (H.bw n).db t d) r]
  have hc := crossing x r
  have hs : (∑ t : Fin 64, if r.val ≤ t.val then Y t + (H.bw n).db t d else 0)
      = (∑ t : Fin 64, if r.val ≤ t.val then Xe t else 0) - (∑ t : Fin 64, if r.val ≤ t.val then Z t else 0)
        + ∑ t : Fin 64, if r.val ≤ t.val then ∑ s : Fin 64, (if s.val < r.val then x t s else 0) else 0 := by
    rw [← hc, ← sum_sub_distrib, ← sum_add_distrib]
    refine sum_congr rfl fun t _ => ?_
    rw [hdb]
    split
    · simp only [hYd]; ring
    · simp
  have hz : (∑ s, Z s) - (∑ t : Fin 64, if r.val ≤ t.val then Z t else 0)
      = ∑ s : Fin 64, if 0 ≤ s.val ∧ s.val < r.val then Z s else 0 := by
    rw [← sum_sub_distrib]
    refine sum_congr rfl fun s _ => ?_
    by_cases h : r.val ≤ s.val
    · rw [if_pos h, if_neg (by omega), sub_self]
    · rw [if_neg h, if_pos (by omega), sub_zero]
  rw [hl, hs]
  have e1 := sum_from (fun t => ∑ s ∈ range (64 * n), H.X t s d) n r
  have e2 : (∑ s : Fin 64, if 0 ≤ s.val ∧ s.val < r.val then Z s else 0)
      = ∑ s ∈ Ico (64 * n) (64 * n + r.val), ∑ t ∈ Ico (64 * n + 64) 4096, H.X t s d := by
    have := sum_rows (fun s => ∑ t ∈ Ico (64 * n + 64) 4096, H.X t s d) n 0 r.val (by omega)
    rw [add_zero] at this
    exact this
  have e3 : (∑ t : Fin 64, if r.val ≤ t.val then ∑ s : Fin 64, (if s.val < r.val then x t s else 0) else 0)
      = ∑ t ∈ Ico (64 * n + r.val) (64 * n + 64), ∑ s ∈ Ico (64 * n) (64 * n + r.val), H.X t s d := by
    rw [← sum_from (fun t => ∑ s ∈ Ico (64 * n) (64 * n + r.val), H.X t s d) n r]
    refine sum_congr rfl fun t _ => if_congr Iff.rfl ?_ rfl
    have := sum_rows (fun s => H.X (64 * n + t.val) s d) n 0 r.val (by omega)
    rw [add_zero] at this
    rw [← this]
    exact sum_congr rfl fun s _ => if_congr (by omega) rfl rfl
  have hf : H.dlf (64 * n + r.val) d
      = (∑ t ∈ Ico (64 * n + r.val) (64 * n + 64), ∑ s ∈ range (64 * n), H.X t s d)
        + (∑ t ∈ Ico (64 * n + r.val) (64 * n + 64), ∑ s ∈ Ico (64 * n) (64 * n + r.val), H.X t s d)
        + (W + ∑ s ∈ Ico (64 * n) (64 * n + r.val), ∑ t ∈ Ico (64 * n + 64) 4096, H.X t s d) := by
    unfold dlf
    have hsplit : ∀ t, ∑ s ∈ range (64 * n + r.val), H.X t s d
        = ∑ s ∈ range (64 * n), H.X t s d + ∑ s ∈ Ico (64 * n) (64 * n + r.val), H.X t s d := fun t => by
      rw [range_eq_Ico, range_eq_Ico, sum_Ico_consecutive _ (Nat.zero_le _) (by omega)]
    simp only [hsplit]
    rw [← sum_Ico_consecutive _ (by omega : 64 * n + r.val ≤ 64 * n + 64) (by omega : 64 * n + 64 ≤ 4096),
      sum_add_distrib, sum_add_distrib, hW,
      sum_comm (s := Ico (64 * n) (64 * n + r.val)) (t := Ico (64 * n + 64) 4096)]
  rw [hf, ← e1, ← e2, ← e3, ← hz]
  ring

end Hd
end Cert.Spec
-- ==== Proof.Glob.lean ====
module

public import proofs.«01_k».proof.Proof.Back

/-! The whole mixer over the real numbers in its arguments: the gates, the recurrence of every head, the norm, the
output gate, and the gradients of the arguments; and what chunk `n` of it is in the terms of `Spec`. -/

@[expose] public section

noncomputable section

namespace Cert.Spec

open Finset Cert.Reals

/-- The arguments: projection, gradient of the output, the two rows of lower bounds, and the gain of the norm. -/
structure Args where
  p : ℕ → ℕ → ℝ
  dout : ℕ → ℕ → ℝ
  l0 : ℕ → ℝ
  l1 : ℕ → ℝ
  g : Fin 128 → ℝ

/-- Lane `d` of head `h`. -/
abbrev at_ (h : Fin 16) (d : Fin 128) : ℕ := h.val * 128 + d.val

namespace Args
variable (a : Args)

def e0 (j : ℕ) : ℝ := Real.exp (a.l0 j - max (a.l0 j) (a.l1 j))
def e1 (j : ℕ) : ℝ := Real.exp (a.l1 j - max (a.l0 j) (a.l1 j))
def sm (j : ℕ) : ℝ := a.e0 j + a.e1 j
def lb (j : ℕ) : ℝ := a.e1 j / a.sm j
/-- The forget gate. -/
def f (t j : ℕ) : ℝ := a.lb j + (1 - a.lb j) * sigm (a.p t (2048 + j))
def q (t j : ℕ) : ℝ := a.p t j * sigm (a.p t j)
/-- A head before the gradient of its output is known. -/
def base (h : Fin 16) : Hd :=
  ⟨fun t d => a.q t (at_ h d), fun t d => 1 - a.f t (at_ h d), fun t d => a.p t (4096 + at_ h d),
   fun t d => Real.log (a.f t (at_ h d)), fun _ _ => 0⟩
def o (h : Fin 16) (t : ℕ) (e : Fin 128) : ℝ := (a.base h).o t e
def msq (h : Fin 16) (t : ℕ) : ℝ := (∑ e, a.o h t e * a.o h t e) / 128 + normEps
def rs (h : Fin 16) (t : ℕ) : ℝ := (Real.sqrt (a.msq h t))⁻¹
def on (h : Fin 16) (t : ℕ) (e : Fin 128) : ℝ := a.o h t e * a.rs h t
def z (h : Fin 16) (t : ℕ) (e : Fin 128) : ℝ := a.p t (6144 + at_ h e)
def zz (h : Fin 16) (t : ℕ) (e : Fin 128) : ℝ := a.z h t e * sigm (a.z h t e)
def y (h : Fin 16) (t : ℕ) (e : Fin 128) : ℝ := a.dout t (at_ h e) * a.zz h t e * a.g e
def aa (h : Fin 16) (t : ℕ) : ℝ := (∑ e, a.o h t e * a.y h t e) * (-(1 / 2) * (a.rs h t / a.msq h t)) / 128
/-- The gradient of the recurrence's output. -/
def c (h : Fin 16) (t : ℕ) (e : Fin 128) : ℝ := a.y h t e * a.rs h t + a.o h t e * a.aa h t + a.aa h t * a.o h t e
/-- A head with the gradient of its output. -/
def head (h : Fin 16) : Hd := { a.base h with c := a.c h }
def dz (h : Fin 16) (t : ℕ) (e : Fin 128) : ℝ :=
  a.on h t e * a.g e * a.dout t (at_ h e) * sigm (a.z h t e)
    + a.z h t e * (a.on h t e * a.g e * a.dout t (at_ h e)) * (sigm (a.z h t e) * (1 - sigm (a.z h t e)))
/-- The gradient of the gain. -/
def dg (e : Fin 128) : ℝ := ∑ t : Fin 4096, ∑ h, a.on h t e * (a.dout t (at_ h e) * a.zz h t e)
/-- The gradient of the forget gate. -/
def df (h : Fin 16) (t : ℕ) (d : Fin 128) : ℝ := (a.head h).dlf t d / a.f t (at_ h d) + (0 - (a.head h).dk t d)
def dqr (h : Fin 16) (t : ℕ) (d : Fin 128) : ℝ :=
  (a.head h).dq t d * sigm (a.p t (at_ h d))
    + a.p t (at_ h d) * (a.head h).dq t d * (sigm (a.p t (at_ h d)) * (1 - sigm (a.p t (at_ h d))))
def dfr (h : Fin 16) (t : ℕ) (d : Fin 128) : ℝ :=
  (1 - a.lb (at_ h d)) * a.df h t d * (sigm (a.p t (2048 + at_ h d)) * (1 - sigm (a.p t (2048 + at_ h d))))
/-- The gradient of the lower bound. -/
def dL (h : Fin 16) (d : Fin 128) : ℝ :=
  (∑ t : Fin 4096, a.df h t d) + (0 - ∑ t : Fin 4096, a.df h t d * sigm (a.p t (2048 + at_ h d)))
def c1 (h : Fin 16) (d : Fin 128) : ℝ :=
  (a.dL h d / a.sm (at_ h d)
    + (0 - a.dL h d * (1 / (a.sm (at_ h d) * a.sm (at_ h d))) * a.e1 (at_ h d))) * a.e1 (at_ h d)
def c0 (h : Fin 16) (d : Fin 128) : ℝ :=
  (0 - a.dL h d * (1 / (a.sm (at_ h d) * a.sm (at_ h d))) * a.e1 (at_ h d)) * a.e0 (at_ h d)

/-- The gradient of the projection at lane `j`: four groups of 2048 lanes (query, forget, value, gate), each of sixteen
heads of 128. -/
def dproj (t : ℕ) (j : Fin 8192) : ℝ :=
  if j.val < 2048 then a.dqr ⟨j.val / 128 % 16, by omega⟩ t ⟨j.val % 128, by omega⟩
  else if j.val < 4096 then a.dfr ⟨j.val / 128 % 16, by omega⟩ t ⟨j.val % 128, by omega⟩
  else if j.val < 6144 then (a.head ⟨j.val / 128 % 16, by omega⟩).dv t ⟨j.val % 128, by omega⟩
  else a.dz ⟨j.val / 128 % 16, by omega⟩ t ⟨j.val % 128, by omega⟩
/-- The gradient of the lower bounds at row `i` and lane `j`. -/
def dlow (i : Fin 2) (j : Fin 2048) : ℝ :=
  if i.val = 0 then a.c0 ⟨j.val / 128, by omega⟩ ⟨j.val % 128, by omega⟩
  else a.c1 ⟨j.val / 128, by omega⟩ ⟨j.val % 128, by omega⟩

/-- What chunk `n` reads. -/
def rin (n : ℕ) : Rin where
  qr h t d := a.p (64 * n + t.val) (at_ h d)
  fr h t d := a.p (64 * n + t.val) (2048 + at_ h d)
  v h t d := a.p (64 * n + t.val) (4096 + at_ h d)
  z h t d := a.p (64 * n + t.val) (6144 + at_ h d)
  l0 h d := a.l0 (at_ h d)
  l1 h d := a.l1 (at_ h d)
  S h := (a.base h).St (64 * n)
  g := a.g
  dout h t d := a.dout (64 * n + t.val) (at_ h d)
  D h := (a.head h).Dt (64 * n + 64)

/-- No block of sixteen rows decays below the clamp. -/
def Big : Prop := ∀ h : Fin 16, ∀ m, m < 256 → ∀ d, -80 < ∑ s ∈ range 16, (a.base h).lf (16 * m + s) d

theorem sm_pos (j : ℕ) : 0 < a.sm j := by unfold sm e0 e1; positivity
theorem lb_pos (j : ℕ) : 0 < a.lb j := by
  have := a.sm_pos j; unfold lb e1; positivity
theorem lb_lt_one (j : ℕ) : a.lb j < 1 := by
  have h0 : 0 < a.e0 j := by unfold e0; positivity
  unfold lb; rw [div_lt_one (a.sm_pos j)]; unfold sm; linarith
theorem f_pos (t j : ℕ) : 0 < a.f t j := by
  have h1 := a.lb_pos j; have h2 := a.lb_lt_one j; have h3 := sigm_pos (a.p t (2048 + j))
  have : 0 < (1 - a.lb j) * sigm (a.p t (2048 + j)) := mul_pos (by linarith) h3
  unfold f; linarith
theorem f_lt_one (t j : ℕ) : a.f t j < 1 := by
  have h2 := a.lb_lt_one j; have h3 := sigm_lt_one (a.p t (2048 + j))
  have : (1 - a.lb j) * sigm (a.p t (2048 + j)) < (1 - a.lb j) * 1 := mul_lt_mul_of_pos_left h3 (by linarith)
  unfold f; linarith
theorem msq_pos (h : Fin 16) (t : ℕ) : 0 < a.msq h t := by
  have := normEps_pos
  have : 0 ≤ ∑ e, a.o h t e * a.o h t e := Finset.sum_nonneg fun e _ => mul_self_nonneg _
  unfold msq; positivity

variable {a} (B : a.Big)
include B

theorem tame (h : Fin 16) : (a.head h).Tame where
  neg t d := (Real.log_neg (a.f_pos _ _) (a.f_lt_one _ _)).le
  big m hm d := B h m hm d

variable {n : ℕ} (hn : n < 64) (h : Fin 16) (t : Fin 64) (d : Fin 128)
include hn

theorem rin_o : ((a.rin n).fw h).o t d = a.o h (64 * n + t.val) d := (a.head h).fw_o (tame B h) n hn t d
theorem rin_msq : (a.rin n).msq h t = a.msq h (64 * n + t.val) := by
  unfold Rin.msq msq; simp only [rin_o B hn]
theorem rin_rs : (a.rin n).rs h t = a.rs h (64 * n + t.val) := by
  unfold Rin.rs rs; rw [rin_msq B hn]
theorem rin_on : (a.rin n).on h t d = a.on h (64 * n + t.val) d := by
  unfold Rin.on on; rw [rin_o B hn, rin_rs B hn]
theorem rin_y : (a.rin n).y h t d = a.y h (64 * n + t.val) d := rfl
theorem rin_aa : (a.rin n).aa h t = a.aa h (64 * n + t.val) := by
  unfold Rin.aa aa; simp only [rin_o B hn, rin_rs B hn, rin_msq B hn, rin_y B hn]
theorem rin_c : (a.rin n).c h t d = a.c h (64 * n + t.val) d := by
  unfold Rin.c c; rw [rin_o B hn, rin_rs B hn, rin_aa B hn, rin_y B hn]
theorem rin_bw : (a.rin n).bw h = (a.head h).bw n := by
  have e : (a.rin n).c h = fun t => a.c h (64 * n + t.val) := funext fun t => funext fun d => rin_c B hn h t d
  unfold Rin.bw; rw [e]; rfl

theorem rin_dz : (a.rin n).dz h t d = a.dz h (64 * n + t.val) d := by
  unfold Rin.dz dz; rw [rin_on B hn]; rfl
theorem rin_dv : ((a.rin n).bw h).dv t d = (a.head h).dv (64 * n + t.val) d := by
  rw [rin_bw B hn, (a.head h).bw_dv (tame B h) n hn]
theorem rin_df : (a.rin n).df h t d = a.df h (64 * n + t.val) d := by
  unfold Rin.df df
  rw [rin_bw B hn, (a.head h).bw_dlf (tame B h) n hn, (a.head h).bw_dk (tame B h) n hn]; rfl
theorem rin_dqr : (a.rin n).dqr h t d = a.dqr h (64 * n + t.val) d := by
  unfold Rin.dqr dqr
  rw [rin_bw B hn, (a.head h).bw_dq (tame B h) n hn]; rfl
theorem rin_dfr : (a.rin n).dfr h t d = a.dfr h (64 * n + t.val) d := by
  unfold Rin.dfr dfr; rw [rin_df B hn]; rfl
/-- The carry one chunk hands to the chunk before it. -/
theorem rin_dS (e : Fin 128) : ((a.rin n).bw h).dS e d = (a.head h).Dt (64 * n) e d := by
  rw [rin_bw B hn, (a.head h).bw_dS n hn]
omit hn

omit B in
/-- A sum over all rows, chunk by chunk. -/
theorem sum_chunks (g : ℕ → ℝ) : ∑ n : Fin 64, ∑ t : Fin 64, g (64 * n.val + t.val) = ∑ t : Fin 4096, g t := by
  rw [← Fintype.sum_prod_type']
  exact Fintype.sum_equiv (finProdFinEquiv (m := 64) (n := 64)) (fun p => g (64 * p.1.val + p.2.val))
    (fun t : Fin 4096 => g t) fun p => congrArg g (by simp only [finProdFinEquiv, Equiv.coe_fn_mk]; omega)

theorem sum_dg (e : Fin 128) : ∑ n : Fin 64, (a.rin n).dg e = a.dg e := by
  unfold Rin.dg dg
  rw [← sum_chunks (fun t => ∑ h, a.on h t e * (a.dout t (at_ h e) * a.zz h t e))]
  refine sum_congr rfl fun n _ => ?_
  rw [sum_comm]
  refine sum_congr rfl fun t _ => sum_congr rfl fun h _ => ?_
  rw [rin_on B n.isLt]; rfl

theorem sum_dL : ∑ n : Fin 64, (a.rin n).dL h d = a.dL h d := by
  unfold Rin.dL dL
  rw [← sum_chunks (fun t => a.df h t d), ← sum_chunks (fun t => a.df h t d * sigm (a.p t (2048 + at_ h d)))]
  rw [sum_add_distrib, sum_sub_distrib, sum_const_zero]
  simp only [fun n : Fin 64 => rin_df B n.isLt]
  rfl

theorem sum_c1 : ∑ n : Fin 64, (a.rin n).c1 h d = a.c1 h d := by
  have e : ∀ n : Fin 64, (a.rin n).c1 h d = (a.rin n).dL h d * ((1 / a.sm (at_ h d)
      - (1 / (a.sm (at_ h d) * a.sm (at_ h d))) * a.e1 (at_ h d)) * a.e1 (at_ h d)) := by
    intro n
    show ((a.rin n).dL h d / a.sm (at_ h d)
      + (0 - (a.rin n).dL h d * (1 / (a.sm (at_ h d) * a.sm (at_ h d))) * a.e1 (at_ h d))) * a.e1 (at_ h d) = _
    ring
  simp only [e]
  rw [← sum_mul, sum_dL B]; unfold c1; ring

theorem sum_c0 : ∑ n : Fin 64, (a.rin n).c0 h d = a.c0 h d := by
  have e : ∀ n : Fin 64, (a.rin n).c0 h d = (a.rin n).dL h d * (-
      ((1 / (a.sm (at_ h d) * a.sm (at_ h d))) * a.e1 (at_ h d)) * a.e0 (at_ h d)) := by
    intro n
    show (0 - (a.rin n).dL h d * (1 / (a.sm (at_ h d) * a.sm (at_ h d))) * a.e1 (at_ h d)) * a.e0 (at_ h d) = _
    ring
  simp only [e]
  rw [← sum_mul, sum_dL B]; unfold c0; ring
end Args

end Cert.Spec

end
-- ==== Proof.Window.lean ====
module

public import proofs.«01_k».proof.Proof.Reals

/-! Cumulative sums along the first axis, forward and backward, as the host writes them: sums over padded windows. -/

@[expose] public section

namespace Cert.Reals

open Idealize.ShloMosaic Finset

theorem foldl_add {n : ℕ} (g : Fin n → EReal) (v : EReal) :
    (List.finRange n).foldl (fun r i => r + g i) v = v + ∑ i, g i := by
  have h : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [h, Fin.sum_univ_def]

/-- A window sum is the sum over the window's positions, padding contributing nothing. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else 0 := by
  unfold Ideal.hostReduceWindowAdd Host.reduceWindow
  refine (foldl_add _ _).trans ?_
  rw [zero_add]
  refine Eq.trans ?_ (Equiv.sum_comp (⟨s.rank, window⟩ : Shape).rowMajor.symm _)
  refine sum_congr rfl fun i _ => ?_
  by_cases hin : ∀ a, lo a ≤ (j (a.cast h.1.symm)).val * strides a + ((⟨s.rank, window⟩ : Shape).rowMajor.symm i a).val
      ∧ (j (a.cast h.1.symm)).val * strides a + ((⟨s.rank, window⟩ : Shape).rowMajor.symm i a).val - lo a < s.size a
  · rw [dif_pos hin, dif_pos hin]
  · rw [dif_neg hin, dif_neg hin]

theorem sum_upto_fin {N M : ℕ} (hM : M + 1 = N) (g : Fin N → EReal) (j : Fin N) :
    (∑ w : Fin N, if h : M ≤ j.val + w.val then g ⟨j.val + w.val - M, by omega⟩ else 0)
      = ∑ s : Fin N, if s.val ≤ j.val then g s else 0 := by
  set G : ℕ → EReal := fun n => if h : n < N then g ⟨n, h⟩ else 0 with hG
  have e1 : ∀ w : Fin N, (if h : M ≤ j.val + w.val then g ⟨j.val + w.val - M, by omega⟩ else 0)
      = if M ≤ j.val + w.val then G (j.val + w.val - M) else 0 := by
    intro w; split
    · rw [hG]; simp only; rw [dif_pos (by omega)]
    · rfl
  have e2 : ∀ s : Fin N, (if s.val ≤ j.val then g s else 0) = if s.val ≤ j.val then G s.val else 0 := by
    intro s; rw [hG]; simp only; rw [dif_pos s.isLt]
  simp only [e1, e2]
  rw [Fin.sum_univ_eq_sum_range (fun w => if M ≤ j.val + w then G (j.val + w - M) else 0) N,
    Fin.sum_univ_eq_sum_range (fun s => if s ≤ j.val then G s else 0) N, ← sum_filter, ← sum_filter]
  have f1 : (range N).filter (fun w => M ≤ j.val + w) = Ico (M - j.val) N := by
    ext w; simp only [mem_filter, mem_range, mem_Ico]; omega
  have f2 : (range N).filter (fun s => s ≤ j.val) = range (j.val + 1) := by
    ext w; simp only [mem_filter, mem_range]; omega
  rw [f1, f2, sum_Ico_eq_sum_range, show N - (M - j.val) = j.val + 1 by omega]
  exact sum_congr rfl fun k _ => congrArg G (by omega)

theorem sum_from_fin {N : ℕ} (g : Fin N → EReal) (j : Fin N) :
    (∑ w : Fin N, if h : j.val + w.val < N then g ⟨j.val + w.val, h⟩ else 0)
      = ∑ s : Fin N, if j.val ≤ s.val then g s else 0 := by
  set G : ℕ → EReal := fun n => if h : n < N then g ⟨n, h⟩ else 0 with hG
  have e1 : ∀ w : Fin N, (if h : j.val + w.val < N then g ⟨j.val + w.val, h⟩ else 0)
      = if j.val + w.val < N then G (j.val + w.val) else 0 := by
    intro w; split
    · rw [hG]; simp only; rw [dif_pos (by omega)]
    · rfl
  have e2 : ∀ s : Fin N, (if j.val ≤ s.val then g s else 0) = if j.val ≤ s.val then G s.val else 0 := by
    intro s; rw [hG]; simp only; rw [dif_pos s.isLt]
  simp only [e1, e2]
  rw [Fin.sum_univ_eq_sum_range (fun w => if j.val + w < N then G (j.val + w) else 0) N,
    Fin.sum_univ_eq_sum_range (fun s => if j.val ≤ s then G s else 0) N, ← sum_filter, ← sum_filter]
  have f1 : (range N).filter (fun w => j.val + w < N) = range (N - j.val) := by
    ext w; simp only [mem_filter, mem_range]; omega
  have f2 : (range N).filter (fun s => j.val ≤ s) = Ico j.val N := by
    ext w; simp only [mem_filter, mem_range, mem_Ico]; omega
  rw [f1, f2, sum_Ico_eq_sum_range]

section
variable {N M n1 n2 : ℕ}

/-- The forward cumulative sum along the first of three axes. -/
theorem cum3 (hM : M + 1 = N)
    (h : (⟨3, ![N, n1, n2]⟩ : Shape).ReduceWindows (![N, 1, 1] : Fin 3 → ℕ) ![1, 1, 1] ![M, 0, 0] ![0, 0, 0] ⟨3, ![N, n1, n2]⟩)
    (x : (⟨3, ![N, n1, n2]⟩ : Shape).Idx → EReal) (t : Fin N) (b : Fin n1) (c : Fin n2) :
    Ideal.hostReduceWindowAdd (![N, 1, 1] : Fin 3 → ℕ) ![1, 1, 1] ![M, 0, 0] ![0, 0, 0] h x 0 (ix3 t b c)
      = ∑ s : Fin N, if s.val ≤ t.val then x (ix3 s b c) else 0 := by
  rw [window_sum, sum_idx3, ← sum_upto_fin hM (fun s => x (ix3 s b c))]
  refine sum_congr rfl fun w _ => ?_
  rw [Fin.sum_univ_one, Fin.sum_univ_one]
  have hb := b.isLt
  have hc := c.isLt
  by_cases hw : M ≤ t.val + w.val
  · rw [dif_pos hw, dif_pos (fun a => by
      match a with
      | ⟨0, _⟩ => show M ≤ t.val * 1 + w.val ∧ t.val * 1 + w.val - M < N; omega
      | ⟨1, _⟩ => show 0 ≤ b.val * 1 + 0 ∧ b.val * 1 + 0 - 0 < n1; omega
      | ⟨2, _⟩ => show 0 ≤ c.val * 1 + 0 ∧ c.val * 1 + 0 - 0 < n2; omega)]
    refine congrArg x (funext fun a => Fin.ext ?_)
    match a with
    | ⟨0, _⟩ => show t.val * 1 + w.val - M = t.val + w.val - M; omega
    | ⟨1, _⟩ => show b.val * 1 + 0 - 0 = b.val; omega
    | ⟨2, _⟩ => show c.val * 1 + 0 - 0 = c.val; omega
  · rw [dif_neg hw, dif_neg (fun hin => hw (by
      have h0 : M ≤ t.val * 1 + w.val ∧ _ := hin 0
      omega))]

/-- The backward cumulative sum along the first of three axes. -/
theorem rcum3
    (h : (⟨3, ![N, n1, n2]⟩ : Shape).ReduceWindows (![N, 1, 1] : Fin 3 → ℕ) ![1, 1, 1] ![0, 0, 0] ![M, 0, 0] ⟨3, ![N, n1, n2]⟩)
    (x : (⟨3, ![N, n1, n2]⟩ : Shape).Idx → EReal) (t : Fin N) (b : Fin n1) (c : Fin n2) :
    Ideal.hostReduceWindowAdd (![N, 1, 1] : Fin 3 → ℕ) ![1, 1, 1] ![0, 0, 0] ![M, 0, 0] h x 0 (ix3 t b c)
      = ∑ s : Fin N, if t.val ≤ s.val then x (ix3 s b c) else 0 := by
  rw [window_sum, sum_idx3, ← sum_from_fin (fun s => x (ix3 s b c))]
  refine sum_congr rfl fun w _ => ?_
  rw [Fin.sum_univ_one, Fin.sum_univ_one]
  have hb := b.isLt
  have hc := c.isLt
  by_cases hw : t.val + w.val < N
  · rw [dif_pos hw, dif_pos (fun a => by
      match a with
      | ⟨0, _⟩ => show 0 ≤ t.val * 1 + w.val ∧ t.val * 1 + w.val - 0 < N; omega
      | ⟨1, _⟩ => show 0 ≤ b.val * 1 + 0 ∧ b.val * 1 + 0 - 0 < n1; omega
      | ⟨2, _⟩ => show 0 ≤ c.val * 1 + 0 ∧ c.val * 1 + 0 - 0 < n2; omega)]
    refine congrArg x (funext fun a => Fin.ext ?_)
    match a with
    | ⟨0, _⟩ => show t.val * 1 + w.val - 0 = t.val + w.val; omega
    | ⟨1, _⟩ => show b.val * 1 + 0 - 0 = b.val; omega
    | ⟨2, _⟩ => show c.val * 1 + 0 - 0 = c.val; omega
  · rw [dif_neg hw, dif_neg (fun hin => hw (by
      have h0 : _ ∧ t.val * 1 + w.val - 0 < N := hin 0
      omega))]

/-- The forward cumulative sum along the first of two axes. -/
theorem cum2 (hM : M + 1 = N)
    (h : (⟨2, ![N, n1]⟩ : Shape).ReduceWindows (![N, 1] : Fin 2 → ℕ) ![1, 1] ![M, 0] ![0, 0] ⟨2, ![N, n1]⟩)
    (x : (⟨2, ![N, n1]⟩ : Shape).Idx → EReal) (t : Fin N) (b : Fin n1) :
    Ideal.hostReduceWindowAdd (![N, 1] : Fin 2 → ℕ) ![1, 1] ![M, 0] ![0, 0] h x 0 (ix2 t b)
      = ∑ s : Fin N, if s.val ≤ t.val then x (ix2 s b) else 0 := by
  rw [window_sum, sum_idx2, ← sum_upto_fin hM (fun s => x (ix2 s b))]
  refine sum_congr rfl fun w _ => ?_
  rw [Fin.sum_univ_one]
  have hb := b.isLt
  by_cases hw : M ≤ t.val + w.val
  · rw [dif_pos hw, dif_pos (fun a => by
      match a with
      | ⟨0, _⟩ => show M ≤ t.val * 1 + w.val ∧ t.val * 1 + w.val - M < N; omega
      | ⟨1, _⟩ => show 0 ≤ b.val * 1 + 0 ∧ b.val * 1 + 0 - 0 < n1; omega)]
    refine congrArg x (funext fun a => Fin.ext ?_)
    match a with
    | ⟨0, _⟩ => show t.val * 1 + w.val - M = t.val + w.val - M; omega
    | ⟨1, _⟩ => show b.val * 1 + 0 - 0 = b.val; omega
  · rw [dif_neg hw, dif_neg (fun hin => hw (by
      have h0 : M ≤ t.val * 1 + w.val ∧ _ := hin 0
      omega))]

/-- The backward cumulative sum along the first of two axes. -/
theorem rcum2
    (h : (⟨2, ![N, n1]⟩ : Shape).ReduceWindows (![N, 1] : Fin 2 → ℕ) ![1, 1] ![0, 0] ![M, 0] ⟨2, ![N, n1]⟩)
    (x : (⟨2, ![N, n1]⟩ : Shape).Idx → EReal) (t : Fin N) (b : Fin n1) :
    Ideal.hostReduceWindowAdd (![N, 1] : Fin 2 → ℕ) ![1, 1] ![0, 0] ![M, 0] h x 0 (ix2 t b)
      = ∑ s : Fin N, if t.val ≤ s.val then x (ix2 s b) else 0 := by
  rw [window_sum, sum_idx2, ← sum_from_fin (fun s => x (ix2 s b))]
  refine sum_congr rfl fun w _ => ?_
  rw [Fin.sum_univ_one]
  have hb := b.isLt
  by_cases hw : t.val + w.val < N
  · rw [dif_pos hw, dif_pos (fun a => by
      match a with
      | ⟨0, _⟩ => show 0 ≤ t.val * 1 + w.val ∧ t.val * 1 + w.val - 0 < N; omega
      | ⟨1, _⟩ => show 0 ≤ b.val * 1 + 0 ∧ b.val * 1 + 0 - 0 < n1; omega)]
    refine congrArg x (funext fun a => Fin.ext ?_)
    match a with
    | ⟨0, _⟩ => show t.val * 1 + w.val - 0 = t.val + w.val; omega
    | ⟨1, _⟩ => show b.val * 1 + 0 - 0 = b.val; omega
  · rw [dif_neg hw, dif_neg (fun hin => hw (by
      have h0 : _ ∧ t.val * 1 + w.val - 0 < N := hin 0
      omega))]
end

end Cert.Reals

end
-- ==== Proof.RealsB.lean ====
module

public import proofs.«01_k».proof.Proof.Glob
public import proofs.«01_k».proof.Proof.Window

/-! More of the extended reals' operations at real numbers, and sums over a masked axis as sums over ranges. -/

@[expose] public section

namespace Cert.Reals

open Idealize.ShloMosaic Finset

theorem negR (x : ℝ) : -(x : EReal) = ((-x : ℝ) : EReal) := (EReal.coe_neg x).symm

/-- The logistic function written as a quotient. -/
theorem sigm_div (x : ℝ) : Ideal.div 1 (1 + Ideal.exp (-(x : EReal))) = ((sigm x : ℝ) : EReal) := by
  rw [negR, expR, one_coe, addR, div_coe_coe _ _ (by positivity), one_div]; rfl

theorem ofBits_two : Ideal.ofBits .f32 0x40000000#32 = ((2 : ℝ) : EReal) := by
  simp [Ideal.ofBits, Ideal.ieee]; rw [← EReal.coe_mul]; norm_num

theorem exp_bot : Ideal.exp (⊥ : EReal) = 0 := Ideal.exp_bot

theorem fin_upto (g : ℕ → ℝ) {N : ℕ} (t : Fin N) :
    (∑ s : Fin N, if s.val ≤ t.val then g s.val else 0) = ∑ s ∈ range (t.val + 1), g s := by
  rw [Fin.sum_univ_eq_sum_range (fun s => if s ≤ t.val then g s else 0) N, ← sum_filter]
  congr 1; ext s; simp only [mem_filter, mem_range]; omega

theorem fin_from (g : ℕ → ℝ) {N : ℕ} (t : Fin N) :
    (∑ s : Fin N, if t.val ≤ s.val then g s.val else 0) = ∑ s ∈ Ico t.val N, g s := by
  rw [Fin.sum_univ_eq_sum_range (fun s => if t.val ≤ s then g s else 0) N, ← sum_filter]
  congr 1; ext s; simp only [mem_filter, mem_range, mem_Ico]; omega

theorem fin_before (g : ℕ → ℝ) {N : ℕ} (t : Fin N) :
    (∑ s : Fin N, if s.val < t.val then g s.val else 0) = ∑ s ∈ range t.val, g s := by
  rw [Fin.sum_univ_eq_sum_range (fun s => if s < t.val then g s else 0) N, ← sum_filter]
  congr 1; ext s; simp only [mem_filter, mem_range]; omega

end Cert.Reals

end
-- ==== Proof.RefA.lean ====
module

public import proofs.«01_k».proof.Proof.Gen.ReferenceIdeal.Read
public import proofs.«01_k».proof.Proof.Glob
public import proofs.«01_k».proof.Proof.RealsB
public import Idealize.ShloMosaic.Lib.Pointwise

/-! The reference's forward values over the reals: gates, decays, scores, output and norm. -/

@[expose] public section

set_option maxRecDepth 16384

noncomputable section

namespace Cert.ReferenceIdeal.Real

open Idealize.ShloMosaic Idealize.ShloMosaic.TcCoe Idealize.SL.Sem
open Cert.ReferenceIdeal Cert.ReferenceIdeal.Gen Cert.ReferenceIdeal.Read Cert.Reals Cert.Spec

/-- The four argument arrays hold the real numbers `a`. -/
structure Holds (x0 : FVec Ideal S4096x8192 .f32) (x1 : FVec Ideal S4096x2048 .f32) (x2 : FVec Ideal S2x2048 .f32)
    (x3 : FVec Ideal S1x128 .f32) (a : Args) : Prop where
  p : ∀ t j, x0 (ix2 t j) = ((a.p t.val j.val : ℝ) : EReal)
  dout : ∀ t j, x1 (ix2 t j) = ((a.dout t.val j.val : ℝ) : EReal)
  l0 : ∀ j, x2 (ix2 0 j) = ((a.l0 j.val : ℝ) : EReal)
  l1 : ∀ j, x2 (ix2 1 j) = ((a.l1 j.val : ℝ) : EReal)
  g : ∀ d, x3 (ix2 0 d) = ((a.g d : ℝ) : EReal)

variable {x0 : FVec Ideal S4096x8192 .f32} {x1 : FVec Ideal S4096x2048 .f32} {x2 : FVec Ideal S2x2048 .f32}
  {x3 : FVec Ideal S1x128 .f32} {a : Args} (H : Holds x0 x1 x2 x3 a)
include H

theorem v7_at (j : Fin 2048) : val_main_v7 (F := Ideal) x2 (ix1 j) = ((max (a.l0 j) (a.l1 j) : ℝ) : EReal) := by
  unfold val_main_v7 val_main_v6 val_main_cst_1 val_main_v0 val_main_cst
  pointwise [ofBits_neg_inf]
  rw [show (Finset.univ : Finset (Fin 2)) = {0, 1} from rfl, Finset.fold_insert (by decide), Finset.fold_singleton, H.l0, H.l1]
  rw [max_eq_right bot_le, max_eq_left bot_le, max_coe]

theorem v20_at0 (j : Fin 2048) : val_main_v20 (F := Ideal) x2 (ix2 0 j) = ((a.e0 j : ℝ) : EReal) := by
  unfold val_main_v20 val_main_v19 val_main_v18 val_main_v17
  pointwise [v7_at H, H.l0]
  simp only [subR, expR]; rfl
theorem v20_at1 (j : Fin 2048) : val_main_v20 (F := Ideal) x2 (ix2 1 j) = ((a.e1 j : ℝ) : EReal) := by
  unfold val_main_v20 val_main_v19 val_main_v18 val_main_v17
  pointwise [v7_at H, H.l1]
  simp only [subR, expR]; rfl
theorem v21_at (j : Fin 2048) : val_main_v21 (F := Ideal) x2 (ix1 j) = ((a.sm j : ℝ) : EReal) := by
  unfold val_main_v21 val_main_cst_7
  pointwise []
  rw [Fin.sum_univ_two, v20_at0 H, v20_at1 H, addR]; first | rfl | (rw [zero_add]; rfl)
theorem v24_at0 (j : Fin 2048) : val_main_v24 (F := Ideal) x2 (ix2 0 j) = ((a.e0 j / a.sm j : ℝ) : EReal) := by
  unfold val_main_v24 val_main_v23 val_main_v22
  pointwise [v20_at0 H, v21_at H]
  exact div_coe_coe _ _ (a.sm_pos _).ne'
theorem v24_at1 (j : Fin 2048) : val_main_v24 (F := Ideal) x2 (ix2 1 j) = ((a.lb j : ℝ) : EReal) := by
  unfold val_main_v24 val_main_v23 val_main_v22
  pointwise [v20_at1 H, v21_at H]
  exact div_coe_coe _ _ (a.sm_pos _).ne'

omit H in
theorem zero_window0 : val_main_call0_call0_v0 (F := Ideal) = fun _ => 0 := by
  funext i
  unfold val_main_call0_call0_v0 val_main_call0_call0_cst
  pointwise []

theorem v28_at (i : Fin 2) (j : Fin 2048) : val_main_v28 (F := Ideal) x2 (ix2 i j)
    = ∑ s : Fin 2, if s.val ≤ i.val then val_main_v24 (F := Ideal) x2 (ix2 s j) else 0 := by
  unfold val_main_v28
  rw [zero_window0]
  exact cum2 (N := 2) (M := 1) rfl reduceWindows_S2x2048_S2x2048_w2s1p1_0_w1s1p0_0 _ i j

/-- The lower bound of the forget gate. -/
theorem v35_at (j : Fin 2048) : val_main_v35 (F := Ideal) x2 (ix1 j) = ((a.lb j : ℝ) : EReal) := by
  unfold val_main_v35 val_main_v34 val_main_v33 val_main_v32 val_main_v31 val_main_v30 val_main_v29
  pointwise [v28_at H]
  simp only [Fin.sum_univ_two, v24_at0 H, v24_at1 H]
  norm_num
  rw [addR, subR]
  exact congrArg _ (by ring)

theorem v57_2_at (t : Fin 4096) (j : Fin 2048) :
    val_main_v57_2 (F := Ideal) x0 (ix2 t j) = ((sigm (a.p t j) : ℝ) : EReal) := by
  unfold val_main_v57_2 val_main_call1_v4 val_main_call1_v3 val_main_call1_v2 val_main_call1_v1 val_main_call1_v0 val_main_call1_cst val_main_call1_cst_0 val_main_v36
  pointwise [H.p, sigm_div]
theorem v57_1_at (t : Fin 4096) (j : Fin 2048) :
    val_main_v57_1 (F := Ideal) x0 (ix2 t j) = ((sigm (a.p t j) * (1 - sigm (a.p t j)) : ℝ) : EReal) := by
  unfold val_main_v57_1 val_main_call1_v7 val_main_call1_v6 val_main_call1_cst_1
  pointwise [v57_2_at H]
  simp only [one_coe, subR, mulR]
theorem v58_at (t : Fin 4096) (h : Fin 16) (d : Fin 128) :
    val_main_v58 (F := Ideal) x0 (ix3 t h d) = ((a.q t (at_ h d) : ℝ) : EReal) := by
  unfold val_main_v58 val_main_v57_0 val_main_v36
  pointwise [v57_2_at H, H.p]
  simp only [mulR]; rfl
theorem v47_at (t : Fin 4096) (j : Fin 2048) :
    val_main_v47 (F := Ideal) x0 (ix2 t j) = ((sigm (a.p t (2048 + j)) : ℝ) : EReal) := by
  unfold val_main_v47 val_main_v46 val_main_v45 val_main_v44 val_main_v43 val_main_v42 val_main_v37 val_main_cst_10 val_main_cst_11
  pointwise [H.p, sigm_div]
theorem v50_at (t : Fin 4096) (j : Fin 2048) :
    val_main_v50 (F := Ideal) x0 (ix2 t j) = ((sigm (a.p t (2048 + j)) * (1 - sigm (a.p t (2048 + j))) : ℝ) : EReal) := by
  unfold val_main_v50 val_main_v49 val_main_v48 val_main_cst_12
  pointwise [v47_at H]
  simp only [one_coe, subR, mulR]
theorem v51_at (j : Fin 2048) : val_main_v51 (F := Ideal) x2 (ix2 0 j) = ((1 - a.lb j : ℝ) : EReal) := by
  unfold val_main_v51 val_main_v41 val_main_v40 val_main_cst_9
  pointwise [v35_at H]
  simp only [one_coe, subR]
theorem v56_at (t : Fin 4096) (j : Fin 2048) : val_main_v56 (F := Ideal) x0 x2 (ix2 t j) = ((a.f t j : ℝ) : EReal) := by
  unfold val_main_v56 val_main_v55 val_main_v54 val_main_v53 val_main_v52
  pointwise [v47_at H, v35_at H, v51_at H]
  simp only [mulR, addR]; rfl
theorem v61_at (t : Fin 4096) (h : Fin 16) (d : Fin 128) :
    val_main_v61 (F := Ideal) x0 x2 (ix3 t h d) = ((1 - a.f t (at_ h d) : ℝ) : EReal) := by
  unfold val_main_v61 val_main_v60 val_main_v59 val_main_cst_13
  pointwise [v56_at H]
  simp only [one_coe, subR]
theorem v62_at (t : Fin 4096) (h : Fin 16) (d : Fin 128) :
    val_main_v62 (F := Ideal) x0 (ix3 t h d) = ((a.p t (4096 + at_ h d) : ℝ) : EReal) := by
  unfold val_main_v62 val_main_v38
  pointwise [H.p]
theorem v65_at (t : Fin 4096) (h : Fin 16) (d : Fin 128) :
    val_main_v65 (F := Ideal) x0 (ix3 t h d) = ((a.z h t d : ℝ) : EReal) := by
  unfold val_main_v65 val_main_v39
  pointwise [H.p]
  rfl
theorem v64_at (t : Fin 4096) (h : Fin 16) (d : Fin 128) :
    val_main_v64 (F := Ideal) x0 x2 (ix3 t h d) = ((Real.log (a.f t (at_ h d)) : ℝ) : EReal) := by
  unfold val_main_v64 val_main_v63
  pointwise [v56_at H]
  exact log_coe_pos _ (a.f_pos _ _)

omit H in
theorem zero_window2 : val_main_call2_call0_v0 (F := Ideal) = fun _ => 0 := by
  funext i
  unfold val_main_call2_call0_v0 val_main_call2_call0_cst
  pointwise []

/-- The log decay summed up to row `t`. -/
theorem v66_at (t : Fin 4096) (h : Fin 16) (d : Fin 128) :
    val_main_v66 (F := Ideal) x0 x2 (ix3 t h d) = (((a.base h).E (t.val + 1) d : ℝ) : EReal) := by
  unfold val_main_v66
  rw [zero_window2]
  unfold Host.reduceWindowAdd
  rw [Ideal.hostReduceWindowAdd_def]
  refine (cum3 (N := 4096) (M := 4095) (by norm_num) reduceWindows_S4096x16x128_S4096x16x128_w4096s1p4095_0_w1s1p0_0_w1s1p0_0 _ t h d).trans ?_
  simp only [v64_at H, zero_coe, ite_coe, sumR]
  exact congrArg _ (fin_upto (fun s => Real.log (a.f s (at_ h d))) t)

omit H in
theorem sle_word (s t : Fin 4096) : IntOp.cmpi CmpIPredicate.sle (BitVec.ofNat 32 s.val) (BitVec.ofNat 32 t.val)
    = BitVec.ofBool (decide (s.val ≤ t.val)) := by
  show BitVec.ofBool (BitVec.sle _ _) = _
  rw [BitVec.sle_eq_decide]
  have e : ∀ n : Fin 4096, (BitVec.ofNat 32 n.val).toInt = n.val := by
    intro n
    rw [BitVec.toInt_eq_toNat_of_lt] <;> rw [BitVec.toNat_ofNat, Nat.mod_eq_of_lt (by omega)]
    omega
  rw [e, e]
  norm_cast

theorem v76_at (t s : Fin 4096) (h : Fin 16) (d : Fin 128) :
    val_main_v76 (F := Ideal) x0 x2 (ix4 t s h d)
      = ((if s.val ≤ t.val then (a.base h).w t.val s.val d else 0 : ℝ) : EReal) := by
  unfold val_main_v76 val_main_v75_0 val_main_v75_1 val_main_v74 val_main_v73 val_main_v72 val_main_v71 val_main_v70 val_main_call3_v2 val_main_call3_v0 val_main_cst_14 val_main_v69 val_main_v68 val_main_v67
  pointwise [v66_at H, sle_word, id_eq]
  pointwise [ofBits_neg_inf]
  split
  · rw [subR, expR]; rfl
  · rw [exp_bot]; rfl

theorem v81_at (t s : Fin 4096) (h : Fin 16) (d : Fin 128) :
    val_main_v81 (F := Ideal) x0 x2 (ix4 t s h d) = (((a.base h).q t d * (a.base h).k s d : ℝ) : EReal) := by
  unfold val_main_v81 val_main_v80 val_main_v79 val_main_v78 val_main_v77
  pointwise [v58_at H, v61_at H]
  rw [mulR]; rfl

/-- The weight of row `s` in row `t`, nothing above the diagonal. -/
theorem v83_at (t s : Fin 4096) (h : Fin 16) :
    val_main_v83 (F := Ideal) x0 x2 (ix3 t s h) = ((if s.val ≤ t.val then (a.base h).A t s else 0 : ℝ) : EReal) := by
  unfold val_main_v83 val_main_v82 val_main_cst_15
  pointwise [v81_at H, v76_at H]
  simp only [mulR, sumR, mul_ite, mul_zero]
  split <;> simp [Hd.A]

theorem v85_at (t : Fin 4096) (h : Fin 16) (e : Fin 128) :
    val_main_v85 (F := Ideal) x0 x2 (ix3 t h e) = ((a.o h t e : ℝ) : EReal) := by
  unfold val_main_v85 val_main_v84
  pointwise [v62_at H, v83_at H]
  simp only [mulR, sumR, mul_ite, mul_zero]
  refine congrArg _ ((fin_upto (fun s => a.p s (4096 + at_ h e) * (a.base h).A t s) t).trans ?_)
  exact Finset.sum_congr rfl fun s _ => mul_comm _ _

theorem v94_at (t : Fin 4096) (h : Fin 16) :
    val_main_v94 (F := Ideal) x0 x2 (ix3 t h 0) = ((a.msq h t : ℝ) : EReal) := by
  unfold val_main_v94 val_main_v93 val_main_cst_19 val_main_v92 val_main_v91 val_main_cst_18 val_main_v90 val_main_v89 val_main_cst_17 val_main_v86
  pointwise [v85_at H, ofBits_eps, ofBits_128]
  simp only [mulR, sumR, zero_add]
  rw [div_coe_coe _ _ (by norm_num), addR]; rfl
theorem v95_at (t : Fin 4096) (h : Fin 16) :
    val_main_v95 (F := Ideal) x0 x2 (ix3 t h 0) = ((a.rs h t : ℝ) : EReal) := by
  unfold val_main_v95
  pointwise [v94_at H]
  exact rsqrt_coe_pos _ (a.msq_pos _ _)
theorem v98_at (t : Fin 4096) (h : Fin 16) :
    val_main_v98 (F := Ideal) x0 x2 (ix3 t h 0) = ((-(1 / 2) * (a.rs h t / a.msq h t) : ℝ) : EReal) := by
  unfold val_main_v98 val_main_v97 val_main_cst_20 val_main_v96
  pointwise [v94_at H, v95_at H, ofBits_neg_half]
  rw [div_coe_coe _ _ (a.msq_pos _ _).ne', mulR]
theorem v100_at (t : Fin 4096) (h : Fin 16) (e : Fin 128) :
    val_main_v100 (F := Ideal) x0 x2 (ix3 t h e) = ((a.on h t e : ℝ) : EReal) := by
  unfold val_main_v100 val_main_v99
  pointwise [v85_at H, v95_at H]
  rw [mulR]; rfl

end Cert.ReferenceIdeal.Real

end
-- ==== Proof.State.lean ====
module

public import proofs.«01_k».proof.Proof.RefA
public import proofs.«01_k».proof.Proof.Gen.KernelIdeal.Value
public import Idealize.ShloMosaic.Lib.Claim
public import Idealize.ShloMosaic.Lib.StableHlo.RunRead

/-! The saved state the kernel's host lines make: before chunk `n`, the decayed sum of the rows of the chunks
before it. -/

@[expose] public section

set_option maxRecDepth 16384

noncomputable section

namespace Cert.KernelIdeal.State

open Idealize.ShloMosaic Idealize.ShloMosaic.TcCoe Idealize.SL.Sem
open Idealize.ShloMosaic.StableHlo
open Cert.KernelIdeal Cert.KernelIdeal.Gen Cert.Reals Cert.Spec

/-- Which rows lie before each chunk. -/
def before : IVec S64x4096x1x1 1 :=
  cmpi .slt (iotaInDim S64x4096x1x1 32 1)
    (muli (iotaInDim S64x4096x1x1 32 0) (broadcastInDim S64x4096x1x1 ![] bcast_S_S64x4096x1x1 (constantI S_ 32 64#32)))
/-- That, for every head and lane. -/
def mask : IVec S64x4096x16x128 1 :=
  broadcastInDim S64x4096x16x128 ![0, 1, 2, 3] bcast_S64x4096x1x1_S64x4096x16x128_0_1_2_3 before
/-- A row array, repeated for every chunk. -/
def wide (x : FVec Ideal S4096x16x128 .f32) : FVec Ideal S64x4096x16x128 .f32 :=
  broadcastInDim S64x4096x16x128 ![0, 1, 2, 3] bcast_S1x4096x16x128_S64x4096x16x128_0_1_2_3
    (broadcastInDim S1x4096x16x128 ![1, 2, 3] bcast_S4096x16x128_S1x4096x16x128_1_2_3 x)
/-- The log decay summed over the rows before each chunk. -/
def last (lf : FVec Ideal S4096x16x128 .f32) : FVec Ideal S64x16x128 .f32 :=
  Host.reduceAdd (select mask (wide lf)
      (broadcastInDim S64x4096x16x128 ![] bcast_S_S64x4096x16x128 (id (constant (F := Ideal) S_ .f32 0x00000000#32))))
    (constant (F := Ideal) S_ .f32 0x00000000#32) reducesTo_S64x4096x16x128_S64x16x128_d1 h_S_
/-- The decay from each row to each chunk's first row, zero from that row on. -/
def decay (lf b : FVec Ideal S4096x16x128 .f32) : FVec Ideal S64x4096x16x128 .f32 :=
  Host.exp (select mask
    (subf (broadcastInDim S64x4096x16x128 ![0, 1, 2, 3] bcast_S64x1x16x128_S64x4096x16x128_0_1_2_3
        (broadcastInDim S64x1x16x128 ![0, 2, 3] bcast_S64x16x128_S64x1x16x128_0_2_3 (last lf))) (wide b))
    (broadcastInDim S64x4096x16x128 ![] bcast_S_S64x4096x16x128 (id (constant (F := Ideal) S_ .f32 0xFF800000#32))))
/-- The saved states. -/
def saved (k v lf b : FVec Ideal S4096x16x128 .f32) : FVec Ideal S64x16x128x128 .f32 :=
  transpose S64x16x128x128 [1, 0, 3, 2]
    (Host.dotGeneral dot_S64x4096x16x128_S4096x16x128_S16x64x128x128_1_0_03_2_2_1 none (mulf (wide k) (decay lf b)) v)
    transposes_S16x64x128x128_S64x16x128x128_1_0_3_2

variable (m : (ℓ : Loc nD τ sig) → Buf (Elt Ideal) ℓ)

set_option maxHeartbeats 4000000 in
open Cert.ReferenceIdeal.Read in
theorem V_saved (c : Dev nD) (x0 : FVec Ideal S4096x8192 .f32) (x2 : FVec Ideal S2x2048 .f32)
    (h0 : m ((c : Thread nD τ).loc main_arg0) = x0) (h2 : m ((c : Thread nD τ).loc main_arg2) = x2) : V m c main_v66
    = saved (val_main_v61 (F := Ideal) x0 x2) (val_main_v62 (F := Ideal) x0) (val_main_v64 (F := Ideal) x0 x2)
        (val_main_v66 (F := Ideal) x0 x2) := by
  unfold V
  rw [show [hostOps0, hostOps0_1, hostOps0_2, hostOps0_3, hostOps0_4, hostOps0_5, hostOps0_6, hostOps0_7, hostOps0_8,
      hostOps0_9, hostOps0_10].flatten = (hostOps0 (F := Ideal) ++ hostOps0_1 ++ hostOps0_2 ++ hostOps0_3 ++ hostOps0_4 ++ hostOps0_5
        ++ hostOps0_6 ++ hostOps0_7 ++ hostOps0_8 ++ hostOps0_9 ++ hostOps0_10) from rfl]
  after_reads_simp
  simp only [TRef.ofBuf_toBuf]
  simp only [TRef.toBuf, TRef.ofBuf, cast_eq]
  change m (c, Proc.tc.devRef main_arg0) = x0 at h0
  change m (c, Proc.tc.devRef main_arg2) = x2 at h2
  rw [h0, h2]
  rfl

theorem slt_word (n : Fin 64) (s : Fin 4096) :
    IntOp.cmpi CmpIPredicate.slt (BitVec.ofNat 32 s.val) (IntOp.muli (BitVec.ofNat 32 n.val) 64#32)
    = BitVec.ofBool (decide (s.val < 64 * n.val)) := by
  show BitVec.ofBool (BitVec.slt _ (BitVec.ofNat 32 n.val * 64#32)) = _
  rw [BitVec.slt_eq_decide]
  have e : (BitVec.ofNat 32 s.val).toInt = s.val := by
    rw [BitVec.toInt_eq_toNat_of_lt] <;> rw [BitVec.toNat_ofNat, Nat.mod_eq_of_lt (by omega)]
    omega
  have e' : (BitVec.ofNat 32 n.val * 64#32).toInt = ((64 * n.val : ℕ) : ℤ) := by
    have h : (BitVec.ofNat 32 n.val * 64#32).toNat = 64 * n.val := by
      rw [BitVec.toNat_mul, BitVec.toNat_ofNat, show (64#32).toNat = 64 from rfl]
      omega
    rw [BitVec.toInt_eq_toNat_of_lt (by rw [h]; omega), h]
  rw [e, e']
  norm_cast

theorem mask_at (n : Fin 64) (s : Fin 4096) (h : Fin 16) (d : Fin 128) :
    mask (ix4 n s h d) = BitVec.ofBool (decide (s.val < 64 * n.val)) := by
  unfold mask before
  pointwise [slt_word]

theorem sum_before (N : ℕ) (hN : N ≤ 4096) (f : ℕ → ℝ) :
    (∑ s : Fin 4096, if s.val < N then f s.val else 0) = ∑ s ∈ Finset.range N, f s := by
  rw [Fin.sum_univ_eq_sum_range (fun s => if s < N then f s else 0) 4096, ← Finset.sum_filter]
  congr 1; ext s; simp; omega

variable {x0 : FVec Ideal S4096x8192 .f32} {x1 : FVec Ideal S4096x2048 .f32} {x2 : FVec Ideal S2x2048 .f32}
  {x3 : FVec Ideal S1x128 .f32} {a : Args} (H : Cert.ReferenceIdeal.Real.Holds x0 x1 x2 x3 a)
include H

open Cert.ReferenceIdeal.Read Cert.ReferenceIdeal.Real

theorem last_at (n : Fin 64) (h : Fin 16) (d : Fin 128) :
    last (val_main_v64 (F := Ideal) x0 x2) (ix3 n h d) = (((a.base h).E (64 * n.val) d : ℝ) : EReal) := by
  unfold last wide
  pointwise [id_eq, mask_at, v64_at H]
  rw [Hd.E, ← sum_before _ (by omega), ← sumR]
  refine Finset.sum_congr rfl fun s _ => ?_
  split <;> rfl

theorem decay_at (n : Fin 64) (s : Fin 4096) (h : Fin 16) (d : Fin 128) :
    decay (val_main_v64 (F := Ideal) x0 x2) (val_main_v66 (F := Ideal) x0 x2) (ix4 n s h d)
      = ((if s.val < 64 * n.val then Real.exp ((a.base h).E (64 * n.val) d - (a.base h).E (s.val + 1) d) else 0 : ℝ) : EReal) := by
  unfold decay wide
  pointwise [id_eq, mask_at, last_at H, v66_at H]
  pointwise [ofBits_neg_inf]
  split
  · rw [subR, expR]
  · rw [exp_bot]; rfl

theorem saved_at (n : Fin 64) (h : Fin 16) (e d : Fin 128) :
    saved (val_main_v61 (F := Ideal) x0 x2) (val_main_v62 (F := Ideal) x0) (val_main_v64 (F := Ideal) x0 x2)
        (val_main_v66 (F := Ideal) x0 x2) (ix4 n h e d) = (((a.base h).St (64 * n.val) e d : ℝ) : EReal) := by
  unfold saved wide
  pointwise [v61_at H, v62_at H, decay_at H]
  simp only [mulR, sumR]
  rw [Hd.St, ← sum_before _ (by omega)]
  congr 1
  refine Finset.sum_congr rfl fun s _ => ?_
  split
  · rw [mul_comm]; rfl
  · rw [mul_zero, zero_mul]
end Cert.KernelIdeal.State
-- ==== Proof.Blocks.lean ====
module

public import proofs.«01_k».proof.Proof.Bridge
public import proofs.«01_k».proof.Proof.State

/-! What a grid point's blocks hold: point `t` works on chunk `63 − t`, rows `64 (63 − t)` on. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

theorem pay6_at (x : Fin 16 → FVec Ideal S64x128 .f32) (h : Fin 16) (t : Fin 64) (d : Fin 128) :
    k0_pay6 (x 0) (x 1) (x 2) (x 3) (x 4) (x 5) (x 6) (x 7) (x 8) (x 9) (x 10) (x 11) (x 12) (x 13) (x 14) (x 15) (ix3 h t d) = x h (ix2 t d) := by
  pointwise [k0_pay6]
  fin_vals h with hk
  all_goals
    simp only [hk, Nat.reduceSub, Nat.reduceLT, ↓reduceDIte]
    cases h; dsimp only at hk; subst hk; first | rfl | (obtain rfl : t = 0 := Subsingleton.elim _ _; rfl)

theorem pay7_at (x : Fin 16 → FVec Ideal S64x128 .f32) (h : Fin 16) (t : Fin 64) (d : Fin 128) :
    k0_pay7 (x 0) (x 1) (x 2) (x 3) (x 4) (x 5) (x 6) (x 7) (x 8) (x 9) (x 10) (x 11) (x 12) (x 13) (x 14) (x 15) (ix3 h t d) = x h (ix2 t d) := by
  pointwise [k0_pay7]
  fin_vals h with hk
  all_goals
    simp only [hk, Nat.reduceSub, Nat.reduceLT, ↓reduceDIte]
    cases h; dsimp only at hk; subst hk; first | rfl | (obtain rfl : t = 0 := Subsingleton.elim _ _; rfl)

theorem pay8_at (x : Fin 16 → FVec Ideal S64x128 .f32) (h : Fin 16) (t : Fin 64) (d : Fin 128) :
    k0_pay8 (x 0) (x 1) (x 2) (x 3) (x 4) (x 5) (x 6) (x 7) (x 8) (x 9) (x 10) (x 11) (x 12) (x 13) (x 14) (x 15) (ix3 h t d) = x h (ix2 t d) := by
  pointwise [k0_pay8]
  fin_vals h with hk
  all_goals
    simp only [hk, Nat.reduceSub, Nat.reduceLT, ↓reduceDIte]
    cases h; dsimp only at hk; subst hk; first | rfl | (obtain rfl : t = 0 := Subsingleton.elim _ _; rfl)

theorem pay9_at (x : Fin 16 → FVec Ideal S64x128 .f32) (h : Fin 16) (t : Fin 64) (d : Fin 128) :
    k0_pay9 (x 0) (x 1) (x 2) (x 3) (x 4) (x 5) (x 6) (x 7) (x 8) (x 9) (x 10) (x 11) (x 12) (x 13) (x 14) (x 15) (ix3 h t d) = x h (ix2 t d) := by
  pointwise [k0_pay9]
  fin_vals h with hk
  all_goals
    simp only [hk, Nat.reduceSub, Nat.reduceLT, ↓reduceDIte]
    cases h; dsimp only at hk; subst hk; first | rfl | (obtain rfl : t = 0 := Subsingleton.elim _ _; rfl)

theorem pay103_at (x : Fin 16 → FVec Ideal S64x128 .f32) (h : Fin 16) (t : Fin 64) (d : Fin 128) :
    k0_pay103 (x 0) (x 1) (x 2) (x 3) (x 4) (x 5) (x 6) (x 7) (x 8) (x 9) (x 10) (x 11) (x 12) (x 13) (x 14) (x 15) (ix3 h t d) = x h (ix2 t d) := by
  pointwise [k0_pay103]
  fin_vals h with hk
  all_goals
    simp only [hk, Nat.reduceSub, Nat.reduceLT, ↓reduceDIte]
    cases h; dsimp only at hk; subst hk; first | rfl | (obtain rfl : t = 0 := Subsingleton.elim _ _; rfl)

theorem pay10_at (x : Fin 16 → FVec Ideal S1x128 .f32) (h : Fin 16) (t : Fin 1) (d : Fin 128) :
    k0_pay10 (x 0) (x 1) (x 2) (x 3) (x 4) (x 5) (x 6) (x 7) (x 8) (x 9) (x 10) (x 11) (x 12) (x 13) (x 14) (x 15) (ix3 h t d) = x h (ix2 t d) := by
  pointwise [k0_pay10]
  fin_vals h with hk
  all_goals
    simp only [hk, Nat.reduceSub, Nat.reduceLT, ↓reduceDIte]
    cases h; dsimp only at hk; subst hk; first | rfl | (obtain rfl : t = 0 := Subsingleton.elim _ _; rfl)

theorem pay11_at (x : Fin 16 → FVec Ideal S1x128 .f32) (h : Fin 16) (t : Fin 1) (d : Fin 128) :
    k0_pay11 (x 0) (x 1) (x 2) (x 3) (x 4) (x 5) (x 6) (x 7) (x 8) (x 9) (x 10) (x 11) (x 12) (x 13) (x 14) (x 15) (ix3 h t d) = x h (ix2 t d) := by
  pointwise [k0_pay11]
  fin_vals h with hk
  all_goals
    simp only [hk, Nat.reduceSub, Nat.reduceLT, ↓reduceDIte]
    cases h; dsimp only at hk; subst hk; first | rfl | (obtain rfl : t = 0 := Subsingleton.elim _ _; rfl)

variable (m : (ℓ : Loc nD τ sig) → Buf (Elt Ideal) ℓ)

/-- Where each window's block stands at each point. -/
theorem idx : ∀ t : Fin cfg0.N,
    (win0_0.index t 0 = 63 - t.val ∧ win0_0.index t 1 = 0) ∧ (win0_1.index t 0 = 63 - t.val ∧ win0_1.index t 1 = 0)
    ∧ (win0_2.index t 0 = 63 - t.val ∧ win0_2.index t 1 = 0 ∧ win0_2.index t 2 = 0 ∧ win0_2.index t 3 = 0)
    ∧ (win0_3.index t 0 = 0 ∧ win0_3.index t 1 = 0) ∧ (win0_4.index t 0 = 0 ∧ win0_4.index t 1 = 0)
    ∧ (win0_5.index t 0 = 63 - t.val ∧ win0_5.index t 1 = 0)
    ∧ (win0_6.index t 0 = 0 ∧ win0_6.index t 1 = 0) ∧ (win0_7.index t 0 = 0 ∧ win0_7.index t 1 = 0) :=
  (by decide +kernel : ∀ t : Fin grid0.N, _)

variable (c : Dev nD) (t : Fin cfg0.N)

theorem blk0_at (r : Fin 64) (j : Fin 8192) :
    iblk m c 0 t (ix2 r j) = m ((c : Thread nD τ).loc main_arg0) (ix2 ⟨64 * (63 - t.val) + r.val, by omega⟩ j) := by
  blk_ext [iblk, V_main_arg0, idx t]
theorem blk1_at (r : Fin 64) (j : Fin 2048) :
    iblk m c 1 t (ix2 r j) = m ((c : Thread nD τ).loc main_arg1) (ix2 ⟨64 * (63 - t.val) + r.val, by omega⟩ j) := by
  blk_ext [iblk, V_main_arg1, idx t]
theorem blk2_at (h : Fin 16) (e d : Fin 128) :
    iblk m c 2 t (ix4 0 h e d) = V m c main_v66 (ix4 ⟨63 - t.val, by omega⟩ h e d) := by
  blk_ext [iblk, idx t]
theorem blk3_at (i : Fin 2) (j : Fin 2048) :
    iblk m c 3 t (ix2 i j) = m ((c : Thread nD τ).loc main_arg2) (ix2 i j) := by
  blk_ext [iblk, V_main_arg2, idx t]
theorem blk4_at (i : Fin 1) (j : Fin 128) :
    iblk m c 4 t (ix2 i j) = m ((c : Thread nD τ).loc main_arg3) (ix2 i j) := by
  blk_ext [iblk, V_main_arg3, idx t]

theorem ld0_at (X : FVec Ideal S64x8192 .f32) (o : ℕ) (hb) (t : Fin 64) (d : Fin 128) (ho : o + 128 ≤ 8192) :
    View.ld (Val := Elt Ideal) (e' := .f32) X (Rect.unit (s := S64x8192) ![0, o] ![64, 128] hb) (ix2 t d) = X (ix2 t ⟨o + d.val, by omega⟩) := by
  refine View.ld_unit_apply_of (Val := Elt Ideal) (e := .f32) X _ _ hb _ (ix2 _ _) fun a => ?_
  match a with
  | ⟨0, _⟩ => exact (Nat.zero_add t.val).symm
  | ⟨1, _⟩ => exact rfl
theorem ld1_at (X : FVec Ideal S64x2048 .f32) (o : ℕ) (hb) (t : Fin 64) (d : Fin 128) (ho : o + 128 ≤ 2048) :
    View.ld (Val := Elt Ideal) (e' := .f32) X (Rect.unit (s := S64x2048) ![0, o] ![64, 128] hb) (ix2 t d) = X (ix2 t ⟨o + d.val, by omega⟩) := by
  refine View.ld_unit_apply_of (Val := Elt Ideal) (e := .f32) X _ _ hb _ (ix2 _ _) fun a => ?_
  match a with
  | ⟨0, _⟩ => exact (Nat.zero_add t.val).symm
  | ⟨1, _⟩ => exact rfl
theorem ld3_at (X : FVec Ideal S2x2048 .f32) (i o : ℕ) (hb) (t : Fin 1) (d : Fin 128) (hi : i < 2) (ho : o + 128 ≤ 2048) :
    View.ld (Val := Elt Ideal) (e' := .f32) X (Rect.unit (s := S2x2048) ![i, o] ![1, 128] hb) (ix2 t d) = X (ix2 ⟨i, hi⟩ ⟨o + d.val, by omega⟩) := by
  obtain rfl : t = 0 := Subsingleton.elim _ _
  refine View.ld_unit_apply_of (Val := Elt Ideal) (e := .f32) X _ _ hb _ (ix2 _ _) fun a => ?_
  match a with
  | ⟨0, _⟩ => exact rfl
  | ⟨1, _⟩ => exact rfl

end Cert.KernelIdeal.Bridge
-- ==== Proof.Take.lean ====
module

public import proofs.«01_k».proof.Proof.Blocks
public import proofs.«01_k».proof.Proof.State
public import proofs.«01_k».proof.Proof.Glob

/-! Grid point `t` reads chunk `63 − t`: when the argument arrays hold real numbers, the arrays the point loads hold
what `Args.rin` says the chunk reads. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

variable {m : (ℓ : Loc nD τ sig) → Buf (Elt Ideal) ℓ} {c : Dev nD} {a : Args}
  (H : Cert.ReferenceIdeal.Real.Holds (m ((c : Thread nD τ).loc main_arg0)) (m ((c : Thread nD τ).loc main_arg1))
    (m ((c : Thread nD τ).loc main_arg2)) (m ((c : Thread nD τ).loc main_arg3)) a)
  (t : Fin cfg0.N)

theorem inside0 (o : ℕ) (ho : o + 128 ≤ 8192) (a : Fin S64x8192.rank) :
    (![0, o] : Fin 2 → ℕ) a + (![64, 128] : Fin 2 → ℕ) a ≤ S64x8192.size a :=
  match a with | ⟨0, _⟩ => (by decide : 0 + 64 ≤ 64) | ⟨1, _⟩ => ho
theorem inside1 (o : ℕ) (ho : o + 128 ≤ 2048) (a : Fin S64x2048.rank) :
    (![0, o] : Fin 2 → ℕ) a + (![64, 128] : Fin 2 → ℕ) a ≤ S64x2048.size a :=
  match a with | ⟨0, _⟩ => (by decide : 0 + 64 ≤ 64) | ⟨1, _⟩ => ho
theorem inside3 (i o : ℕ) (hi : i < 2) (ho : o + 128 ≤ 2048) (a : Fin S2x2048.rank) :
    (![i, o] : Fin 2 → ℕ) a + (![1, 128] : Fin 2 → ℕ) a ≤ S2x2048.size a :=
  match a with | ⟨0, _⟩ => hi | ⟨1, _⟩ => ho

include H

/-- A loaded slice of the projection. -/
theorem slice0 (o : ℕ) (ho : o + 2048 ≤ 8192) (h : Fin 16) (r : Fin 64) (d : Fin 128) :
    @View.ld (Elt Ideal) S64x8192 .f32 (iblk m c 0 t)
        (Rect.unit ![0, o + 128 * h.val] ![64, 128] (inside0 _ (by omega))) (ix2 r d)
      = ((a.p (64 * (63 - t.val) + r.val) (o + at_ h d) : ℝ) : EReal) := by
  rw [ld0_at _ _ _ _ _ (by omega), blk0_at]
  refine (H.p _ _).trans ?_
  show ((a.p (64 * (63 - t.val) + r.val) (o + 128 * h.val + d.val) : ℝ) : EReal) = _
  rw [show o + 128 * h.val + d.val = o + at_ h d from by show _ = o + (h.val * 128 + d.val); omega]
/-- A loaded slice of the output's gradient. -/
theorem slice1 (h : Fin 16) (r : Fin 64) (d : Fin 128) :
    @View.ld (Elt Ideal) S64x2048 .f32 (iblk m c 1 t)
        (Rect.unit ![0, 128 * h.val] ![64, 128] (inside1 _ (by omega))) (ix2 r d)
      = ((a.dout (64 * (63 - t.val) + r.val) (at_ h d) : ℝ) : EReal) := by
  rw [ld1_at _ _ _ _ _ (by omega), blk1_at]
  refine (H.dout _ _).trans ?_
  show ((a.dout (64 * (63 - t.val) + r.val) (128 * h.val + d.val) : ℝ) : EReal) = _
  rw [show 128 * h.val + d.val = at_ h d from by show _ = (h.val * 128 + d.val); omega]
/-- A loaded slice of the lower bounds' first row. -/
theorem slice3_0 (h : Fin 16) (r : Fin 1) (d : Fin 128) :
    @View.ld (Elt Ideal) S2x2048 .f32 (iblk m c 3 t)
        (Rect.unit ![0, 128 * h.val] ![1, 128] (inside3 0 _ (by omega) (by omega))) (ix2 r d)
      = ((a.l0 (at_ h d) : ℝ) : EReal) := by
  rw [ld3_at _ _ _ _ _ _ (by omega) (by omega), blk3_at]
  refine (H.l0 _).trans ?_
  show ((a.l0 (128 * h.val + d.val) : ℝ) : EReal) = _
  rw [show 128 * h.val + d.val = at_ h d from by show _ = (h.val * 128 + d.val); omega]
/-- A loaded slice of the lower bounds' second row. -/
theorem slice3_1 (h : Fin 16) (r : Fin 1) (d : Fin 128) :
    @View.ld (Elt Ideal) S2x2048 .f32 (iblk m c 3 t)
        (Rect.unit ![1, 128 * h.val] ![1, 128] (inside3 1 _ (by omega) (by omega))) (ix2 r d)
      = ((a.l1 (at_ h d) : ℝ) : EReal) := by
  rw [ld3_at _ _ _ _ _ _ (by omega) (by omega), blk3_at]
  refine (H.l1 _).trans ?_
  show ((a.l1 (128 * h.val + d.val) : ℝ) : EReal) = _
  rw [show 128 * h.val + d.val = at_ h d from by show _ = (h.val * 128 + d.val); omega]

/-- The saved state of the chunk. -/
theorem state_at (h : Fin 16) (e d : Fin 128) :
    k0_pay12 (F := Ideal) (iblk m c 2 t) (ix3 h e d) = (((a.base h).St (64 * (63 - t.val)) e d : ℝ) : EReal) := by
  pointwise [k0_pay12]
  rw [blk2_at, Cert.KernelIdeal.State.V_saved m c _ _ rfl rfl]
  exact Cert.KernelIdeal.State.saved_at H _ h e d

set_option maxHeartbeats 2000000 in
/-- What the point reads, given the gradient of the state after its chunk. -/
theorem reads (k : FVec Ideal S16x128x128 .f32)
    (hk : ∀ h e d, k (ix3 h e d) = (((a.head h).Dt (64 * (63 - t.val) + 64) e d : ℝ) : EReal)) :
    Reads (chunkIn m c t k) (a.rin (63 - t.val)) where
  qraw h r d := (pay6_at (fun h => @View.ld (Elt Ideal) S64x8192 .f32 (iblk m c 0 t)
      (Rect.unit ![0, 0 + 128 * h.val] ![64, 128] (inside0 _ (by omega)))) h r d).trans
    ((slice0 H t 0 (by omega) h r d).trans (by rw [Nat.zero_add]; rfl))
  fraw h r d := (pay7_at (fun h => @View.ld (Elt Ideal) S64x8192 .f32 (iblk m c 0 t)
      (Rect.unit ![0, 2048 + 128 * h.val] ![64, 128] (inside0 _ (by omega)))) h r d).trans
    (slice0 H t 2048 (by omega) h r d)
  val h r d := (pay8_at (fun h => @View.ld (Elt Ideal) S64x8192 .f32 (iblk m c 0 t)
      (Rect.unit ![0, 4096 + 128 * h.val] ![64, 128] (inside0 _ (by omega)))) h r d).trans
    (slice0 H t 4096 (by omega) h r d)
  zraw h r d := (pay9_at (fun h => @View.ld (Elt Ideal) S64x8192 .f32 (iblk m c 0 t)
      (Rect.unit ![0, 6144 + 128 * h.val] ![64, 128] (inside0 _ (by omega)))) h r d).trans
    (slice0 H t 6144 (by omega) h r d)
  low h r d := (pay10_at (fun h => @View.ld (Elt Ideal) S2x2048 .f32 (iblk m c 3 t)
      (Rect.unit ![0, 128 * h.val] ![1, 128] (inside3 0 _ (by omega) (by omega)))) h r d).trans (slice3_0 H t h r d)
  high h r d := (pay11_at (fun h => @View.ld (Elt Ideal) S2x2048 .f32 (iblk m c 3 t)
      (Rect.unit ![1, 128 * h.val] ![1, 128] (inside3 1 _ (by omega) (by omega)))) h r d).trans (slice3_1 H t h r d)
  state h e d := state_at H t h e d
  gain i d := by
    obtain rfl : i = 0 := Subsingleton.elim _ _
    exact (blk4_at m c t 0 d).trans (H.g d)
  dout h r d := (pay103_at (fun h => @View.ld (Elt Ideal) S64x2048 .f32 (iblk m c 1 t)
      (Rect.unit ![0, 128 * h.val] ![64, 128] (inside1 _ (by omega)))) h r d).trans (slice1 H t h r d)
  carry h e d := hk h e d

end Cert.KernelIdeal.Bridge
-- ==== Proof.Pieces.lean ====
module

public import proofs.«01_k».proof.Proof.Values4
public import Idealize.ShloMosaic.Lib.Pipeline.ValueKit

/-! The pieces a grid point writes into the blocks of its outputs, over the named values of `Chain`. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

/-- The pieces of the projections' gradient, newest first. -/
def pieces5Of (x599 : FVec Ideal S16x64x128 .f32) (x636 : FVec Ideal S16x64x128 .f32) (x907 : FVec Ideal S16x64x128 .f32) (x899 : FVec Ideal S16x64x128 .f32) (x256 : FVec Ideal S16x64x128 .f32) (x259 : FVec Ideal S16x64x128 .f32) (x771 : FVec Ideal S16x64x128 .f32) (xq : FVec Ideal S16x64x128 .f32) : List (View.Piece (Elt Ideal) S64x8192 .bf16) :=
  [⟨Rect.unit ![0, 8064] ![64, 128] inb_S64x8192_S64x128_0_8064, k0_pay245 x599⟩,
   ⟨Rect.unit ![0, 7936] ![64, 128] inb_S64x8192_S64x128_0_7936, k0_pay244 x599⟩,
   ⟨Rect.unit ![0, 7808] ![64, 128] inb_S64x8192_S64x128_0_7808, k0_pay243 x599⟩,
   ⟨Rect.unit ![0, 7680] ![64, 128] inb_S64x8192_S64x128_0_7680, k0_pay242 x599⟩,
   ⟨Rect.unit ![0, 7552] ![64, 128] inb_S64x8192_S64x128_0_7552, k0_pay241 x599⟩,
   ⟨Rect.unit ![0, 7424] ![64, 128] inb_S64x8192_S64x128_0_7424, k0_pay240 x599⟩,
   ⟨Rect.unit ![0, 7296] ![64, 128] inb_S64x8192_S64x128_0_7296, k0_pay239 x599⟩,
   ⟨Rect.unit ![0, 7168] ![64, 128] inb_S64x8192_S64x128_0_7168, k0_pay238 x599⟩,
   ⟨Rect.unit ![0, 7040] ![64, 128] inb_S64x8192_S64x128_0_7040, k0_pay237 x599⟩,
   ⟨Rect.unit ![0, 6912] ![64, 128] inb_S64x8192_S64x128_0_6912, k0_pay236 x599⟩,
   ⟨Rect.unit ![0, 6784] ![64, 128] inb_S64x8192_S64x128_0_6784, k0_pay235 (k0_pay234 x599)⟩,
   ⟨Rect.unit ![0, 6656] ![64, 128] inb_S64x8192_S64x128_0_6656, k0_pay233 x599⟩,
   ⟨Rect.unit ![0, 6528] ![64, 128] inb_S64x8192_S64x128_0_6528, k0_pay232 x599⟩,
   ⟨Rect.unit ![0, 6400] ![64, 128] inb_S64x8192_S64x128_0_6400, k0_pay231 x599⟩,
   ⟨Rect.unit ![0, 6272] ![64, 128] inb_S64x8192_S64x128_0_6272, k0_pay230 x599⟩,
   ⟨Rect.unit ![0, 6144] ![64, 128] inb_S64x8192_S64x128_0_6144, k0_pay229 x599⟩,
   ⟨Rect.unit ![0, 6016] ![64, 128] inb_S64x8192_S64x128_0_6016, k0_pay228 x636⟩,
   ⟨Rect.unit ![0, 5888] ![64, 128] inb_S64x8192_S64x128_0_5888, k0_pay227 x636⟩,
   ⟨Rect.unit ![0, 5760] ![64, 128] inb_S64x8192_S64x128_0_5760, k0_pay226 x636⟩,
   ⟨Rect.unit ![0, 5632] ![64, 128] inb_S64x8192_S64x128_0_5632, k0_pay225 x636⟩,
   ⟨Rect.unit ![0, 5504] ![64, 128] inb_S64x8192_S64x128_0_5504, k0_pay224 x636⟩,
   ⟨Rect.unit ![0, 5376] ![64, 128] inb_S64x8192_S64x128_0_5376, k0_pay223 x636⟩,
   ⟨Rect.unit ![0, 5248] ![64, 128] inb_S64x8192_S64x128_0_5248, k0_pay222 x636⟩,
   ⟨Rect.unit ![0, 5120] ![64, 128] inb_S64x8192_S64x128_0_5120, k0_pay221 x636⟩,
   ⟨Rect.unit ![0, 4992] ![64, 128] inb_S64x8192_S64x128_0_4992, k0_pay220 x636⟩,
   ⟨Rect.unit ![0, 4864] ![64, 128] inb_S64x8192_S64x128_0_4864, k0_pay219 x636⟩,
   ⟨Rect.unit ![0, 4736] ![64, 128] inb_S64x8192_S64x128_0_4736, k0_pay218 x636⟩,
   ⟨Rect.unit ![0, 4608] ![64, 128] inb_S64x8192_S64x128_0_4608, k0_pay217 x636⟩,
   ⟨Rect.unit ![0, 4480] ![64, 128] inb_S64x8192_S64x128_0_4480, k0_pay216 x636⟩,
   ⟨Rect.unit ![0, 4352] ![64, 128] inb_S64x8192_S64x128_0_4352, k0_pay215 x636⟩,
   ⟨Rect.unit ![0, 4224] ![64, 128] inb_S64x8192_S64x128_0_4224, k0_pay214 x636⟩,
   ⟨Rect.unit ![0, 4096] ![64, 128] inb_S64x8192_S64x128_0_4096, k0_pay213 x636⟩,
   ⟨Rect.unit ![0, 3968] ![64, 128] inb_S64x8192_S64x128_0_3968, k0_pay212 x907⟩,
   ⟨Rect.unit ![0, 3840] ![64, 128] inb_S64x8192_S64x128_0_3840, k0_pay211 x907⟩,
   ⟨Rect.unit ![0, 3712] ![64, 128] inb_S64x8192_S64x128_0_3712, k0_pay210 x907⟩,
   ⟨Rect.unit ![0, 3584] ![64, 128] inb_S64x8192_S64x128_0_3584, k0_pay209 x907⟩,
   ⟨Rect.unit ![0, 3456] ![64, 128] inb_S64x8192_S64x128_0_3456, k0_pay208 x907⟩,
   ⟨Rect.unit ![0, 3328] ![64, 128] inb_S64x8192_S64x128_0_3328, k0_pay207 x907⟩,
   ⟨Rect.unit ![0, 3200] ![64, 128] inb_S64x8192_S64x128_0_3200, k0_pay206 x907⟩,
   ⟨Rect.unit ![0, 3072] ![64, 128] inb_S64x8192_S64x128_0_3072, k0_pay205 x907⟩,
   ⟨Rect.unit ![0, 2944] ![64, 128] inb_S64x8192_S64x128_0_2944, k0_pay204 x907⟩,
   ⟨Rect.unit ![0, 2816] ![64, 128] inb_S64x8192_S64x128_0_2816, k0_pay203 x907⟩,
   ⟨Rect.unit ![0, 2688] ![64, 128] inb_S64x8192_S64x128_0_2688, k0_pay202 x907⟩,
   ⟨Rect.unit ![0, 2560] ![64, 128] inb_S64x8192_S64x128_0_2560, k0_pay201 x907⟩,
   ⟨Rect.unit ![0, 2432] ![64, 128] inb_S64x8192_S64x128_0_2432, k0_pay200 x907⟩,
   ⟨Rect.unit ![0, 2304] ![64, 128] inb_S64x8192_S64x128_0_2304, k0_pay199 x907⟩,
   ⟨Rect.unit ![0, 2176] ![64, 128] inb_S64x8192_S64x128_0_2176, k0_pay198 x907⟩,
   ⟨Rect.unit ![0, 2048] ![64, 128] inb_S64x8192_S64x128_0_2048, k0_pay197 x907⟩,
   ⟨Rect.unit ![0, 1920] ![64, 128] inb_S64x8192_S64x128_0_1920, k0_pay196 x899⟩,
   ⟨Rect.unit ![0, 1792] ![64, 128] inb_S64x8192_S64x128_0_1792, k0_pay195 x899⟩,
   ⟨Rect.unit ![0, 1664] ![64, 128] inb_S64x8192_S64x128_0_1664, k0_pay194 x899⟩,
   ⟨Rect.unit ![0, 1536] ![64, 128] inb_S64x8192_S64x128_0_1536, k0_pay193 x899⟩,
   ⟨Rect.unit ![0, 1408] ![64, 128] inb_S64x8192_S64x128_0_1408, k0_pay192 x899⟩,
   ⟨Rect.unit ![0, 1280] ![64, 128] inb_S64x8192_S64x128_0_1280, k0_pay191 (k0_pay190 x899)⟩,
   ⟨Rect.unit ![0, 1152] ![64, 128] inb_S64x8192_S64x128_0_1152, k0_pay189 x899⟩,
   ⟨Rect.unit ![0, 1024] ![64, 128] inb_S64x8192_S64x128_0_1024, k0_pay188 x899⟩,
   ⟨Rect.unit ![0, 896] ![64, 128] inb_S64x8192_S64x128_0_896, k0_pay187 x899⟩,
   ⟨Rect.unit ![0, 768] ![64, 128] inb_S64x8192_S64x128_0_768, k0_pay186 x899⟩,
   ⟨Rect.unit ![0, 640] ![64, 128] inb_S64x8192_S64x128_0_640, k0_pay185 x899⟩,
   ⟨Rect.unit ![0, 512] ![64, 128] inb_S64x8192_S64x128_0_512, k0_pay184 x899⟩,
   ⟨Rect.unit ![0, 384] ![64, 128] inb_S64x8192_S64x128_0_384, k0_pay183 x899⟩,
   ⟨Rect.unit ![0, 256] ![64, 128] inb_S64x8192_S64x128_0_256, k0_pay182 x899⟩,
   ⟨Rect.unit ![0, 128] ![64, 128] inb_S64x8192_S64x128_0_128, k0_pay181 xq x256 x259 x771⟩,
   ⟨Rect.unit ![0, 0] ![64, 128] inb_S64x8192_S64x128_0_0, k0_pay180 xq x256 x259 x771⟩]

/-- These pieces at the chunk's values. -/
def pieces5 (I : In) : List (View.Piece (Elt Ideal) S64x8192 .bf16) :=
  pieces5Of (v599 I) (v636 I) (v907 I) (v899 I) (v256 I) (v259 I) (v771 I) I.qraw

/-- The pieces of the lower bounds' gradient over the earlier contents `W`, newest first. -/
def pieces6Of (x925 : FVec Ideal S16x1x128 .f32) (x927 : FVec Ideal S16x1x128 .f32) (W : Vec Ideal S2x2048 .f32) : List (View.Piece (Elt Ideal) S2x2048 .f32) :=
  [⟨Rect.unit ![1, 1920] ![1, 128] inb_S2x2048_S1x128_1_1920, k0_pay1 x925 (View.ld W (Rect.unit ![1, 1920] ![1, 128] inb_S2x2048_S1x128_1_1920))⟩,
   ⟨Rect.unit ![1, 1792] ![1, 128] inb_S2x2048_S1x128_1_1792, k0_pay279 x925 (View.ld W (Rect.unit ![1, 1792] ![1, 128] inb_S2x2048_S1x128_1_1792))⟩,
   ⟨Rect.unit ![1, 1664] ![1, 128] inb_S2x2048_S1x128_1_1664, k0_pay278 x925 (View.ld W (Rect.unit ![1, 1664] ![1, 128] inb_S2x2048_S1x128_1_1664))⟩,
   ⟨Rect.unit ![1, 1536] ![1, 128] inb_S2x2048_S1x128_1_1536, k0_pay277 x925 (View.ld W (Rect.unit ![1, 1536] ![1, 128] inb_S2x2048_S1x128_1_1536))⟩,
   ⟨Rect.unit ![1, 1408] ![1, 128] inb_S2x2048_S1x128_1_1408, k0_pay276 x925 (View.ld W (Rect.unit ![1, 1408] ![1, 128] inb_S2x2048_S1x128_1_1408))⟩,
   ⟨Rect.unit ![1, 1280] ![1, 128] inb_S2x2048_S1x128_1_1280, k0_pay275 x925 (View.ld W (Rect.unit ![1, 1280] ![1, 128] inb_S2x2048_S1x128_1_1280))⟩,
   ⟨Rect.unit ![1, 1152] ![1, 128] inb_S2x2048_S1x128_1_1152, k0_pay274 x925 (View.ld W (Rect.unit ![1, 1152] ![1, 128] inb_S2x2048_S1x128_1_1152))⟩,
   ⟨Rect.unit ![1, 1024] ![1, 128] inb_S2x2048_S1x128_1_1024, k0_pay273 x925 (View.ld W (Rect.unit ![1, 1024] ![1, 128] inb_S2x2048_S1x128_1_1024))⟩,
   ⟨Rect.unit ![1, 896] ![1, 128] inb_S2x2048_S1x128_1_896, k0_pay272 x925 (View.ld W (Rect.unit ![1, 896] ![1, 128] inb_S2x2048_S1x128_1_896))⟩,
   ⟨Rect.unit ![1, 768] ![1, 128] inb_S2x2048_S1x128_1_768, k0_pay271 x925 (View.ld W (Rect.unit ![1, 768] ![1, 128] inb_S2x2048_S1x128_1_768))⟩,
   ⟨Rect.unit ![1, 640] ![1, 128] inb_S2x2048_S1x128_1_640, k0_pay270 x925 (View.ld W (Rect.unit ![1, 640] ![1, 128] inb_S2x2048_S1x128_1_640))⟩,
   ⟨Rect.unit ![1, 512] ![1, 128] inb_S2x2048_S1x128_1_512, k0_pay269 x925 (k0_pay268 (View.ld W (Rect.unit ![1, 512] ![1, 128] inb_S2x2048_S1x128_1_512)))⟩,
   ⟨Rect.unit ![1, 384] ![1, 128] inb_S2x2048_S1x128_1_384, k0_pay267 x925 (View.ld W (Rect.unit ![1, 384] ![1, 128] inb_S2x2048_S1x128_1_384))⟩,
   ⟨Rect.unit ![1, 256] ![1, 128] inb_S2x2048_S1x128_1_256, k0_pay266 x925 (View.ld W (Rect.unit ![1, 256] ![1, 128] inb_S2x2048_S1x128_1_256))⟩,
   ⟨Rect.unit ![1, 128] ![1, 128] inb_S2x2048_S1x128_1_128, k0_pay265 x925 (View.ld W (Rect.unit ![1, 128] ![1, 128] inb_S2x2048_S1x128_1_128))⟩,
   ⟨Rect.unit ![1, 0] ![1, 128] inb_S2x2048_S1x128_1_0, k0_pay264 x925 (View.ld W (Rect.unit ![1, 0] ![1, 128] inb_S2x2048_S1x128_1_0))⟩,
   ⟨Rect.unit ![0, 1920] ![1, 128] inb_S2x2048_S1x128_0_1920, k0_pay263 x927 (View.ld W (Rect.unit ![0, 1920] ![1, 128] inb_S2x2048_S1x128_0_1920))⟩,
   ⟨Rect.unit ![0, 1792] ![1, 128] inb_S2x2048_S1x128_0_1792, k0_pay262 x927 (View.ld W (Rect.unit ![0, 1792] ![1, 128] inb_S2x2048_S1x128_0_1792))⟩,
   ⟨Rect.unit ![0, 1664] ![1, 128] inb_S2x2048_S1x128_0_1664, k0_pay261 x927 (View.ld W (Rect.unit ![0, 1664] ![1, 128] inb_S2x2048_S1x128_0_1664))⟩,
   ⟨Rect.unit ![0, 1536] ![1, 128] inb_S2x2048_S1x128_0_1536, k0_pay260 x927 (View.ld W (Rect.unit ![0, 1536] ![1, 128] inb_S2x2048_S1x128_0_1536))⟩,
   ⟨Rect.unit ![0, 1408] ![1, 128] inb_S2x2048_S1x128_0_1408, k0_pay259 x927 (View.ld W (Rect.unit ![0, 1408] ![1, 128] inb_S2x2048_S1x128_0_1408))⟩,
   ⟨Rect.unit ![0, 1280] ![1, 128] inb_S2x2048_S1x128_0_1280, k0_pay258 x927 (View.ld W (Rect.unit ![0, 1280] ![1, 128] inb_S2x2048_S1x128_0_1280))⟩,
   ⟨Rect.unit ![0, 1152] ![1, 128] inb_S2x2048_S1x128_0_1152, k0_pay257 (k0_pay255 (View.ld W (Rect.unit ![0, 1152] ![1, 128] inb_S2x2048_S1x128_0_1152))) (k0_pay256 x927)⟩,
   ⟨Rect.unit ![0, 1024] ![1, 128] inb_S2x2048_S1x128_0_1024, k0_pay254 x927 (View.ld W (Rect.unit ![0, 1024] ![1, 128] inb_S2x2048_S1x128_0_1024))⟩,
   ⟨Rect.unit ![0, 896] ![1, 128] inb_S2x2048_S1x128_0_896, k0_pay253 x927 (View.ld W (Rect.unit ![0, 896] ![1, 128] inb_S2x2048_S1x128_0_896))⟩,
   ⟨Rect.unit ![0, 768] ![1, 128] inb_S2x2048_S1x128_0_768, k0_pay252 x927 (View.ld W (Rect.unit ![0, 768] ![1, 128] inb_S2x2048_S1x128_0_768))⟩,
   ⟨Rect.unit ![0, 640] ![1, 128] inb_S2x2048_S1x128_0_640, k0_pay251 x927 (View.ld W (Rect.unit ![0, 640] ![1, 128] inb_S2x2048_S1x128_0_640))⟩,
   ⟨Rect.unit ![0, 512] ![1, 128] inb_S2x2048_S1x128_0_512, k0_pay250 x927 (View.ld W (Rect.unit ![0, 512] ![1, 128] inb_S2x2048_S1x128_0_512))⟩,
   ⟨Rect.unit ![0, 384] ![1, 128] inb_S2x2048_S1x128_0_384, k0_pay249 x927 (View.ld W (Rect.unit ![0, 384] ![1, 128] inb_S2x2048_S1x128_0_384))⟩,
   ⟨Rect.unit ![0, 256] ![1, 128] inb_S2x2048_S1x128_0_256, k0_pay248 x927 (View.ld W (Rect.unit ![0, 256] ![1, 128] inb_S2x2048_S1x128_0_256))⟩,
   ⟨Rect.unit ![0, 128] ![1, 128] inb_S2x2048_S1x128_0_128, k0_pay247 x927 (View.ld W (Rect.unit ![0, 128] ![1, 128] inb_S2x2048_S1x128_0_128))⟩,
   ⟨Rect.unit ![0, 0] ![1, 128] inb_S2x2048_S1x128_0_0, k0_pay246 x927 (View.ld W (Rect.unit ![0, 0] ![1, 128] inb_S2x2048_S1x128_0_0))⟩]

/-- These pieces at the chunk's values. -/
def pieces6 (I : In) (W : Vec Ideal S2x2048 .f32) : List (View.Piece (Elt Ideal) S2x2048 .f32) :=
  pieces6Of (v925 I) (v927 I) W

end Cert.KernelIdeal.Bridge
-- ==== Proof.Read6.lean ====
module

public import proofs.«01_k».proof.Proof.Pieces

/-! The block of the lower bounds' gradient a grid point writes, read at an index. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

theorem at_eq (y : S2x2048.Idx) (i : Fin 2) (j : Fin 2048) (hi : (y 0).val = i.val) (hj : (y 1).val = j.val) :
    ix2 i j = y :=
  funext fun a => by
    refine Fin.cases ?_ (fun b => ?_) a
    · exact Fin.ext hi.symm
    · obtain rfl : b = 0 := Subsingleton.elim _ _
      exact Fin.ext hj.symm

/-- What a chunk adds to the lower bounds' gradient at row `i` and lane `j`. -/
def dlow (r : Rin) (i : Fin 2) (j : Fin 2048) : ℝ :=
  if i.val = 0 then r.c0 ⟨j.val / 128, by omega⟩ ⟨j.val % 128, by omega⟩
  else r.c1 ⟨j.val / 128, by omega⟩ ⟨j.val % 128, by omega⟩

theorem dlow_0 (r : Rin) (i : Fin 2) (j : Fin 2048) (h : Fin 16) (d : Fin 128) (hi : i.val = 0)
    (hj : j.val = 128 * h.val + d.val) : r.c0 h d = dlow r i j := by
  unfold dlow
  rw [if_pos hi]
  congr 1 <;> exact Fin.ext (by simp only []; omega)

theorem dlow_1 (r : Rin) (i : Fin 2) (j : Fin 2048) (h : Fin 16) (d : Fin 128) (hi : i.val = 1)
    (hj : j.val = 128 * h.val + d.val) : r.c1 h d = dlow r i j := by
  unfold dlow
  rw [if_neg (by omega)]
  congr 1 <;> exact Fin.ext (by simp only []; omega)

variable {I : In} {r : Rin} (H : Reads I r)
include H

set_option maxHeartbeats 4000000 in
/-- The contents at row `y 0` and lane `y 1` after the chunk's part is added. -/
theorem pieces6_at (W : Vec Ideal S2x2048 .f32) (y : S2x2048.Idx) :
    View.canon (pieces6 I W) y = W y + ((dlow r (y 0) (y 1) : ℝ) : EReal) := by
  unfold pieces6 pieces6Of
  canon_tiles x h
  all_goals
    simp only [k0_pay1, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279]
    pointwise [v925_at H, v927_at H]
    refine congrArg₂ (· + ·) (congrArg W (at_eq _ _ _ (by simp only [Fin.val_zero, Fin.val_one]; omega) ?_)) (congrArg _ ?_)
    · exact h1
    first
    | exact dlow_0 r _ _ _ _ (by omega) h1
    | exact dlow_1 r _ _ _ _ (by omega) h1
    | exact dlow_0 r _ _ _ _ (by omega) (by simp only [Fin.val_zero]; omega)
    | exact dlow_1 r _ _ _ _ (by omega) (by simp only [Fin.val_zero]; omega)

end Cert.KernelIdeal.Bridge
-- ==== Proof.Folds.lean ====
module

public import proofs.«01_k».proof.Proof.Bridge

/-! The stacked loads of a grid point, named. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

variable (m : (ℓ : Loc nD τ sig) → Buf (Elt Ideal) ℓ) (c : Dev nD) (t : Fin cfg0.N) (k : FVec Ideal S16x128x128 .f32)

theorem fold_qraw : k0_pay6 (@View.ld (Elt Ideal) S64x8192 .f32 (iblk m c 0 t) (Rect.unit ![0, 0] ![64, 128] inb_S64x8192_S64x128_0_0))
      (@View.ld (Elt Ideal) S64x8192 .f32 (iblk m c 0 t) (Rect.unit ![0, 128] ![64, 128] inb_S64x8192_S64x128_0_128))
      (@View.ld (Elt Ideal) S64x8192 .f32 (iblk m c 0 t) (Rect.unit ![0, 256] ![64, 128] inb_S64x8192_S64x128_0_256))
      (@View.ld (Elt Ideal) S64x8192 .f32 (iblk m c 0 t) (Rect.unit ![0, 384] ![64, 128] inb_S64x8192_S64x128_0_384))
      (@View.ld (Elt Ideal) S64x8192 .f32 (iblk m c 0 t) (Rect.unit ![0, 512] ![64, 128] inb_S64x8192_S64x128_0_512))
      (@View.ld (Elt Ideal) S64x8192 .f32 (iblk m c 0 t) (Rect.unit ![0, 640] ![64, 128] inb_S64x8192_S64x128_0_640))
      (@View.ld (Elt Ideal) S64x8192 .f32 (iblk m c 0 t) (Rect.unit ![0, 768] ![64, 128] inb_S64x8192_S64x128_0_768))
      (@View.ld (Elt Ideal) S64x8192 .f32 (iblk m c 0 t) (Rect.unit ![0, 896] ![64, 128] inb_S64x8192_S64x128_0_896))
      (@View.ld (Elt Ideal) S64x8192 .f32 (iblk m c 0 t) (Rect.unit ![0, 1024] ![64, 128] inb_S64x8192_S64x128_0_1024))
      (@View.ld (Elt Ideal) S64x8192 .f32 (iblk m c 0 t) (Rect.unit ![0, 1152] ![64, 128] inb_S64x8192_S64x128_0_1152))
      (@View.ld (Elt Ideal) S64x8192 .f32 (iblk m c 0 t) (Rect.unit ![0, 1280] ![64, 128] inb_S64x8192_S64x128_0_1280))
      (@View.ld (Elt Ideal) S64x8192 .f32 (iblk m c 0 t) (Rect.unit ![0, 1408] ![64, 128] inb_S64x8192_S64x128_0_1408))
      (@View.ld (Elt Ideal) S64x8192 .f32 (iblk m c 0 t) (Rect.unit ![0, 1536] ![64, 128] inb_S64x8192_S64x128_0_1536))
      (@View.ld (Elt Ideal) S64x8192 .f32 (iblk m c 0 t) (Rect.unit ![0, 1664] ![64, 128] inb_S64x8192_S64x128_0_1664))
      (@View.ld (Elt Ideal) S64x8192 .f32 (iblk m c 0 t) (Rect.unit ![0, 1792] ![64, 128] inb_S64x8192_S64x128_0_1792))
      (@View.ld (Elt Ideal) S64x8192 .f32 (iblk m c 0 t) (Rect.unit ![0, 1920] ![64, 128] inb_S64x8192_S64x128_0_1920)) = (chunkIn m c t k).qraw := rfl
theorem fold_fraw : k0_pay7 (@View.ld (Elt Ideal) S64x8192 .f32 (iblk m c 0 t) (Rect.unit ![0, 2048] ![64, 128] inb_S64x8192_S64x128_0_2048))
      (@View.ld (Elt Ideal) S64x8192 .f32 (iblk m c 0 t) (Rect.unit ![0, 2176] ![64, 128] inb_S64x8192_S64x128_0_2176))
      (@View.ld (Elt Ideal) S64x8192 .f32 (iblk m c 0 t) (Rect.unit ![0, 2304] ![64, 128] inb_S64x8192_S64x128_0_2304))
      (@View.ld (Elt Ideal) S64x8192 .f32 (iblk m c 0 t) (Rect.unit ![0, 2432] ![64, 128] inb_S64x8192_S64x128_0_2432))
      (@View.ld (Elt Ideal) S64x8192 .f32 (iblk m c 0 t) (Rect.unit ![0, 2560] ![64, 128] inb_S64x8192_S64x128_0_2560))
      (@View.ld (Elt Ideal) S64x8192 .f32 (iblk m c 0 t) (Rect.unit ![0, 2688] ![64, 128] inb_S64x8192_S64x128_0_2688))
      (@View.ld (Elt Ideal) S64x8192 .f32 (iblk m c 0 t) (Rect.unit ![0, 2816] ![64, 128] inb_S64x8192_S64x128_0_2816))
      (@View.ld (Elt Ideal) S64x8192 .f32 (iblk m c 0 t) (Rect.unit ![0, 2944] ![64, 128] inb_S64x8192_S64x128_0_2944))
      (@View.ld (Elt Ideal) S64x8192 .f32 (iblk m c 0 t) (Rect.unit ![0, 3072] ![64, 128] inb_S64x8192_S64x128_0_3072))
      (@View.ld (Elt Ideal) S64x8192 .f32 (iblk m c 0 t) (Rect.unit ![0, 3200] ![64, 128] inb_S64x8192_S64x128_0_3200))
      (@View.ld (Elt Ideal) S64x8192 .f32 (iblk m c 0 t) (Rect.unit ![0, 3328] ![64, 128] inb_S64x8192_S64x128_0_3328))
      (@View.ld (Elt Ideal) S64x8192 .f32 (iblk m c 0 t) (Rect.unit ![0, 3456] ![64, 128] inb_S64x8192_S64x128_0_3456))
      (@View.ld (Elt Ideal) S64x8192 .f32 (iblk m c 0 t) (Rect.unit ![0, 3584] ![64, 128] inb_S64x8192_S64x128_0_3584))
      (@View.ld (Elt Ideal) S64x8192 .f32 (iblk m c 0 t) (Rect.unit ![0, 3712] ![64, 128] inb_S64x8192_S64x128_0_3712))
      (@View.ld (Elt Ideal) S64x8192 .f32 (iblk m c 0 t) (Rect.unit ![0, 3840] ![64, 128] inb_S64x8192_S64x128_0_3840))
      (@View.ld (Elt Ideal) S64x8192 .f32 (iblk m c 0 t) (Rect.unit ![0, 3968] ![64, 128] inb_S64x8192_S64x128_0_3968)) = (chunkIn m c t k).fraw := rfl
theorem fold_val : k0_pay8 (@View.ld (Elt Ideal) S64x8192 .f32 (iblk m c 0 t) (Rect.unit ![0, 4096] ![64, 128] inb_S64x8192_S64x128_0_4096))
      (@View.ld (Elt Ideal) S64x8192 .f32 (iblk m c 0 t) (Rect.unit ![0, 4224] ![64, 128] inb_S64x8192_S64x128_0_4224))
      (@View.ld (Elt Ideal) S64x8192 .f32 (iblk m c 0 t) (Rect.unit ![0, 4352] ![64, 128] inb_S64x8192_S64x128_0_4352))
      (@View.ld (Elt Ideal) S64x8192 .f32 (iblk m c 0 t) (Rect.unit ![0, 4480] ![64, 128] inb_S64x8192_S64x128_0_4480))
      (@View.ld (Elt Ideal) S64x8192 .f32 (iblk m c 0 t) (Rect.unit ![0, 4608] ![64, 128] inb_S64x8192_S64x128_0_4608))
      (@View.ld (Elt Ideal) S64x8192 .f32 (iblk m c 0 t) (Rect.unit ![0, 4736] ![64, 128] inb_S64x8192_S64x128_0_4736))
      (@View.ld (Elt Ideal) S64x8192 .f32 (iblk m c 0 t) (Rect.unit ![0, 4864] ![64, 128] inb_S64x8192_S64x128_0_4864))
      (@View.ld (Elt Ideal) S64x8192 .f32 (iblk m c 0 t) (Rect.unit ![0, 4992] ![64, 128] inb_S64x8192_S64x128_0_4992))
      (@View.ld (Elt Ideal) S64x8192 .f32 (iblk m c 0 t) (Rect.unit ![0, 5120] ![64, 128] inb_S64x8192_S64x128_0_5120))
      (@View.ld (Elt Ideal) S64x8192 .f32 (iblk m c 0 t) (Rect.unit ![0, 5248] ![64, 128] inb_S64x8192_S64x128_0_5248))
      (@View.ld (Elt Ideal) S64x8192 .f32 (iblk m c 0 t) (Rect.unit ![0, 5376] ![64, 128] inb_S64x8192_S64x128_0_5376))
      (@View.ld (Elt Ideal) S64x8192 .f32 (iblk m c 0 t) (Rect.unit ![0, 5504] ![64, 128] inb_S64x8192_S64x128_0_5504))
      (@View.ld (Elt Ideal) S64x8192 .f32 (iblk m c 0 t) (Rect.unit ![0, 5632] ![64, 128] inb_S64x8192_S64x128_0_5632))
      (@View.ld (Elt Ideal) S64x8192 .f32 (iblk m c 0 t) (Rect.unit ![0, 5760] ![64, 128] inb_S64x8192_S64x128_0_5760))
      (@View.ld (Elt Ideal) S64x8192 .f32 (iblk m c 0 t) (Rect.unit ![0, 5888] ![64, 128] inb_S64x8192_S64x128_0_5888))
      (@View.ld (Elt Ideal) S64x8192 .f32 (iblk m c 0 t) (Rect.unit ![0, 6016] ![64, 128] inb_S64x8192_S64x128_0_6016)) = (chunkIn m c t k).val := rfl
theorem fold_zraw : k0_pay9 (@View.ld (Elt Ideal) S64x8192 .f32 (iblk m c 0 t) (Rect.unit ![0, 6144] ![64, 128] inb_S64x8192_S64x128_0_6144))
      (@View.ld (Elt Ideal) S64x8192 .f32 (iblk m c 0 t) (Rect.unit ![0, 6272] ![64, 128] inb_S64x8192_S64x128_0_6272))
      (@View.ld (Elt Ideal) S64x8192 .f32 (iblk m c 0 t) (Rect.unit ![0, 6400] ![64, 128] inb_S64x8192_S64x128_0_6400))
      (@View.ld (Elt Ideal) S64x8192 .f32 (iblk m c 0 t) (Rect.unit ![0, 6528] ![64, 128] inb_S64x8192_S64x128_0_6528))
      (@View.ld (Elt Ideal) S64x8192 .f32 (iblk m c 0 t) (Rect.unit ![0, 6656] ![64, 128] inb_S64x8192_S64x128_0_6656))
      (@View.ld (Elt Ideal) S64x8192 .f32 (iblk m c 0 t) (Rect.unit ![0, 6784] ![64, 128] inb_S64x8192_S64x128_0_6784))
      (@View.ld (Elt Ideal) S64x8192 .f32 (iblk m c 0 t) (Rect.unit ![0, 6912] ![64, 128] inb_S64x8192_S64x128_0_6912))
      (@View.ld (Elt Ideal) S64x8192 .f32 (iblk m c 0 t) (Rect.unit ![0, 7040] ![64, 128] inb_S64x8192_S64x128_0_7040))
      (@View.ld (Elt Ideal) S64x8192 .f32 (iblk m c 0 t) (Rect.unit ![0, 7168] ![64, 128] inb_S64x8192_S64x128_0_7168))
      (@View.ld (Elt Ideal) S64x8192 .f32 (iblk m c 0 t) (Rect.unit ![0, 7296] ![64, 128] inb_S64x8192_S64x128_0_7296))
      (@View.ld (Elt Ideal) S64x8192 .f32 (iblk m c 0 t) (Rect.unit ![0, 7424] ![64, 128] inb_S64x8192_S64x128_0_7424))
      (@View.ld (Elt Ideal) S64x8192 .f32 (iblk m c 0 t) (Rect.unit ![0, 7552] ![64, 128] inb_S64x8192_S64x128_0_7552))
      (@View.ld (Elt Ideal) S64x8192 .f32 (iblk m c 0 t) (Rect.unit ![0, 7680] ![64, 128] inb_S64x8192_S64x128_0_7680))
      (@View.ld (Elt Ideal) S64x8192 .f32 (iblk m c 0 t) (Rect.unit ![0, 7808] ![64, 128] inb_S64x8192_S64x128_0_7808))
      (@View.ld (Elt Ideal) S64x8192 .f32 (iblk m c 0 t) (Rect.unit ![0, 7936] ![64, 128] inb_S64x8192_S64x128_0_7936))
      (@View.ld (Elt Ideal) S64x8192 .f32 (iblk m c 0 t) (Rect.unit ![0, 8064] ![64, 128] inb_S64x8192_S64x128_0_8064)) = (chunkIn m c t k).zraw := rfl
theorem fold_low : k0_pay10 (@View.ld (Elt Ideal) S2x2048 .f32 (iblk m c 3 t) (Rect.unit ![0, 0] ![1, 128] inb_S2x2048_S1x128_0_0))
      (@View.ld (Elt Ideal) S2x2048 .f32 (iblk m c 3 t) (Rect.unit ![0, 128] ![1, 128] inb_S2x2048_S1x128_0_128))
      (@View.ld (Elt Ideal) S2x2048 .f32 (iblk m c 3 t) (Rect.unit ![0, 256] ![1, 128] inb_S2x2048_S1x128_0_256))
      (@View.ld (Elt Ideal) S2x2048 .f32 (iblk m c 3 t) (Rect.unit ![0, 384] ![1, 128] inb_S2x2048_S1x128_0_384))
      (@View.ld (Elt Ideal) S2x2048 .f32 (iblk m c 3 t) (Rect.unit ![0, 512] ![1, 128] inb_S2x2048_S1x128_0_512))
      (@View.ld (Elt Ideal) S2x2048 .f32 (iblk m c 3 t) (Rect.unit ![0, 640] ![1, 128] inb_S2x2048_S1x128_0_640))
      (@View.ld (Elt Ideal) S2x2048 .f32 (iblk m c 3 t) (Rect.unit ![0, 768] ![1, 128] inb_S2x2048_S1x128_0_768))
      (@View.ld (Elt Ideal) S2x2048 .f32 (iblk m c 3 t) (Rect.unit ![0, 896] ![1, 128] inb_S2x2048_S1x128_0_896))
      (@View.ld (Elt Ideal) S2x2048 .f32 (iblk m c 3 t) (Rect.unit ![0, 1024] ![1, 128] inb_S2x2048_S1x128_0_1024))
      (@View.ld (Elt Ideal) S2x2048 .f32 (iblk m c 3 t) (Rect.unit ![0, 1152] ![1, 128] inb_S2x2048_S1x128_0_1152))
      (@View.ld (Elt Ideal) S2x2048 .f32 (iblk m c 3 t) (Rect.unit ![0, 1280] ![1, 128] inb_S2x2048_S1x128_0_1280))
      (@View.ld (Elt Ideal) S2x2048 .f32 (iblk m c 3 t) (Rect.unit ![0, 1408] ![1, 128] inb_S2x2048_S1x128_0_1408))
      (@View.ld (Elt Ideal) S2x2048 .f32 (iblk m c 3 t) (Rect.unit ![0, 1536] ![1, 128] inb_S2x2048_S1x128_0_1536))
      (@View.ld (Elt Ideal) S2x2048 .f32 (iblk m c 3 t) (Rect.unit ![0, 1664] ![1, 128] inb_S2x2048_S1x128_0_1664))
      (@View.ld (Elt Ideal) S2x2048 .f32 (iblk m c 3 t) (Rect.unit ![0, 1792] ![1, 128] inb_S2x2048_S1x128_0_1792))
      (@View.ld (Elt Ideal) S2x2048 .f32 (iblk m c 3 t) (Rect.unit ![0, 1920] ![1, 128] inb_S2x2048_S1x128_0_1920)) = (chunkIn m c t k).low := rfl
theorem fold_high : k0_pay11 (@View.ld (Elt Ideal) S2x2048 .f32 (iblk m c 3 t) (Rect.unit ![1, 0] ![1, 128] inb_S2x2048_S1x128_1_0))
      (@View.ld (Elt Ideal) S2x2048 .f32 (iblk m c 3 t) (Rect.unit ![1, 128] ![1, 128] inb_S2x2048_S1x128_1_128))
      (@View.ld (Elt Ideal) S2x2048 .f32 (iblk m c 3 t) (Rect.unit ![1, 256] ![1, 128] inb_S2x2048_S1x128_1_256))
      (@View.ld (Elt Ideal) S2x2048 .f32 (iblk m c 3 t) (Rect.unit ![1, 384] ![1, 128] inb_S2x2048_S1x128_1_384))
      (@View.ld (Elt Ideal) S2x2048 .f32 (iblk m c 3 t) (Rect.unit ![1, 512] ![1, 128] inb_S2x2048_S1x128_1_512))
      (@View.ld (Elt Ideal) S2x2048 .f32 (iblk m c 3 t) (Rect.unit ![1, 640] ![1, 128] inb_S2x2048_S1x128_1_640))
      (@View.ld (Elt Ideal) S2x2048 .f32 (iblk m c 3 t) (Rect.unit ![1, 768] ![1, 128] inb_S2x2048_S1x128_1_768))
      (@View.ld (Elt Ideal) S2x2048 .f32 (iblk m c 3 t) (Rect.unit ![1, 896] ![1, 128] inb_S2x2048_S1x128_1_896))
      (@View.ld (Elt Ideal) S2x2048 .f32 (iblk m c 3 t) (Rect.unit ![1, 1024] ![1, 128] inb_S2x2048_S1x128_1_1024))
      (@View.ld (Elt Ideal) S2x2048 .f32 (iblk m c 3 t) (Rect.unit ![1, 1152] ![1, 128] inb_S2x2048_S1x128_1_1152))
      (@View.ld (Elt Ideal) S2x2048 .f32 (iblk m c 3 t) (Rect.unit ![1, 1280] ![1, 128] inb_S2x2048_S1x128_1_1280))
      (@View.ld (Elt Ideal) S2x2048 .f32 (iblk m c 3 t) (Rect.unit ![1, 1408] ![1, 128] inb_S2x2048_S1x128_1_1408))
      (@View.ld (Elt Ideal) S2x2048 .f32 (iblk m c 3 t) (Rect.unit ![1, 1536] ![1, 128] inb_S2x2048_S1x128_1_1536))
      (@View.ld (Elt Ideal) S2x2048 .f32 (iblk m c 3 t) (Rect.unit ![1, 1664] ![1, 128] inb_S2x2048_S1x128_1_1664))
      (@View.ld (Elt Ideal) S2x2048 .f32 (iblk m c 3 t) (Rect.unit ![1, 1792] ![1, 128] inb_S2x2048_S1x128_1_1792))
      (@View.ld (Elt Ideal) S2x2048 .f32 (iblk m c 3 t) (Rect.unit ![1, 1920] ![1, 128] inb_S2x2048_S1x128_1_1920)) = (chunkIn m c t k).high := rfl
theorem fold_state : k0_pay12 (iblk m c 2 t) = (chunkIn m c t k).state := rfl
theorem fold_gain : iblk m c 4 t = (chunkIn m c t k).gain := rfl
theorem fold_dout : k0_pay103 (@View.ld (Elt Ideal) S64x2048 .f32 (iblk m c 1 t) (Rect.unit ![0, 0] ![64, 128] inb_S64x2048_S64x128_0_0))
      (@View.ld (Elt Ideal) S64x2048 .f32 (iblk m c 1 t) (Rect.unit ![0, 128] ![64, 128] inb_S64x2048_S64x128_0_128))
      (@View.ld (Elt Ideal) S64x2048 .f32 (iblk m c 1 t) (Rect.unit ![0, 256] ![64, 128] inb_S64x2048_S64x128_0_256))
      (@View.ld (Elt Ideal) S64x2048 .f32 (iblk m c 1 t) (Rect.unit ![0, 384] ![64, 128] inb_S64x2048_S64x128_0_384))
      (@View.ld (Elt Ideal) S64x2048 .f32 (iblk m c 1 t) (Rect.unit ![0, 512] ![64, 128] inb_S64x2048_S64x128_0_512))
      (@View.ld (Elt Ideal) S64x2048 .f32 (iblk m c 1 t) (Rect.unit ![0, 640] ![64, 128] inb_S64x2048_S64x128_0_640))
      (@View.ld (Elt Ideal) S64x2048 .f32 (iblk m c 1 t) (Rect.unit ![0, 768] ![64, 128] inb_S64x2048_S64x128_0_768))
      (@View.ld (Elt Ideal) S64x2048 .f32 (iblk m c 1 t) (Rect.unit ![0, 896] ![64, 128] inb_S64x2048_S64x128_0_896))
      (@View.ld (Elt Ideal) S64x2048 .f32 (iblk m c 1 t) (Rect.unit ![0, 1024] ![64, 128] inb_S64x2048_S64x128_0_1024))
      (@View.ld (Elt Ideal) S64x2048 .f32 (iblk m c 1 t) (Rect.unit ![0, 1152] ![64, 128] inb_S64x2048_S64x128_0_1152))
      (@View.ld (Elt Ideal) S64x2048 .f32 (iblk m c 1 t) (Rect.unit ![0, 1280] ![64, 128] inb_S64x2048_S64x128_0_1280))
      (@View.ld (Elt Ideal) S64x2048 .f32 (iblk m c 1 t) (Rect.unit ![0, 1408] ![64, 128] inb_S64x2048_S64x128_0_1408))
      (@View.ld (Elt Ideal) S64x2048 .f32 (iblk m c 1 t) (Rect.unit ![0, 1536] ![64, 128] inb_S64x2048_S64x128_0_1536))
      (@View.ld (Elt Ideal) S64x2048 .f32 (iblk m c 1 t) (Rect.unit ![0, 1664] ![64, 128] inb_S64x2048_S64x128_0_1664))
      (@View.ld (Elt Ideal) S64x2048 .f32 (iblk m c 1 t) (Rect.unit ![0, 1792] ![64, 128] inb_S64x2048_S64x128_0_1792))
      (@View.ld (Elt Ideal) S64x2048 .f32 (iblk m c 1 t) (Rect.unit ![0, 1920] ![64, 128] inb_S64x2048_S64x128_0_1920)) = (chunkIn m c t k).dout := rfl

end Cert.KernelIdeal.Bridge
-- ==== Proof.Cover.lean ====
module

public import proofs.«01_k».proof.Proof.Bridge

/-! Stores that cover an index decide it. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

/-- Stores that cover an index decide it, whatever was stored before. -/
theorem canon_append_covered {Val : EltTy → Type} [∀ e, Nonempty (Val e)] {s : Shape} {e : EltTy}
    (L L' : List (View.Piece Val s e)) (y : s.Idx) (hc : ∃ p ∈ L, y ∈ p.1.set) :
    View.canon (L ++ L') y = View.canon L y := by
  induction L with
  | nil => obtain ⟨p, hp, _⟩ := hc; exact absurd hp List.not_mem_nil
  | cons q L ih =>
    by_cases hy : y ∈ q.1.set
    · obtain ⟨x, rfl⟩ := q.1.exists_idx_of_mem hy
      rw [List.cons_append]
      exact (View.canon_cons_emb q.1 q.2 _ x).trans (View.canon_cons_emb q.1 q.2 _ x).symm
    · rw [List.cons_append, View.canon_cons_of_not_mem _ _ hy, View.canon_cons_of_not_mem _ _ hy]
      refine ih ?_
      obtain ⟨p, hp, hm⟩ := hc
      rcases List.mem_cons.mp hp with rfl | hp
      · exact absurd hm hy
      · exact ⟨p, hp, hm⟩

end Cert.KernelIdeal.Bridge
-- ==== Proof.Out6A.lean ====
module

public import proofs.«01_k».proof.Proof.Folds
public import proofs.«01_k».proof.Proof.Cover
public import proofs.«01_k».proof.Proof.Pieces
public import Idealize.ShloMosaic.Lib.Pipeline.ReadBack

/-! What one grid point leaves in a block, in pieces over the named values. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

variable (m : (ℓ : Loc nD τ sig) → Buf (Elt Ideal) ℓ)

/-- The pieces cover the block. -/
theorem cover6 (I : In) (W : Vec Ideal S2x2048 .f32) (y : S2x2048.Idx) : ∃ p ∈ pieces6 I W, y ∈ p.1.set := by
  set_option maxRecDepth 1000000 in exact View.cover_of_tiled_head _ _ _ (by rfl) _

set_option maxHeartbeats 4000000 in
/-- The first point adds its chunk's part to zero. -/
theorem out6_A (c : Dev nD) (t : Fin cfg0.N) (h : t.val % 64 = 0) :
    (outsAt0 m c t.val t.isLt).2.1 = View.canon (pieces6 (chunkIn m c t k0_pay3) (k0_pay4 (F := Ideal))) := by
  obtain ⟨k, hk⟩ : ∃ k, k0_pay3 (F := Ideal) = k := ⟨_, rfl⟩
  obtain ⟨I, hI⟩ : ∃ I, chunkIn m c t k = I := ⟨_, rfl⟩
  have h_qraw := fold_qraw m c t k
  have h_fraw := fold_fraw m c t k
  have h_val := fold_val m c t k
  have h_zraw := fold_zraw m c t k
  have h_low := fold_low m c t k
  have h_high := fold_high m c t k
  have h_state := fold_state m c t k
  have h_gain := fold_gain m c t k
  have h_dout := fold_dout m c t k
  have h_carry : k = I.carry := by rw [← hI]; rfl
  have h_221 : k0_pay14 (F := Ideal) (iota .tc S64x64 32 [0] iota_S64x64_d0_w32)
      (iota .tc S64x64 32 [1] iota_S64x64_d1_w32) v212 = v221 := rfl
  have h_925 : k0_pay177 (v236 I) (v238 I) (v240 I) (v241 I) (v245 I) (v248 I) (v743 I) (v892 I)
      (FloatOps.ofBits .f32 0x00000000#32) = v925 I := rfl
  have h_927 : k0_pay178 (v229 I) (v238 I) (v240 I) (v241 I) (v245 I) (v248 I) (v743 I) (v892 I)
      (FloatOps.ofBits .f32 0x00000000#32) = v927 I := rfl
  rw [hI] at h_qraw h_fraw h_val h_zraw h_low h_high h_state h_gain h_dout
  rw [hk, hI, outsAt0_A m c t h h]
  frame_open
  simp (disch := decide) only [↓ View.readCov_skip, ↓ View.readCov_cons_toLoadRect, ↓ View.readCov_fill]
  frame_out
  simp only [h_qraw, h_fraw, h_val, h_zraw, h_low, h_high, h_state, h_gain, h_dout, hk, h_carry, h_221, h_925, h_927, ← v212.eq_1,
    ← v229.eq_1, ← v236.eq_1, ← v238.eq_1, ← v240.eq_1, ← v241.eq_1, ← v245.eq_1, ← v247.eq_1, ← v248.eq_1,
    ← v251.eq_1, ← v255.eq_1, ← v256.eq_1, ← v259.eq_1, ← v260.eq_1, ← v261.eq_1, ← v262.eq_1, ← v263.eq_1,
    ← v304.eq_1, ← v305.eq_1, ← v306.eq_1, ← v307.eq_1, ← v308.eq_1, ← v309.eq_1, ← v310.eq_1, ← v311.eq_1,
    ← v312.eq_1, ← v313.eq_1, ← v314.eq_1, ← v315.eq_1, ← v316.eq_1, ← v317.eq_1, ← v318.eq_1, ← v319.eq_1,
    ← v338.eq_1, ← v372.eq_1, ← v373.eq_1, ← v375.eq_1, ← v376.eq_1, ← v377.eq_1, ← v378.eq_1, ← v380.eq_1,
    ← v381.eq_1, ← v382.eq_1, ← v400.eq_1, ← v401.eq_1, ← v402.eq_1, ← v403.eq_1, ← v413.eq_1, ← v415.eq_1,
    ← v422.eq_1, ← v423.eq_1, ← v433.eq_1, ← v434.eq_1, ← v435.eq_1, ← v436.eq_1, ← v446.eq_1, ← v448.eq_1,
    ← v466.eq_1, ← v467.eq_1, ← v468.eq_1, ← v469.eq_1, ← v479.eq_1, ← v481.eq_1, ← v499.eq_1, ← v500.eq_1,
    ← v501.eq_1, ← v502.eq_1, ← v505.eq_1, ← v512.eq_1, ← v513.eq_1, ← v515.eq_1, ← v519.eq_1, ← v522.eq_1,
    ← v523.eq_1, ← v531.eq_1, ← v534.eq_1, ← v536.eq_1, ← v537.eq_1, ← v539.eq_1, ← v540.eq_1, ← v543.eq_1,
    ← v544.eq_1, ← v545.eq_1, ← v580.eq_1, ← v584.eq_1, ← v587.eq_1, ← v589.eq_1, ← v592.eq_1, ← v599.eq_1,
    ← v606.eq_1, ← v621.eq_1, ← v623.eq_1, ← v628.eq_1, ← v629.eq_1, ← v636.eq_1, ← v637.eq_1, ← v638.eq_1,
    ← v639.eq_1, ← v640.eq_1, ← v660.eq_1, ← v667.eq_1, ← v679.eq_1, ← v682.eq_1, ← v684.eq_1, ← v685.eq_1,
    ← v710.eq_1, ← v713.eq_1, ← v720.eq_1, ← v729.eq_1, ← v743.eq_1, ← v761.eq_1, ← v768.eq_1, ← v771.eq_1,
    ← v773.eq_1, ← v776.eq_1, ← v777.eq_1, ← v778.eq_1, ← v813.eq_1, ← v815.eq_1, ← v817.eq_1, ← v819.eq_1,
    ← v821.eq_1, ← v823.eq_1, ← v825.eq_1, ← v827.eq_1, ← v829.eq_1, ← v831.eq_1, ← v833.eq_1, ← v835.eq_1,
    ← v836.eq_1, ← v892.eq_1, ← v899.eq_1, ← v907.eq_1, ← v925.eq_1, ← v927.eq_1]
  refine Eq.trans (b := View.canon (pieces6 I (k0_pay4 (F := Ideal)) ++
    [⟨Rect.unit ![0, 0] ![2, 2048] inb_S2x2048_S2x2048_0_0, k0_pay4 (F := Ideal)⟩])) ?_ (funext fun y => ?_)
  · unfold pieces6 pieces6Of
    exact rfl
  · exact canon_append_covered _ _ y (cover6 _ _ y)

end Cert.KernelIdeal.Bridge
-- ==== Proof.Out6B.lean ====
module

public import proofs.«01_k».proof.Proof.Folds
public import proofs.«01_k».proof.Proof.Pieces
public import Idealize.ShloMosaic.Lib.Pipeline.ReadBack

/-! What one grid point leaves in a block, in pieces over the named values. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

variable (m : (ℓ : Loc nD τ sig) → Buf (Elt Ideal) ℓ)

set_option maxHeartbeats 4000000 in
/-- A later point adds its chunk's part to what the points before left. -/
theorem out6_B (c : Dev nD) (t : Fin cfg0.N) (h : ¬ t.val % 64 = 0) :
    (outsAt0 m c t.val t.isLt).2.1 = View.canon (pieces6 (chunkIn m c t (outsAt0 m c (t.val - 1) (by omega)).2.2.2) (outsAt0 m c (t.val - 1) (by omega)).2.1) := by
  obtain ⟨k, hk⟩ : ∃ k, (outsAt0 m c (t.val - 1) (by omega)).2.2.2 = k := ⟨_, rfl⟩
  obtain ⟨I, hI⟩ : ∃ I, chunkIn m c t k = I := ⟨_, rfl⟩
  have h_qraw := fold_qraw m c t k
  have h_fraw := fold_fraw m c t k
  have h_val := fold_val m c t k
  have h_zraw := fold_zraw m c t k
  have h_low := fold_low m c t k
  have h_high := fold_high m c t k
  have h_state := fold_state m c t k
  have h_gain := fold_gain m c t k
  have h_dout := fold_dout m c t k
  have h_carry : k = I.carry := by rw [← hI]; rfl
  have h_221 : k0_pay14 (F := Ideal) (iota .tc S64x64 32 [0] iota_S64x64_d0_w32)
      (iota .tc S64x64 32 [1] iota_S64x64_d1_w32) v212 = v221 := rfl
  have h_925 : k0_pay177 (v236 I) (v238 I) (v240 I) (v241 I) (v245 I) (v248 I) (v743 I) (v892 I)
      (FloatOps.ofBits .f32 0x00000000#32) = v925 I := rfl
  have h_927 : k0_pay178 (v229 I) (v238 I) (v240 I) (v241 I) (v245 I) (v248 I) (v743 I) (v892 I)
      (FloatOps.ofBits .f32 0x00000000#32) = v927 I := rfl
  rw [hI] at h_qraw h_fraw h_val h_zraw h_low h_high h_state h_gain h_dout
  rw [hk, hI, outsAt0_B m c t h h]
  frame_out
  simp only [read_unread_whole]
  simp only [h_qraw, h_fraw, h_val, h_zraw, h_low, h_high, h_state, h_gain, h_dout, hk, h_carry, h_221, h_925, h_927, ← v212.eq_1,
    ← v229.eq_1, ← v236.eq_1, ← v238.eq_1, ← v240.eq_1, ← v241.eq_1, ← v245.eq_1, ← v247.eq_1, ← v248.eq_1,
    ← v251.eq_1, ← v255.eq_1, ← v256.eq_1, ← v259.eq_1, ← v260.eq_1, ← v261.eq_1, ← v262.eq_1, ← v263.eq_1,
    ← v304.eq_1, ← v305.eq_1, ← v306.eq_1, ← v307.eq_1, ← v308.eq_1, ← v309.eq_1, ← v310.eq_1, ← v311.eq_1,
    ← v312.eq_1, ← v313.eq_1, ← v314.eq_1, ← v315.eq_1, ← v316.eq_1, ← v317.eq_1, ← v318.eq_1, ← v319.eq_1,
    ← v338.eq_1, ← v372.eq_1, ← v373.eq_1, ← v375.eq_1, ← v376.eq_1, ← v377.eq_1, ← v378.eq_1, ← v380.eq_1,
    ← v381.eq_1, ← v382.eq_1, ← v400.eq_1, ← v401.eq_1, ← v402.eq_1, ← v403.eq_1, ← v413.eq_1, ← v415.eq_1,
    ← v422.eq_1, ← v423.eq_1, ← v433.eq_1, ← v434.eq_1, ← v435.eq_1, ← v436.eq_1, ← v446.eq_1, ← v448.eq_1,
    ← v466.eq_1, ← v467.eq_1, ← v468.eq_1, ← v469.eq_1, ← v479.eq_1, ← v481.eq_1, ← v499.eq_1, ← v500.eq_1,
    ← v501.eq_1, ← v502.eq_1, ← v505.eq_1, ← v512.eq_1, ← v513.eq_1, ← v515.eq_1, ← v519.eq_1, ← v522.eq_1,
    ← v523.eq_1, ← v531.eq_1, ← v534.eq_1, ← v536.eq_1, ← v537.eq_1, ← v539.eq_1, ← v540.eq_1, ← v543.eq_1,
    ← v544.eq_1, ← v545.eq_1, ← v580.eq_1, ← v584.eq_1, ← v587.eq_1, ← v589.eq_1, ← v592.eq_1, ← v599.eq_1,
    ← v606.eq_1, ← v621.eq_1, ← v623.eq_1, ← v628.eq_1, ← v629.eq_1, ← v636.eq_1, ← v637.eq_1, ← v638.eq_1,
    ← v639.eq_1, ← v640.eq_1, ← v660.eq_1, ← v667.eq_1, ← v679.eq_1, ← v682.eq_1, ← v684.eq_1, ← v685.eq_1,
    ← v710.eq_1, ← v713.eq_1, ← v720.eq_1, ← v729.eq_1, ← v743.eq_1, ← v761.eq_1, ← v768.eq_1, ← v771.eq_1,
    ← v773.eq_1, ← v776.eq_1, ← v777.eq_1, ← v778.eq_1, ← v813.eq_1, ← v815.eq_1, ← v817.eq_1, ← v819.eq_1,
    ← v821.eq_1, ← v823.eq_1, ← v825.eq_1, ← v827.eq_1, ← v829.eq_1, ← v831.eq_1, ← v833.eq_1, ← v835.eq_1,
    ← v836.eq_1, ← v892.eq_1, ← v899.eq_1, ← v907.eq_1, ← v925.eq_1, ← v927.eq_1]
  unfold pieces6 pieces6Of
  exact rfl

end Cert.KernelIdeal.Bridge
-- ==== Proof.Carry.lean ====
module

public import proofs.«01_k».proof.Proof.Take
public import proofs.«01_k».proof.Proof.Read6
public import proofs.«01_k».proof.Proof.Out6A
public import proofs.«01_k».proof.Proof.Out6B

/-! Along the grid: the scratch carries the gradient of the state from chunk to chunk, backward in time, and the two
small outputs accumulate their parts. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

theorem pay3_at (h : Fin 16) (e d : Fin 128) : k0_pay3 (F := Ideal) (ix3 h e d) = 0 := by
  pointwise [k0_pay3]
theorem pay179_at (X : FVec Ideal S16x128x128 .f32) (h : Fin 16) (e d : Fin 128) :
    k0_pay179 X (ix3 h e d) = X (ix3 h e d) := by
  pointwise [k0_pay179]
theorem pay4_at (i : Fin 2) (j : Fin 2048) : k0_pay4 (F := Ideal) (ix2 i j) = 0 := by
  pointwise [k0_pay4]
theorem pay5_at (i : Fin 1) (j : Fin 128) : k0_pay5 (F := Ideal) (ix2 i j) = 0 := by
  pointwise [k0_pay5]
theorem pay2_at (X W : FVec Ideal S1x128 .f32) (i : Fin 1) (j : Fin 128) :
    k0_pay2 X W (ix2 i j) = W (ix2 i j) + X (ix2 i j) := by
  pointwise [k0_pay2]

variable {m : (ℓ : Loc nD τ sig) → Buf (Elt Ideal) ℓ} {c : Dev nD} {a : Args}
  (H : Cert.ReferenceIdeal.Real.Holds (m ((c : Thread nD τ).loc main_arg0)) (m ((c : Thread nD τ).loc main_arg1))
    (m ((c : Thread nD τ).loc main_arg2)) (m ((c : Thread nD τ).loc main_arg3)) a)
  (B : a.Big)
include H B

/-- The first point: nothing flows back into the last chunk. -/
theorem reads_A (t : Fin cfg0.N) (ht : t.val = 0) : Reads (chunkIn m c t k0_pay3) (a.rin (63 - t.val)) :=
  reads H t _ fun h e d => by
    rw [pay3_at, ht]
    unfold Hd.Dt
    rw [Finset.Ico_self, Finset.sum_empty]; rfl

/-- After point `n` the scratch holds the gradient of the state before chunk `63 − n`. -/
theorem scratch_at : ∀ (n : ℕ) (hn : n < cfg0.N) (h : Fin 16) (e d : Fin 128),
    (outsAt0 m c n hn).2.2.2 (ix3 h e d) = (((a.head h).Dt (64 * (63 - n)) e d : ℝ) : EReal)
  | 0, hn, h, e, d => by
    have R := reads_A H B ⟨0, hn⟩ rfl
    rw [show (outsAt0 m c 0 hn).2.2.2 = _ from scratch_A m c ⟨0, hn⟩ rfl, pay179_at, v768_at R]
    exact congrArg _ (Args.rin_dS B (by omega) h d e)
  | n + 1, hn, h, e, d => by
    have hN := lt_of_lt_of_eq hn (show cfg0.N = 64 from N_0)
    have R := reads H ⟨n + 1, hn⟩ (outsAt0 m c n (Nat.lt_of_succ_lt hn)).2.2.2 fun h e d => by
      rw [scratch_at n (Nat.lt_of_succ_lt hn) h e d]
      show _ = (((a.head h).Dt (64 * (63 - (n + 1)) + 64) e d : ℝ) : EReal)
      rw [show 64 * (63 - (n + 1)) + 64 = 64 * (63 - n) from by omega]
    rw [show (outsAt0 m c (n + 1) hn).2.2.2 = _ from scratch_B m c ⟨n + 1, hn⟩ (by show ¬ (n + 1) % 64 = 0; omega), pay179_at]
    refine (v768_at R h e d).trans ?_
    exact congrArg _ (Args.rin_dS B (by omega) h d e)

/-- A later point reads the scratch the point before left. -/
theorem reads_B (t : Fin cfg0.N) (ht : t.val ≠ 0) :
    Reads (chunkIn m c t (outsAt0 m c (t.val - 1) (by omega)).2.2.2) (a.rin (63 - t.val)) :=
  reads H t _ fun h e d => by
    have hN := lt_of_lt_of_eq t.isLt (show cfg0.N = 64 from N_0)
    rw [scratch_at H B (t.val - 1) _ h e d, show 64 * (63 - t.val) + 64 = 64 * (63 - (t.val - 1)) from by omega]

/-- After point `n` the first small output holds the parts of the points up to `n`. -/
theorem low_at : ∀ (n : ℕ) (hn : n < cfg0.N) (i : Fin 2) (j : Fin 2048),
    (outsAt0 m c n hn).2.1 (ix2 i j) = ((∑ s ∈ Finset.range (n + 1), dlow (a.rin (63 - s)) i j : ℝ) : EReal)
  | 0, hn, i, j => by
    rw [show (outsAt0 m c 0 hn).2.1 = _ from out6_A m c ⟨0, hn⟩ rfl]
    rw [pieces6_at (reads_A H B ⟨0, hn⟩ rfl), pay4_at, zero_add, Finset.sum_range_one]; rfl
  | n + 1, hn, i, j => by
    have hN := lt_of_lt_of_eq hn (show cfg0.N = 64 from N_0)
    rw [show (outsAt0 m c (n + 1) hn).2.1 = _ from out6_B m c ⟨n + 1, hn⟩ (by show ¬ (n + 1) % 64 = 0; omega)]
    rw [pieces6_at (reads_B H B ⟨n + 1, hn⟩ (by simp)), Finset.sum_range_succ, EReal.coe_add]
    rw [show (outsAt0 m c ((⟨n + 1, hn⟩ : Fin cfg0.N).val - 1) _).2.1 (ix2 i j) = _ from low_at n (Nat.lt_of_succ_lt hn) i j]
    rfl

/-- After point `n` the second small output holds the parts of the points up to `n`. -/
theorem gain_at : ∀ (n : ℕ) (hn : n < cfg0.N) (i : Fin 1) (d : Fin 128),
    (outsAt0 m c n hn).2.2.1 (ix2 i d) = ((∑ s ∈ Finset.range (n + 1), (a.rin (63 - s)).dg d : ℝ) : EReal)
  | 0, hn, i, d => by
    rw [show (outsAt0 m c 0 hn).2.2.1 = _ from gain_A m c ⟨0, hn⟩ rfl]
    rw [pay2_at, v606_at (reads_A H B ⟨0, hn⟩ rfl), pay5_at, zero_add, Finset.sum_range_one]
  | n + 1, hn, i, d => by
    have hN := lt_of_lt_of_eq hn (show cfg0.N = 64 from N_0)
    rw [show (outsAt0 m c (n + 1) hn).2.2.1 = _ from gain_B m c ⟨n + 1, hn⟩ (by show ¬ (n + 1) % 64 = 0; omega)]
    rw [pay2_at, v606_at (reads_B H B ⟨n + 1, hn⟩ (by simp)), Finset.sum_range_succ, EReal.coe_add]
    rw [show (outsAt0 m c ((⟨n + 1, hn⟩ : Fin cfg0.N).val - 1) _).2.2.1 (ix2 i d) = _ from gain_at n (Nat.lt_of_succ_lt hn) i d]

end Cert.KernelIdeal.Bridge
-- ==== Proof.Read5.lean ====
module

public import proofs.«01_k».proof.Proof.Pieces

/-! The block of the projections' gradient a grid point writes, read at an index. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

/-- Lane `j` of a block of the projections' gradient: four groups of 2048 lanes (query, forget, value, gate), each
of sixteen heads of 128. -/
def dproj (r : Rin) (t : Fin 64) (j : Fin 8192) : ℝ :=
  if j.val < 2048 then r.dqr ⟨j.val / 128 % 16, by omega⟩ t ⟨j.val % 128, by omega⟩
  else if j.val < 4096 then r.dfr ⟨j.val / 128 % 16, by omega⟩ t ⟨j.val % 128, by omega⟩
  else if j.val < 6144 then (r.bw ⟨j.val / 128 % 16, by omega⟩).dv t ⟨j.val % 128, by omega⟩
  else r.dz ⟨j.val / 128 % 16, by omega⟩ t ⟨j.val % 128, by omega⟩

theorem dproj_q (r : Rin) (t t' : Fin 64) (j : Fin 8192) (h : Fin 16) (d : Fin 128) (ht : t'.val = t.val)
    (hj : j.val = 128 * h.val + d.val) : r.dqr h t d = dproj r t' j := by
  obtain rfl : t' = t := Fin.ext (by omega)
  unfold dproj
  rw [if_pos (by omega)]
  congr 1 <;> exact Fin.ext (by simp only []; omega)

theorem dproj_f (r : Rin) (t t' : Fin 64) (j : Fin 8192) (h : Fin 16) (d : Fin 128) (ht : t'.val = t.val)
    (hj : j.val = 2048 + 128 * h.val + d.val) : r.dfr h t d = dproj r t' j := by
  obtain rfl : t' = t := Fin.ext (by omega)
  unfold dproj
  rw [if_neg (by omega), if_pos (by omega)]
  congr 1 <;> exact Fin.ext (by simp only []; omega)

theorem dproj_v (r : Rin) (t t' : Fin 64) (j : Fin 8192) (h : Fin 16) (d : Fin 128) (ht : t'.val = t.val)
    (hj : j.val = 4096 + 128 * h.val + d.val) : (r.bw h).dv t d = dproj r t' j := by
  obtain rfl : t' = t := Fin.ext (by omega)
  unfold dproj
  rw [if_neg (by omega), if_neg (by omega), if_pos (by omega)]
  have e : h = ⟨j.val / 128 % 16, by omega⟩ := Fin.ext (by simp only []; omega)
  have e' : d = ⟨j.val % 128, by omega⟩ := Fin.ext (by simp only []; omega)
  rw [← e, ← e']

theorem dproj_z (r : Rin) (t t' : Fin 64) (j : Fin 8192) (h : Fin 16) (d : Fin 128) (ht : t'.val = t.val)
    (hj : j.val = 6144 + 128 * h.val + d.val) : r.dz h t d = dproj r t' j := by
  obtain rfl : t' = t := Fin.ext (by omega)
  unfold dproj
  rw [if_neg (by omega), if_neg (by omega), if_neg (by omega)]
  congr 1 <;> exact Fin.ext (by simp only []; omega)

variable {I : In} {r : Rin} (H : Reads I r)
include H

set_option maxHeartbeats 4000000 in
/-- The written block at row `y 0` and lane `y 1`. -/
theorem pieces5_at (y : S64x8192.Idx) :
    View.canon (pieces5 I) y = ((dproj r (y 0) (y 1) : ℝ) : EReal) := by
  unfold pieces5 pieces5Of
  canon_tiles x h
  all_goals
    simp only [k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, ← v899.eq_1]
    pointwise [v899_at H, v907_at H, v636_at H, v599_at H]
    first
    | exact congrArg _ (dproj_z r _ _ _ _ _ h0 h1)
    | exact congrArg _ (dproj_v r _ _ _ _ _ h0 h1)
    | exact congrArg _ (dproj_f r _ _ _ _ _ h0 h1)
    | exact congrArg _ (dproj_q r _ _ _ _ _ h0 h1)
    | exact congrArg _ (dproj_q r _ _ _ _ _ h0 (by omega))

end Cert.KernelIdeal.Bridge
-- ==== Proof.Out5A.lean ====
module

public import proofs.«01_k».proof.Proof.Folds
public import proofs.«01_k».proof.Proof.Pieces
public import Idealize.ShloMosaic.Lib.Pipeline.ReadBack

/-! What one grid point leaves in a block, in pieces over the named values. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

variable (m : (ℓ : Loc nD τ sig) → Buf (Elt Ideal) ℓ)

set_option maxHeartbeats 4000000 in
/-- The first point writes the pieces of its chunk. -/
theorem out5_A (c : Dev nD) (t : Fin cfg0.N) (h : t.val % 64 = 0) :
    (outsAt0 m c t.val t.isLt).1 = View.canon (pieces5 (chunkIn m c t k0_pay3)) := by
  obtain ⟨k, hk⟩ : ∃ k, k0_pay3 (F := Ideal) = k := ⟨_, rfl⟩
  obtain ⟨I, hI⟩ : ∃ I, chunkIn m c t k = I := ⟨_, rfl⟩
  have h_qraw := fold_qraw m c t k
  have h_fraw := fold_fraw m c t k
  have h_val := fold_val m c t k
  have h_zraw := fold_zraw m c t k
  have h_low := fold_low m c t k
  have h_high := fold_high m c t k
  have h_state := fold_state m c t k
  have h_gain := fold_gain m c t k
  have h_dout := fold_dout m c t k
  have h_carry : k = I.carry := by rw [← hI]; rfl
  have h_221 : k0_pay14 (F := Ideal) (iota .tc S64x64 32 [0] iota_S64x64_d0_w32)
      (iota .tc S64x64 32 [1] iota_S64x64_d1_w32) v212 = v221 := rfl
  rw [hI] at h_qraw h_fraw h_val h_zraw h_low h_high h_state h_gain h_dout
  rw [hk, hI, outsAt0_A m c t h h]
  frame_out
  simp only [h_qraw, h_fraw, h_val, h_zraw, h_low, h_high, h_state, h_gain, h_dout, hk, h_carry, h_221, ← v212.eq_1,
    ← v229.eq_1, ← v236.eq_1, ← v238.eq_1, ← v240.eq_1, ← v241.eq_1, ← v245.eq_1, ← v247.eq_1, ← v248.eq_1,
    ← v251.eq_1, ← v255.eq_1, ← v256.eq_1, ← v259.eq_1, ← v260.eq_1, ← v261.eq_1, ← v262.eq_1, ← v263.eq_1,
    ← v304.eq_1, ← v305.eq_1, ← v306.eq_1, ← v307.eq_1, ← v308.eq_1, ← v309.eq_1, ← v310.eq_1, ← v311.eq_1,
    ← v312.eq_1, ← v313.eq_1, ← v314.eq_1, ← v315.eq_1, ← v316.eq_1, ← v317.eq_1, ← v318.eq_1, ← v319.eq_1,
    ← v338.eq_1, ← v372.eq_1, ← v373.eq_1, ← v375.eq_1, ← v376.eq_1, ← v377.eq_1, ← v378.eq_1, ← v380.eq_1,
    ← v381.eq_1, ← v382.eq_1, ← v400.eq_1, ← v401.eq_1, ← v402.eq_1, ← v403.eq_1, ← v413.eq_1, ← v415.eq_1,
    ← v422.eq_1, ← v423.eq_1, ← v433.eq_1, ← v434.eq_1, ← v435.eq_1, ← v436.eq_1, ← v446.eq_1, ← v448.eq_1,
    ← v466.eq_1, ← v467.eq_1, ← v468.eq_1, ← v469.eq_1, ← v479.eq_1, ← v481.eq_1, ← v499.eq_1, ← v500.eq_1,
    ← v501.eq_1, ← v502.eq_1, ← v505.eq_1, ← v512.eq_1, ← v513.eq_1, ← v515.eq_1, ← v519.eq_1, ← v522.eq_1,
    ← v523.eq_1, ← v531.eq_1, ← v534.eq_1, ← v536.eq_1, ← v537.eq_1, ← v539.eq_1, ← v540.eq_1, ← v543.eq_1,
    ← v544.eq_1, ← v545.eq_1, ← v580.eq_1, ← v584.eq_1, ← v587.eq_1, ← v589.eq_1, ← v592.eq_1, ← v599.eq_1,
    ← v606.eq_1, ← v621.eq_1, ← v623.eq_1, ← v628.eq_1, ← v629.eq_1, ← v636.eq_1, ← v637.eq_1, ← v638.eq_1,
    ← v639.eq_1, ← v640.eq_1, ← v660.eq_1, ← v667.eq_1, ← v679.eq_1, ← v682.eq_1, ← v684.eq_1, ← v685.eq_1,
    ← v710.eq_1, ← v713.eq_1, ← v720.eq_1, ← v729.eq_1, ← v743.eq_1, ← v761.eq_1, ← v768.eq_1, ← v771.eq_1,
    ← v773.eq_1, ← v776.eq_1, ← v777.eq_1, ← v778.eq_1, ← v813.eq_1, ← v815.eq_1, ← v817.eq_1, ← v819.eq_1,
    ← v821.eq_1, ← v823.eq_1, ← v825.eq_1, ← v827.eq_1, ← v829.eq_1, ← v831.eq_1, ← v833.eq_1, ← v835.eq_1,
    ← v836.eq_1, ← v892.eq_1, ← v899.eq_1, ← v907.eq_1, ← v925.eq_1, ← v927.eq_1]
  unfold pieces5 pieces5Of
  exact rfl

end Cert.KernelIdeal.Bridge
-- ==== Proof.Out5B.lean ====
module

public import proofs.«01_k».proof.Proof.Folds
public import proofs.«01_k».proof.Proof.Pieces
public import Idealize.ShloMosaic.Lib.Pipeline.ReadBack

/-! What one grid point leaves in a block, in pieces over the named values. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

variable (m : (ℓ : Loc nD τ sig) → Buf (Elt Ideal) ℓ)

set_option maxHeartbeats 4000000 in
/-- A later point writes the pieces of its chunk. -/
theorem out5_B (c : Dev nD) (t : Fin cfg0.N) (h : ¬ t.val % 64 = 0) :
    (outsAt0 m c t.val t.isLt).1 = View.canon (pieces5 (chunkIn m c t (outsAt0 m c (t.val - 1) (by omega)).2.2.2)) := by
  obtain ⟨k, hk⟩ : ∃ k, (outsAt0 m c (t.val - 1) (by omega)).2.2.2 = k := ⟨_, rfl⟩
  obtain ⟨I, hI⟩ : ∃ I, chunkIn m c t k = I := ⟨_, rfl⟩
  have h_qraw := fold_qraw m c t k
  have h_fraw := fold_fraw m c t k
  have h_val := fold_val m c t k
  have h_zraw := fold_zraw m c t k
  have h_low := fold_low m c t k
  have h_high := fold_high m c t k
  have h_state := fold_state m c t k
  have h_gain := fold_gain m c t k
  have h_dout := fold_dout m c t k
  have h_carry : k = I.carry := by rw [← hI]; rfl
  have h_221 : k0_pay14 (F := Ideal) (iota .tc S64x64 32 [0] iota_S64x64_d0_w32)
      (iota .tc S64x64 32 [1] iota_S64x64_d1_w32) v212 = v221 := rfl
  rw [hI] at h_qraw h_fraw h_val h_zraw h_low h_high h_state h_gain h_dout
  rw [hk, hI, outsAt0_B m c t h h]
  frame_out
  simp only [read_unread_whole]
  simp only [h_qraw, h_fraw, h_val, h_zraw, h_low, h_high, h_state, h_gain, h_dout, hk, h_carry, h_221, ← v212.eq_1,
    ← v229.eq_1, ← v236.eq_1, ← v238.eq_1, ← v240.eq_1, ← v241.eq_1, ← v245.eq_1, ← v247.eq_1, ← v248.eq_1,
    ← v251.eq_1, ← v255.eq_1, ← v256.eq_1, ← v259.eq_1, ← v260.eq_1, ← v261.eq_1, ← v262.eq_1, ← v263.eq_1,
    ← v304.eq_1, ← v305.eq_1, ← v306.eq_1, ← v307.eq_1, ← v308.eq_1, ← v309.eq_1, ← v310.eq_1, ← v311.eq_1,
    ← v312.eq_1, ← v313.eq_1, ← v314.eq_1, ← v315.eq_1, ← v316.eq_1, ← v317.eq_1, ← v318.eq_1, ← v319.eq_1,
    ← v338.eq_1, ← v372.eq_1, ← v373.eq_1, ← v375.eq_1, ← v376.eq_1, ← v377.eq_1, ← v378.eq_1, ← v380.eq_1,
    ← v381.eq_1, ← v382.eq_1, ← v400.eq_1, ← v401.eq_1, ← v402.eq_1, ← v403.eq_1, ← v413.eq_1, ← v415.eq_1,
    ← v422.eq_1, ← v423.eq_1, ← v433.eq_1, ← v434.eq_1, ← v435.eq_1, ← v436.eq_1, ← v446.eq_1, ← v448.eq_1,
    ← v466.eq_1, ← v467.eq_1, ← v468.eq_1, ← v469.eq_1, ← v479.eq_1, ← v481.eq_1, ← v499.eq_1, ← v500.eq_1,
    ← v501.eq_1, ← v502.eq_1, ← v505.eq_1, ← v512.eq_1, ← v513.eq_1, ← v515.eq_1, ← v519.eq_1, ← v522.eq_1,
    ← v523.eq_1, ← v531.eq_1, ← v534.eq_1, ← v536.eq_1, ← v537.eq_1, ← v539.eq_1, ← v540.eq_1, ← v543.eq_1,
    ← v544.eq_1, ← v545.eq_1, ← v580.eq_1, ← v584.eq_1, ← v587.eq_1, ← v589.eq_1, ← v592.eq_1, ← v599.eq_1,
    ← v606.eq_1, ← v621.eq_1, ← v623.eq_1, ← v628.eq_1, ← v629.eq_1, ← v636.eq_1, ← v637.eq_1, ← v638.eq_1,
    ← v639.eq_1, ← v640.eq_1, ← v660.eq_1, ← v667.eq_1, ← v679.eq_1, ← v682.eq_1, ← v684.eq_1, ← v685.eq_1,
    ← v710.eq_1, ← v713.eq_1, ← v720.eq_1, ← v729.eq_1, ← v743.eq_1, ← v761.eq_1, ← v768.eq_1, ← v771.eq_1,
    ← v773.eq_1, ← v776.eq_1, ← v777.eq_1, ← v778.eq_1, ← v813.eq_1, ← v815.eq_1, ← v817.eq_1, ← v819.eq_1,
    ← v821.eq_1, ← v823.eq_1, ← v825.eq_1, ← v827.eq_1, ← v829.eq_1, ← v831.eq_1, ← v833.eq_1, ← v835.eq_1,
    ← v836.eq_1, ← v892.eq_1, ← v899.eq_1, ← v907.eq_1, ← v925.eq_1, ← v927.eq_1]
  unfold pieces5 pieces5Of
  exact rfl

end Cert.KernelIdeal.Bridge
-- ==== Proof.Final.lean ====
module

public import proofs.«01_k».proof.Proof.Carry
public import proofs.«01_k».proof.Proof.Read5
public import proofs.«01_k».proof.Proof.Out5A
public import proofs.«01_k».proof.Proof.Out5B

/-! The three arrays after the run, as real numbers in the arguments. -/

@[expose] public section

set_option maxRecDepth 65536

noncomputable section

namespace Cert.KernelIdeal.Bridge

open Idealize.ShloMosaic Idealize.ShloMosaic.TcCoe Idealize.SL.Sem
open Cert.KernelIdeal Cert.KernelIdeal.Gen Cert.KernelIdeal.Chain Cert.Reals Cert.Spec

variable {m : (ℓ : Loc nD τ sig) → Buf (Elt Ideal) ℓ} {c : Dev nD} {a : Args}

theorem row_eq (y : S1x128.Idx) : ix2 (y 0) (y 1) = y :=
  funext fun a => by
    refine Fin.cases rfl (fun b => ?_) a
    obtain rfl : b = 0 := Subsingleton.elim _ _
    rfl

section
variable (B : a.Big)
include B

/-- A chunk's rows of the projection's gradient are rows of the whole. -/
theorem dproj_rin {n : ℕ} (hn : n < 64) (r : Fin 64) (j : Fin 8192) :
    dproj (a.rin n) r j = a.dproj (64 * n + r.val) j := by
  unfold dproj Args.dproj
  split
  · exact Args.rin_dqr B hn _ _ _
  split
  · exact Args.rin_dfr B hn _ _ _
  split
  · exact Args.rin_dv B hn _ _ _
  · exact Args.rin_dz B hn _ _ _

theorem sum_dlow (i : Fin 2) (j : Fin 2048) : ∑ s ∈ Finset.range 64, dlow (a.rin (63 - s)) i j = a.dlow i j := by
  rw [show ∑ s ∈ Finset.range 64, dlow (a.rin (63 - s)) i j = _ from
    Finset.sum_range_reflect (fun n => dlow (a.rin n) i j) 64, ← Fin.sum_univ_eq_sum_range]
  unfold dlow Args.dlow
  split
  · exact Args.sum_c0 B _ _
  · exact Args.sum_c1 B _ _

theorem sum_gain (d : Fin 128) : ∑ s ∈ Finset.range 64, (a.rin (63 - s)).dg d = a.dg d := by
  rw [show ∑ s ∈ Finset.range 64, (a.rin (63 - s)).dg d = _ from
    Finset.sum_range_reflect (fun n => (a.rin n).dg d) 64, ← Fin.sum_univ_eq_sum_range]
  exact Args.sum_dg B d
end

variable (H : Cert.ReferenceIdeal.Real.Holds (m ((c : Thread nD τ).loc main_arg0)) (m ((c : Thread nD τ).loc main_arg1))
    (m ((c : Thread nD τ).loc main_arg2)) (m ((c : Thread nD τ).loc main_arg3)) a) (B : a.Big)
include H B

/-- The block a point leaves. -/
theorem block5 (t : Fin cfg0.N) (y : S64x8192.Idx) :
    (outsAt0 m c t.val t.isLt).1 y = ((a.dproj (64 * (63 - t.val) + (y 0).val) (y 1) : ℝ) : EReal) := by
  by_cases ht : t.val % 64 = 0
  · have hN := lt_of_lt_of_eq t.isLt (show cfg0.N = 64 from N_0)
    rw [out5_A m c t ht, pieces5_at (reads_A H B t (by omega)) y]
    exact congrArg _ (dproj_rin B (by omega) (y 0) (y 1))
  · rw [out5_B m c t ht, pieces5_at (reads_B H B t (by intro h; rw [h] at ht; exact ht rfl)) y]
    exact congrArg _ (dproj_rin B (by omega) (y 0) (y 1))

/-- The gradient of the projection after the run. -/
theorem final5 : (dats m 0 c).arrAt 5 cfg0.N
    = fun i : S4096x8192.Idx => ((a.dproj (i 0).val (i 1) : ℝ) : EReal) := by
  refine (dats m 0 c).arrAt_eq_of_covers 5 _ (by decide +kernel) fun t hf y => ?_
  blk_simp
  rw [after0_5]
  refine (block5 H B t y).trans (congrArg _ ?_)
  have h1 : (((win0_5.blk t).view.emb y 1 : Fin 8192) : ℕ) = (y 1).val := by
    blk_simp [idx t]
  rw [show win0_5.index t 0 = 63 - t.val from (idx t).2.2.2.2.2.1.1, Nat.mul_comm]
  exact congrArg (a.dproj _) (Fin.ext h1.symm)

/-- The gradient of the lower bounds after the run. -/
theorem final6 : (dats m 0 c).arrAt 6 cfg0.N
    = fun i : S2x2048.Idx => ((a.dlow (i 0) (i 1) : ℝ) : EReal) := by
  refine (dats m 0 c).arrAt_eq_of_covers 6 _ (by decide +kernel) fun t hf y => ?_
  blk_simp
  rw [after0_6]
  have hN := lt_of_lt_of_eq t.isLt (show cfg0.N = 64 from N_0)
  have e : t.val + 1 = 64 := by have := (flush0_6 t).mp hf; omega
  have L (i : Fin 2) (j : Fin 2048) : (outsAt0 m c t.val t.isLt).2.1 (ix2 i j) = ((a.dlow i j : ℝ) : EReal) := by
    rw [low_at H B t.val t.isLt i j, e, sum_dlow B]
  have h0 : (((win0_6.blk t).view.emb y 0 : Fin 2) : ℕ) = (y 0).val := by
    blk_simp [idx t]
  have h1 : (((win0_6.blk t).view.emb y 1 : Fin 2048) : ℕ) = (y 1).val := by
    blk_simp [idx t]
  refine (congrArg (outsAt0 m c t.val t.isLt).2.1 (at_eq y (y 0) (y 1) rfl rfl).symm).trans ((L (y 0) (y 1)).trans ?_)
  exact congrArg _ (congrArg₂ a.dlow (Fin.ext h0.symm) (Fin.ext h1.symm))

/-- The gradient of the gain after the run. -/
theorem final7 : (dats m 0 c).arrAt 7 cfg0.N
    = fun i : S1x128.Idx => ((a.dg (i 1) : ℝ) : EReal) := by
  refine (dats m 0 c).arrAt_eq_of_covers 7 _ (by decide +kernel) fun t hf y => ?_
  blk_simp
  rw [after0_7]
  have hN := lt_of_lt_of_eq t.isLt (show cfg0.N = 64 from N_0)
  have e : t.val + 1 = 64 := by have := (flush0_7 t).mp hf; omega
  have L (i : Fin 1) (j : Fin 128) : (outsAt0 m c t.val t.isLt).2.2.1 (ix2 i j) = ((a.dg j : ℝ) : EReal) := by
    rw [gain_at H B t.val t.isLt i j, e, sum_gain B]
  have h1 : (((win0_7.blk t).view.emb y 1 : Fin 128) : ℕ) = (y 1).val := by
    blk_simp [idx t]
  refine (congrArg (outsAt0 m c t.val t.isLt).2.2.1 (row_eq y).symm).trans ((L (y 0) (y 1)).trans ?_)
  exact congrArg _ (congrArg a.dg (Fin.ext h1.symm))

end Cert.KernelIdeal.Bridge
-- ==== Proof.RefB.lean ====
module

public import proofs.«01_k».proof.Proof.RefA
public import proofs.«01_k».proof.Proof.TwoAxes

/-! The reference's backward pass over the reals, down to the gradients of queries, keys, values and log decays. -/

@[expose] public section

set_option maxRecDepth 16384

noncomputable section

namespace Cert.ReferenceIdeal.Real

open Idealize.ShloMosaic Idealize.ShloMosaic.TcCoe Idealize.SL.Sem
open Cert.ReferenceIdeal Cert.ReferenceIdeal.Gen Cert.ReferenceIdeal.Read Cert.Reals Cert.Spec

variable {x0 : FVec Ideal S4096x8192 .f32} {x1 : FVec Ideal S4096x2048 .f32} {x2 : FVec Ideal S2x2048 .f32}
  {x3 : FVec Ideal S1x128 .f32} {a : Args} (H : Holds x0 x1 x2 x3 a)
include H

theorem v104_2_at (t : Fin 4096) (h : Fin 16) (e : Fin 128) :
    val_main_v104_2 (F := Ideal) x0 (ix3 t h e) = ((sigm (a.z h t e) : ℝ) : EReal) := by
  unfold val_main_v104_2 val_main_call4_v4 val_main_call4_v3 val_main_call4_v2 val_main_call4_v1 val_main_call4_v0 val_main_call4_cst val_main_call4_cst_0
  pointwise [v65_at H, sigm_div]
theorem v104_1_at (t : Fin 4096) (h : Fin 16) (e : Fin 128) :
    val_main_v104_1 (F := Ideal) x0 (ix3 t h e) = ((sigm (a.z h t e) * (1 - sigm (a.z h t e)) : ℝ) : EReal) := by
  unfold val_main_v104_1 val_main_call4_v7 val_main_call4_v6 val_main_call4_cst_1
  pointwise [v104_2_at H]
  simp only [one_coe, subR, mulR]
theorem v109_at (t : Fin 4096) (h : Fin 16) (e : Fin 128) :
    val_main_v109 (F := Ideal) x0 x1 (ix3 t h e) = ((a.dout t (at_ h e) * a.zz h t e : ℝ) : EReal) := by
  unfold val_main_v109 val_main_v107 val_main_v104_0
  pointwise [v104_2_at H, v65_at H, H.dout]
  simp only [mulR]; rfl
theorem v110_at (t : Fin 4096) (h : Fin 16) (e : Fin 128) :
    val_main_v110 (F := Ideal) x0 x1 x2 x3 (ix3 t h e) = ((a.dz h t e : ℝ) : EReal) := by
  unfold val_main_v110 val_main_call5_v2 val_main_call5_v1 val_main_call5_v0 val_main_v108 val_main_v107 val_main_v103 val_main_v102 val_main_v101
  pointwise [v104_2_at H, v104_1_at H, v65_at H, H.dout, v100_at H, H.g]
  simp only [mulR, addR]; rfl

/-- The gradient of the gain. -/
theorem v117_at (e : Fin 128) : val_main_v117 (F := Ideal) x0 x1 x2 (ix2 0 e) = ((a.dg e : ℝ) : EReal) := by
  have h112 : val_main_v112 (F := Ideal) x0 x1 x2 (ix1 e) = ((a.dg e : ℝ) : EReal) := by
    unfold val_main_v112
    refine (hostReduceAdd_first _ e _ _).trans ?_
    unfold val_main_cst_21 val_main_v111
    pointwise [v100_at H, v109_at H]
    simp only [mulR, sumR, zero_add]; rfl
  have h116 : val_main_v116 (F := Ideal) x0 x1 x2 (ix1 e) = ((a.dg e : ℝ) : EReal) := by
    unfold val_main_v116
    refine (hostReduceAdd_first _ e _ _).trans ?_
    unfold val_main_cst_22 val_main_v113
    pointwise [h112]
    simp
  unfold val_main_v117
  pointwise [h116]

theorem v115_at (t : Fin 4096) (h : Fin 16) (e : Fin 128) :
    val_main_v115 (F := Ideal) x0 x1 x3 (ix3 t h e) = ((a.y h t e : ℝ) : EReal) := by
  unfold val_main_v115 val_main_v114 val_main_v101
  pointwise [v109_at H, H.g]
  simp only [mulR]; rfl

/-- The gradient of the recurrence's output. -/
theorem v129_at (t : Fin 4096) (h : Fin 16) (e : Fin 128) :
    val_main_v129 (F := Ideal) x0 x1 x2 x3 (ix3 t h e) = ((a.c h t e : ℝ) : EReal) := by
  unfold val_main_v129 val_main_v128 val_main_v127 val_main_v126 val_main_cst_25 val_main_v125 val_main_v124 val_main_cst_24 val_main_v123 val_main_v122 val_main_v121 val_main_v120 val_main_v119 val_main_cst_23 val_main_v118 val_main_v88 val_main_v87 val_main_cst_16
  pointwise [v115_at H, v85_at H, v95_at H, v98_at H, ofBits_128, ofBits_two]
  simp only [mulR, sumR, zero_add, Fin.sum_univ_one]
  rw [v98_at H, mulR, div_coe_coe _ _ (by norm_num), mulR, addR]
  refine congrArg _ ?_
  unfold Args.c Args.aa; ring

theorem v132_at (t s : Fin 4096) (h : Fin 16) :
    val_main_v132 (F := Ideal) x0 x1 x2 x3 (ix3 t s h) = (((a.head h).G t s : ℝ) : EReal) := by
  unfold val_main_v132 val_main_v131 val_main_v130
  pointwise [v129_at H, v62_at H]
  simp only [mulR, sumR]; rfl

/-- The gradient of the values. -/
theorem v134_at (s : Fin 4096) (h : Fin 16) (e : Fin 128) :
    val_main_v134 (F := Ideal) x0 x1 x2 x3 (ix3 s h e) = (((a.head h).dv s e : ℝ) : EReal) := by
  unfold val_main_v134 val_main_v133 val_main_v130
  pointwise [v129_at H, v83_at H]
  simp only [mulR, sumR, mul_ite, mul_zero]
  refine congrArg _ ((fin_from (fun t => a.c h t e * (a.base h).A t s) s).trans ?_)
  exact Finset.sum_congr rfl fun s _ => mul_comm _ _

theorem v137_at (t s : Fin 4096) (h : Fin 16) (d : Fin 128) :
    val_main_v137 (F := Ideal) x0 x1 x2 x3 (ix4 t s h d)
      = ((if s.val ≤ t.val then (a.head h).G t s * (a.head h).w t s d else 0 : ℝ) : EReal) := by
  unfold val_main_v137 val_main_v135
  pointwise [v132_at H, v76_at H]
  simp only [mulR, mul_ite, mul_zero]; rfl

/-- The gradient of the keys. -/
theorem v146_at (s : Fin 4096) (h : Fin 16) (d : Fin 128) :
    val_main_v146 (F := Ideal) x0 x1 x2 x3 (ix3 s h d) = (((a.head h).dk s d : ℝ) : EReal) := by
  unfold val_main_v146 val_main_cst_28 val_main_v141 val_main_v140 val_main_cst_26 val_main_v139 val_main_v138 val_main_v77
  pointwise [v137_at H, v58_at H]
  simp only [mulR, sumR, mul_ite, mul_zero, zero_add, Fin.sum_univ_one]
  refine congrArg _ ((fin_from (fun t => a.q t (at_ h d) * ((a.head h).G t s * (a.head h).w t s d)) s).trans ?_)
  refine Finset.sum_congr rfl fun t _ => ?_
  show (a.head h).q t d * _ = _
  ring

/-- The gradient of the queries. -/
theorem v147_at (t : Fin 4096) (h : Fin 16) (d : Fin 128) :
    val_main_v147 (F := Ideal) x0 x1 x2 x3 (ix3 t h d) = (((a.head h).dq t d : ℝ) : EReal) := by
  unfold val_main_v147 val_main_cst_29 val_main_v145 val_main_v144 val_main_cst_27 val_main_v143 val_main_v142 val_main_v78
  pointwise [v137_at H, v61_at H]
  simp only [mulR, sumR, ite_mul, zero_mul, zero_add, Fin.sum_univ_one]
  refine congrArg _ ((fin_upto (fun s => (a.head h).G t s * (a.head h).w t s d * (1 - a.f s (at_ h d))) t).trans ?_)
  refine Finset.sum_congr rfl fun s _ => ?_
  show _ * (a.head h).k s d = _
  ring

theorem v149_at (t s : Fin 4096) (h : Fin 16) (d : Fin 128) :
    val_main_v149 (F := Ideal) x0 x1 x2 x3 (ix4 t s h d)
      = ((if s.val ≤ t.val then (a.head h).X t s d else 0 : ℝ) : EReal) := by
  unfold val_main_v149 val_main_v148 val_main_v136 val_main_v135 val_main_call6_v0 val_main_call6_cst val_main_v75_1 val_main_v69 val_main_v68 val_main_v67
  pointwise [v132_at H, v81_at H, v76_at H, sle_word]
  simp only [mulR]
  by_cases e : s.val ≤ t.val
  · simp only [if_pos e]
    refine congrArg _ ?_
    show (a.head h).q t d * (a.head h).k s d * (a.head h).G t s * (a.head h).w t s d = _
    unfold Hd.X; ring
  · simp only [if_neg e]; rfl

omit H in
theorem zero_window7 : val_main_call7_call0_v0 (F := Ideal) = fun _ => 0 := by
  funext i
  unfold val_main_call7_call0_v0 val_main_call7_call0_cst
  pointwise []

theorem v157_at (t : Fin 4096) (h : Fin 16) (d : Fin 128) :
    val_main_v157 (F := Ideal) x0 x1 x2 x3 (ix3 t h d)
      = (((∑ s : Fin 4096, if s.val ≤ t.val then (a.head h).X t s d else 0)
          - ∑ t' : Fin 4096, (if t.val ≤ t'.val then (a.head h).X t' t d else 0) : ℝ) : EReal) := by
  unfold val_main_v157 val_main_v156 val_main_v155 val_main_v154 val_main_v153 val_main_v152 val_main_v151 val_main_v150 val_main_cst_30 val_main_cst_31 val_main_cst_32 val_main_cst_33
  pointwise [v149_at H]
  simp only [negR, sumR, zero_add, Fin.sum_univ_one, addR]
  refine congrArg _ ?_
  rw [Finset.sum_neg_distrib]; ring

/-- The gradient of the log decays. -/
theorem v158_at (r : Fin 4096) (h : Fin 16) (d : Fin 128) :
    val_main_v158 (F := Ideal) x0 x1 x2 x3 (ix3 r h d) = (((a.head h).dlf r d : ℝ) : EReal) := by
  unfold val_main_v158
  rw [zero_window7]
  unfold Host.reduceWindowAdd
  rw [Ideal.hostReduceWindowAdd_def]
  refine (rcum3 (N := 4096) (M := 4095) reduceWindows_S4096x16x128_S4096x16x128_w4096s1p0_4095_w1s1p0_0_w1s1p0_0 _ r h d).trans ?_
  simp only [v157_at H, zero_coe, ite_coe, sumR]
  refine congrArg _ ((crossing (fun t s : Fin 4096 => (a.head h).X t s d) r).trans ?_)
  rw [fin_from (fun t => ∑ s : Fin 4096, if s.val < r.val then (a.head h).X t s d else 0) r]
  exact Finset.sum_congr rfl fun t _ => fin_before (fun s => (a.head h).X t s d) r

end Cert.ReferenceIdeal.Real

end
-- ==== Proof.RefC.lean ====
module

public import proofs.«01_k».proof.Proof.RefB

/-! The reference's three results over the reals. -/

@[expose] public section

set_option maxRecDepth 16384

noncomputable section

namespace Cert.ReferenceIdeal.Real

open Idealize.ShloMosaic Idealize.ShloMosaic.TcCoe Idealize.SL.Sem
open Cert.ReferenceIdeal Cert.ReferenceIdeal.Gen Cert.ReferenceIdeal.Read Cert.Reals Cert.Spec

/-- The head and the lane within it of one of 2048 lanes. -/
abbrev hd (j : Fin 2048) : Fin 16 := ⟨j.val / 128, by omega⟩
abbrev ln (j : Fin 2048) : Fin 128 := ⟨j.val % 128, by omega⟩

theorem at_hd (j : Fin 2048) : at_ (hd j) (ln j) = j.val := by
  show j.val / 128 * 128 + j.val % 128 = j.val; omega

variable {x0 : FVec Ideal S4096x8192 .f32} {x1 : FVec Ideal S4096x2048 .f32} {x2 : FVec Ideal S2x2048 .f32}
  {x3 : FVec Ideal S1x128 .f32} {a : Args} (H : Holds x0 x1 x2 x3 a)
include H

/-- The gradient of the forget gate. -/
theorem v165_at (t : Fin 4096) (j : Fin 2048) :
    val_main_v165 (F := Ideal) x0 x1 x2 x3 (ix2 t j) = ((a.df (hd j) t (ln j) : ℝ) : EReal) := by
  unfold val_main_v165 val_main_v164 val_main_v163 val_main_v161 val_main_v160
  pointwise [v158_at H, v146_at H, v56_at H]
  rw [div_coe_coe _ _ (a.f_pos _ _).ne', negR, addR]
  refine congrArg _ ?_
  unfold Args.df
  rw [at_hd, zero_sub]

theorem v167_at (t : Fin 4096) (j : Fin 2048) :
    val_main_v167 (F := Ideal) x0 x1 x2 x3 (ix2 t j) = ((a.dqr (hd j) t (ln j) : ℝ) : EReal) := by
  unfold val_main_v167 val_main_call8_v2 val_main_call8_v1 val_main_call8_v0 val_main_v166 val_main_v36
  pointwise [v147_at H, v57_2_at H, v57_1_at H, H.p]
  simp only [mulR, addR]
  unfold Args.dqr
  rw [at_hd]

theorem v177_at (t : Fin 4096) (j : Fin 2048) :
    val_main_v177 (F := Ideal) x0 x1 x2 x3 (ix2 t j) = ((a.dfr (hd j) t (ln j) : ℝ) : EReal) := by
  unfold val_main_v177 val_main_v172 val_main_v171
  pointwise [v165_at H, v50_at H, v51_at H]
  simp only [mulR]
  unfold Args.dfr
  rw [at_hd]

theorem v162_at (t : Fin 4096) (j : Fin 2048) :
    val_main_v162 (F := Ideal) x0 x1 x2 x3 (ix2 t j) = (((a.head (hd j)).dv t (ln j) : ℝ) : EReal) := by
  unfold val_main_v162
  pointwise [v134_at H]

theorem v159_at (t : Fin 4096) (j : Fin 2048) :
    val_main_v159 (F := Ideal) x0 x1 x2 x3 (ix2 t j) = ((a.dz (hd j) t (ln j) : ℝ) : EReal) := by
  unfold val_main_v159
  pointwise [v110_at H]

/-- The gradient of the lower bound. -/
theorem v179_at (j : Fin 2048) :
    val_main_v179 (F := Ideal) x0 x1 x2 x3 (ix1 j) = ((a.dL (hd j) (ln j) : ℝ) : EReal) := by
  unfold val_main_v179 val_main_v178 val_main_v176 val_main_cst_37 val_main_v175 val_main_v174 val_main_cst_36 val_main_v173 val_main_v170 val_main_cst_35 val_main_v169 val_main_v168 val_main_cst_34
  pointwise [v165_at H, v47_at H]
  simp only [mulR, sumR, zero_add, Fin.sum_univ_one, negR, addR]
  refine congrArg _ ?_
  unfold Args.dL
  rw [at_hd, zero_sub]

theorem v182_at0 (j : Fin 2048) : val_main_v182 (F := Ideal) x0 x1 x2 x3 (ix2 0 j) = 0 := by
  unfold val_main_v182 val_main_v181 val_main_cst_38
  pointwise [v179_at H]
theorem v182_at1 (j : Fin 2048) :
    val_main_v182 (F := Ideal) x0 x1 x2 x3 (ix2 1 j) = ((a.dL (hd j) (ln j) : ℝ) : EReal) := by
  unfold val_main_v182 val_main_v181 val_main_cst_38
  pointwise [v179_at H]
theorem v186_at (j : Fin 2048) :
    val_main_v186 (F := Ideal) x0 x1 x2 x3 (ix1 j) = ((-a.dL (hd j) (ln j) : ℝ) : EReal) := by
  unfold val_main_v186 val_main_cst_40 val_main_v185 val_main_v184 val_main_cst_39 val_main_v183
  pointwise []
  simp only [Fin.sum_univ_one, Fin.sum_univ_two, v182_at0 H, v182_at1 H]
  rw [negR, neg_zero, zero_add]
theorem v189_at0 (j : Fin 2048) :
    val_main_v189 (F := Ideal) x0 x1 x2 x3 (ix2 0 j) = ((-a.dL (hd j) (ln j) : ℝ) : EReal) := by
  unfold val_main_v189 val_main_v188 val_main_v187 val_main_cst_41
  pointwise [v186_at H, v182_at0 H]
theorem v189_at1 (j : Fin 2048) :
    val_main_v189 (F := Ideal) x0 x1 x2 x3 (ix2 1 j) = ((a.dL (hd j) (ln j) : ℝ) : EReal) := by
  unfold val_main_v189 val_main_v188 val_main_v187 val_main_cst_41
  pointwise [v186_at H, v182_at1 H]

omit H in
theorem zero_window9 : val_main_call9_call0_v0 (F := Ideal) = fun _ => 0 := by
  funext i
  unfold val_main_call9_call0_v0 val_main_call9_call0_cst
  pointwise []

theorem v190_at (i : Fin 2) (j : Fin 2048) : val_main_v190 (F := Ideal) x0 x1 x2 x3 (ix2 i j)
    = ∑ s : Fin 2, if i.val ≤ s.val then val_main_v189 (F := Ideal) x0 x1 x2 x3 (ix2 s j) else 0 := by
  unfold val_main_v190
  rw [zero_window9]
  exact rcum2 (N := 2) (M := 1) reduceWindows_S2x2048_S2x2048_w2s1p0_1_w1s1p0_0 _ i j
theorem v190_at0 (j : Fin 2048) : val_main_v190 (F := Ideal) x0 x1 x2 x3 (ix2 0 j) = ((0 : ℝ) : EReal) := by
  rw [v190_at H, Fin.sum_univ_two, v189_at0 H, v189_at1 H, if_pos (by decide), if_pos (by decide), addR]
  exact congrArg _ (by ring)
theorem v190_at1 (j : Fin 2048) :
    val_main_v190 (F := Ideal) x0 x1 x2 x3 (ix2 1 j) = ((a.dL (hd j) (ln j) : ℝ) : EReal) := by
  rw [v190_at H, Fin.sum_univ_two, v189_at0 H, v189_at1 H, if_neg (by decide), if_pos (by decide), zero_add]

theorem v27_at (j : Fin 2048) : val_main_v27 (F := Ideal) x2 (ix2 0 j) = ((1 / (a.sm j * a.sm j) : ℝ) : EReal) := by
  unfold val_main_v27 val_main_v26 val_main_cst_8 val_main_v25 val_main_v22
  pointwise [v21_at H]
  rw [mulR, one_coe, div_coe_coe _ _ (mul_pos (a.sm_pos _) (a.sm_pos _)).ne']

theorem v199_at (j : Fin 2048) : val_main_v199 (F := Ideal) x0 x1 x2 x3 (ix1 j)
    = ((0 - a.dL (hd j) (ln j) * (1 / (a.sm j * a.sm j)) * a.e1 j : ℝ) : EReal) := by
  unfold val_main_v199 val_main_cst_43 val_main_v196 val_main_v195 val_main_v194 val_main_cst_42 val_main_v193 val_main_v192 val_main_v191
  pointwise [v27_at H]
  simp only [Fin.sum_univ_one, Fin.sum_univ_two, v190_at0 H, v190_at1 H, v20_at0 H, v20_at1 H, v27_at H]
  simp only [mulR, zero_coe, negR, addR]
  exact congrArg _ (by ring)

/-- The gradient of the two rows of lower bounds. -/
theorem v202_at0 (j : Fin 2048) :
    val_main_v202 (F := Ideal) x0 x1 x2 x3 (ix2 0 j) = ((a.c0 (hd j) (ln j) : ℝ) : EReal) := by
  unfold val_main_v202 val_main_v201 val_main_v200 val_main_v198 val_main_v197 val_main_v22
  pointwise [v199_at H, v190_at0 H, v20_at0 H, v21_at H]
  rw [div_coe_coe _ _ (a.sm_pos _).ne', addR, mulR]
  refine congrArg _ ?_
  unfold Args.c0
  rw [at_hd, zero_div, zero_add]
theorem v202_at1 (j : Fin 2048) :
    val_main_v202 (F := Ideal) x0 x1 x2 x3 (ix2 1 j) = ((a.c1 (hd j) (ln j) : ℝ) : EReal) := by
  unfold val_main_v202 val_main_v201 val_main_v200 val_main_v198 val_main_v197 val_main_v22
  pointwise [v199_at H, v190_at1 H, v20_at1 H, v21_at H]
  rw [div_coe_coe _ _ (a.sm_pos _).ne', addR, mulR]
  refine congrArg _ ?_
  unfold Args.c1
  rw [at_hd]

theorem v202_at (i : Fin 2) (j : Fin 2048) :
    val_main_v202 (F := Ideal) x0 x1 x2 x3 (ix2 i j) = ((a.dlow i j : ℝ) : EReal) := by
  refine Fin.cases ?_ (fun b => ?_) i
  · exact v202_at0 H j
  · obtain rfl : b = 0 := Subsingleton.elim _ _
    exact v202_at1 H j

/-- The gradient of the projection. -/
theorem v203_at (t : Fin 4096) (j : Fin 8192) :
    val_main_v203 (F := Ideal) x0 x1 x2 x3 (ix2 t j) = ((a.dproj t j : ℝ) : EReal) := by
  have key : ∀ (n : ℕ) (g : Fin 16 → Fin 128 → ℝ) (j' : Fin 2048), j.val = 2048 * n + j'.val →
      g (hd j') (ln j') = g ⟨j.val / 128 % 16, by omega⟩ ⟨j.val % 128, by omega⟩ := by
    intro n g j' e
    congr 1 <;> exact Fin.ext (by simp only []; omega)
  unfold val_main_v203 val_main_v180
  pointwise [v167_at H, v177_at H, v162_at H, v159_at H]
  unfold Args.dproj
  by_cases h0 : j.val < 2048
  · rw [dif_pos h0, if_pos h0]
    exact congrArg _ (key 0 (fun h d => a.dqr h t d) ⟨j.val, h0⟩ (by simp))
  rw [dif_neg h0, if_neg h0]
  by_cases h1 : j.val < 4096
  · rw [dif_pos (by omega), if_pos h1]
    exact congrArg _ (key 1 (fun h d => a.dfr h t d) ⟨j.val - 2048, by omega⟩ (by simp only []; omega))
  rw [dif_neg (by omega), if_neg h1]
  by_cases h2 : j.val < 6144
  · rw [dif_pos (by omega), if_pos h2]
    exact congrArg _ (key 2 (fun h d => (a.head h).dv t d) ⟨j.val - 2048 - 2048, by omega⟩ (by simp only []; omega))
  rw [dif_neg (by omega), if_neg h2]
  exact congrArg _ (key 3 (fun h d => a.dz h t d) ⟨j.val - 2048 - 2048 - 2048, by omega⟩ (by simp only []; omega))

end Cert.ReferenceIdeal.Real

end
-- ==== Proof.Tame.lean ====
module

public import proofs.«01_k».proof.Proof.RefA
public import proofs.«01_k».proof.Proof.Gen.Pre_tame
public import Idealize.ShloMosaic.Lib.ReduceAll

/-! The precondition read back: the argument arrays hold real numbers, and no aligned block of sixteen rows decays
below `e⁻⁸⁰`. -/

@[expose] public section

set_option maxRecDepth 65536

noncomputable section

namespace Cert.Pre_tame.Real

open Idealize.ShloMosaic Cert.Pre_tame Cert.Pre_tame.Gen Cert.Reals Cert.Spec

/-- The real numbers in the argument arrays. -/
def argsOf (x0 : FVec Ideal ⟨2, ![4096, 8192]⟩ .f32) (x1 : FVec Ideal ⟨2, ![4096, 2048]⟩ .f32)
    (x2 : FVec Ideal ⟨2, ![2, 2048]⟩ .f32) (x3 : FVec Ideal ⟨2, ![1, 128]⟩ .f32) : Args where
  p t j := EReal.toReal (x0 (ix2 ⟨t % 4096, Nat.mod_lt _ (by decide)⟩ ⟨j % 8192, Nat.mod_lt _ (by decide)⟩))
  dout t j := EReal.toReal (x1 (ix2 ⟨t % 4096, Nat.mod_lt _ (by decide)⟩ ⟨j % 2048, Nat.mod_lt _ (by decide)⟩))
  l0 j := EReal.toReal (x2 (ix2 0 ⟨j % 2048, Nat.mod_lt _ (by decide)⟩))
  l1 j := EReal.toReal (x2 (ix2 1 ⟨j % 2048, Nat.mod_lt _ (by decide)⟩))
  g d := EReal.toReal (x3 (ix2 0 d))

/-- A number whose absolute value compares below the infinity is real. -/
theorem real_of_lt (x : EReal) (h : Ideal.cmp .olt (max x (-x)) (Ideal.ofBits .f32 0x7F800000#32) = 1#1) :
    x = ((x.toReal : ℝ) : EReal) := by
  rw [ofBits_inf] at h
  unfold Ideal.cmp at h
  have hlt : max x (-x) < ⊤ := by
    by_contra hn
    simp [hn] at h
  rw [max_lt_iff] at hlt
  refine (EReal.coe_toReal hlt.1.ne ?_).symm
  rintro rfl
  simp at hlt

theorem lt_of_ogt (x y : EReal) (h : Ideal.cmp .ogt x y = 1#1) : y < x := by
  unfold Ideal.cmp at h
  by_contra hn
  simp [hn] at h

variable {x0 : FVec Ideal ⟨2, ![4096, 8192]⟩ .f32} {x1 : FVec Ideal ⟨2, ![4096, 2048]⟩ .f32}
  {x2 : FVec Ideal ⟨2, ![2, 2048]⟩ .f32} {x3 : FVec Ideal ⟨2, ![1, 128]⟩ .f32}

/-- Array entries that are real numbers. -/
theorem holds (f0 : ∀ i, x0 i = ((EReal.toReal (x0 i) : ℝ) : EReal)) (f1 : ∀ i, x1 i = ((EReal.toReal (x1 i) : ℝ) : EReal))
    (f2 : ∀ i, x2 i = ((EReal.toReal (x2 i) : ℝ) : EReal)) (f3 : ∀ i, x3 i = ((EReal.toReal (x3 i) : ℝ) : EReal)) :
    Cert.ReferenceIdeal.Real.Holds x0 x1 x2 x3 (argsOf x0 x1 x2 x3) where
  p t j := (f0 _).trans (by simp only [argsOf, Nat.mod_eq_of_lt t.isLt, Nat.mod_eq_of_lt j.isLt])
  dout t j := (f1 _).trans (by simp only [argsOf, Nat.mod_eq_of_lt t.isLt, Nat.mod_eq_of_lt j.isLt])
  l0 j := (f2 _).trans (by simp only [argsOf, Nat.mod_eq_of_lt j.isLt])
  l1 j := (f2 _).trans (by simp only [argsOf, Nat.mod_eq_of_lt j.isLt])
  g d := f3 _

/-- The five parts of the precondition. -/
theorem parts (h : Cert.Pre_tame.fn (F := Ideal) x0 x1 x2 x3 = fun _ => 1#1) :
    ((∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal)))
    ∧ ∀ i, Ideal.cmp .ogt
        (Host.reduceAdd (F := Ideal) (shapeCast S256x16x16x128 (Cert.ReferenceIdeal.Read.val_main_v64 (F := Ideal) x0 x2)
            shapeCasts_S4096x16x128_S256x16x16x128) (constant S_ .f32 0x00000000#32)
          reducesTo_S256x16x16x128_S256x16x128_d1 h_S_ i) (Ideal.ofBits .f32 0xC2A00000#32) = 1#1 := by
  have h := congrFun h (Shape.Idx.first h_S_)
  unfold fn fn_part1 fn_part2 fn_part3 at h
  obtain ⟨h, b⟩ := IntOp.andi_eq_one.1 h
  obtain ⟨h, a3⟩ := IntOp.andi_eq_one.1 h
  obtain ⟨h, a2⟩ := IntOp.andi_eq_one.1 h
  obtain ⟨a0, a1⟩ := IntOp.andi_eq_one.1 h
  refine ⟨⟨fun i => real_of_lt _ (Host.reduce_andi_all _ _ _ _ _ a0 i), fun i => real_of_lt _ (Host.reduce_andi_all _ _ _ _ _ a1 i),
    fun i => real_of_lt _ (Host.reduce_andi_all _ _ _ _ _ a2 i), fun i => real_of_lt _ (Host.reduce_andi_all _ _ _ _ _ a3 i)⟩,
    fun i => Host.reduce_andi_all _ _ _ _ _ b i⟩

theorem ofBits_neg_80 : Ideal.ofBits .f32 0xC2A00000#32 = ((-80 : ℝ) : EReal) := by
  simp [Ideal.ofBits, Ideal.ieee]; rw [← EReal.coe_mul]; norm_num

theorem big (h : Cert.Pre_tame.fn (F := Ideal) x0 x1 x2 x3 = fun _ => 1#1) : (argsOf x0 x1 x2 x3).Big := by
  obtain ⟨⟨f0, f1, f2, f3⟩, b⟩ := parts h
  have H := holds f0 f1 f2 f3
  intro k n hn d
  have e := lt_of_ogt _ _ (b (ix3 ⟨n, hn⟩ k d))
  rw [ofBits_neg_80] at e
  revert e
  pointwise [Cert.ReferenceIdeal.Real.v64_at H]
  intro e
  rw [← coe_sum, EReal.coe_lt_coe_iff] at e
  rw [← Fin.sum_univ_eq_sum_range (fun s => ((argsOf x0 x1 x2 x3).base k).lf (16 * n + s) d) 16]
  refine e.trans_eq (Finset.sum_congr rfl fun s _ => ?_)
  rw [Nat.mul_comm]
  rfl

end Cert.Pre_tame.Real
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Pre_tame
public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.Product13
public import proofs.«01_k».proof.Proof.Product14
public import proofs.«01_k».proof.Proof.Product15
public import proofs.«01_k».proof.Proof.Product16
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Product17
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Product18
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Product19
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Product20
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.PostFwd
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Conv
public import proofs.«01_k».proof.Proof.Final
public import proofs.«01_k».proof.Proof.RefC
public import proofs.«01_k».proof.Proof.Tame
public import Idealize.ShloMosaic.Adequacy
public import Idealize.ShloMosaic.Init

@[expose] public section

set_option maxRecDepth 65536

noncomputable section

namespace Cert.Proof

open Idealize.ShloMosaic Idealize.ShloMosaic.TcCoe Idealize.SL.Sem Cert.Spec

/-- A two-coordinate index is the pair of its coordinates. -/
theorem pair_eq {n k : ℕ} (i : (⟨2, ![n, k]⟩ : Shape).Idx) : i = ix2 (i 0 : Fin n) (i 1 : Fin k) :=
  funext fun a => Fin.cases rfl (fun b => by obtain rfl : b = 0 := Subsingleton.elim _ _; rfl) a

/-- A function on two-coordinate indices known at pairs is known. -/
theorem ext_pair {n k : ℕ} {α : Type} {f : (⟨2, ![n, k]⟩ : Shape).Idx → α} {g : Fin n → Fin k → α}
    (h : ∀ i j, f (ix2 i j) = g i j) : f = fun i => g (i 0) (i 1) :=
  funext fun i => (congrArg f (pair_eq i)).trans (h _ _)

/-- The reference leaves its arguments as they were; it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- The three arrays of the two programs agree: both hold the real numbers `Args.dproj`, `Args.dlow`, `Args.dg`. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  pair_intro
  · run_from Cert.KernelIdeal.Value.run_blocks m g
  · have H (c : Dev Cert.KernelIdeal.nD) := Cert.Pre_tame.Real.holds (Cert.Pre_tame.Real.parts (hpre c)).1.1
      (Cert.Pre_tame.Real.parts (hpre c)).1.2.1 (Cert.Pre_tame.Real.parts (hpre c)).1.2.2.1 (Cert.Pre_tame.Real.parts (hpre c)).1.2.2.2
    have B (c : Dev Cert.KernelIdeal.nD) := Cert.Pre_tame.Real.big (hpre c)
    have e0 (c : Dev Cert.KernelIdeal.nD) : StableHlo.launchContents m' c (Proc.devRef .tc Cert.ReferenceIdeal.main_arg0)
        = m ((c : Thread Cert.KernelIdeal.nD Cert.KernelIdeal.τ).loc Cert.KernelIdeal.main_arg0) := (hagree c).1
    have e1 (c : Dev Cert.KernelIdeal.nD) : StableHlo.launchContents m' c (Proc.devRef .tc Cert.ReferenceIdeal.main_arg1)
        = m ((c : Thread Cert.KernelIdeal.nD Cert.KernelIdeal.τ).loc Cert.KernelIdeal.main_arg1) := (hagree c).2.1
    have e2 (c : Dev Cert.KernelIdeal.nD) : StableHlo.launchContents m' c (Proc.devRef .tc Cert.ReferenceIdeal.main_arg2)
        = m ((c : Thread Cert.KernelIdeal.nD Cert.KernelIdeal.τ).loc Cert.KernelIdeal.main_arg2) := (hagree c).2.2.1
    have e3 (c : Dev Cert.KernelIdeal.nD) : StableHlo.launchContents m' c (Proc.devRef .tc Cert.ReferenceIdeal.main_arg3)
        = m ((c : Thread Cert.KernelIdeal.nD Cert.KernelIdeal.τ).loc Cert.KernelIdeal.main_arg3) := (hagree c).2.2.2
    run_from Cert.ReferenceIdeal.Value.run m' g'
    · refine (Cert.ReferenceIdeal.Read.val_main_v203_eq (StableHlo.launchContents m' c)).trans ?_
      rw [e0, e1, e2, e3, Cert.KernelIdeal.Bridge.final5 (H c) (B c)]
      exact ext_pair (Cert.ReferenceIdeal.Real.v203_at (H c))
    · refine (Cert.ReferenceIdeal.Read.val_main_v202_eq (StableHlo.launchContents m' c)).trans ?_
      rw [e0, e1, e2, e3, Cert.KernelIdeal.Bridge.final6 (H c) (B c)]
      exact ext_pair (Cert.ReferenceIdeal.Real.v202_at (H c))
    · refine (Cert.ReferenceIdeal.Read.val_main_v117_eq (StableHlo.launchContents m' c)).trans ?_
      rw [e0, e1, e2, Cert.KernelIdeal.Bridge.final7 (H c) (B c)]
      refine ext_pair (n := 1) (k := 128) (g := fun _ j => (((Cert.Pre_tame.Real.argsOf _ _ _ _).dg j : ℝ) : EReal)) fun i j => ?_
      · obtain rfl : i = 0 := Subsingleton.elim _ _
        exact Cert.ReferenceIdeal.Real.v117_at (H c) j

/-- All claims: the HGRN gradient's, then those of the nineteen products. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_tame.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ, Cert.Reference2Ideal.Product.frame,
  fun m ρ _ => Cert.Kernel3.Gen.frame m ρ, fun m ρ _ => Cert.Kernel3Ideal.Gen.frame m ρ, Cert.Reference3Ideal.Product.frame,
  fun m ρ _ => Cert.Kernel4.Gen.frame m ρ, fun m ρ _ => Cert.Kernel4Ideal.Gen.frame m ρ, Cert.Reference4Ideal.Product.frame,
  fun m ρ _ => Cert.Kernel5.Gen.frame m ρ, fun m ρ _ => Cert.Kernel5Ideal.Gen.frame m ρ, Cert.Reference5Ideal.Product.frame,
  fun m ρ _ => Cert.Kernel6.Gen.frame m ρ, fun m ρ _ => Cert.Kernel6Ideal.Gen.frame m ρ, Cert.Reference6Ideal.Product.frame,
  fun m ρ _ => Cert.Kernel7.Gen.frame m ρ, fun m ρ _ => Cert.Kernel7Ideal.Gen.frame m ρ, Cert.Reference7Ideal.Product.frame,
  fun m ρ _ => Cert.Kernel8.Gen.frame m ρ, fun m ρ _ => Cert.Kernel8Ideal.Gen.frame m ρ, Cert.Reference8Ideal.Product.frame,
  fun m ρ _ => Cert.Kernel9.Gen.frame m ρ, fun m ρ _ => Cert.Kernel9Ideal.Gen.frame m ρ, Cert.Reference9Ideal.Product.frame,
  fun m ρ _ => Cert.Kernel10.Gen.frame m ρ, fun m ρ _ => Cert.Kernel10Ideal.Gen.frame m ρ, Cert.Reference10Ideal.Product.frame,
  fun m ρ _ => Cert.Kernel11.Gen.frame m ρ, fun m ρ _ => Cert.Kernel11Ideal.Gen.frame m ρ, Cert.Reference11Ideal.Product.frame,
  fun m ρ _ => Cert.Kernel12.Gen.frame m ρ, fun m ρ _ => Cert.Kernel12Ideal.Gen.frame m ρ, Cert.Reference12Ideal.Product.frame,
  fun m ρ _ => Cert.Kernel13.Gen.frame m ρ, fun m ρ _ => Cert.Kernel13Ideal.Gen.frame m ρ, Cert.Reference13Ideal.Product.frame,
  fun m ρ _ => Cert.Kernel14.Gen.frame m ρ, fun m ρ _ => Cert.Kernel14Ideal.Gen.frame m ρ, Cert.Reference14Ideal.Product.frame,
  fun m ρ _ => Cert.Kernel15.Gen.frame m ρ, fun m ρ _ => Cert.Kernel15Ideal.Gen.frame m ρ, Cert.Reference15Ideal.Product.frame,
  fun m ρ _ => Cert.Kernel16.Gen.frame m ρ, fun m ρ _ => Cert.Kernel16Ideal.Gen.frame m ρ, Cert.Reference16Ideal.Product.frame,
  fun m ρ _ => Cert.Kernel17.Gen.frame m ρ, fun m ρ _ => Cert.Kernel17Ideal.Gen.frame m ρ, Cert.Reference17Ideal.Product.frame,
  fun m ρ _ => Cert.Kernel18.Gen.frame m ρ, fun m ρ _ => Cert.Kernel18Ideal.Gen.frame m ρ, Cert.Reference18Ideal.Product.frame,
  fun m ρ _ => Cert.Kernel19.Gen.frame m ρ, fun m ρ _ => Cert.Kernel19Ideal.Gen.frame m ρ, Cert.Reference19Ideal.Product.frame,
  fun m ρ _ => Cert.Kernel20.Gen.frame m ρ, fun m ρ _ => Cert.Kernel20Ideal.Gen.frame m ρ, Cert.Reference20Ideal.Product.frame,
  fun m ρ _ => Cert.Kernel21.Gen.frame m ρ, fun m ρ _ => Cert.Kernel21Ideal.Gen.frame m ρ, Cert.Reference21Ideal.Product.frame,
  fun m ρ _ => Cert.Kernel22.Gen.frame m ρ, fun m ρ _ => Cert.Kernel22Ideal.Gen.frame m ρ, Cert.Reference22Ideal.Product.frame,
  trivial, algebraic,
  trivial, Cert.Reference2Ideal.Product.algebraic,
  trivial, Cert.Reference3Ideal.Product.algebraic,
  trivial, Cert.Reference4Ideal.Product.algebraic,
  trivial, Cert.Reference5Ideal.Product.algebraic,
  trivial, Cert.Reference6Ideal.Product.algebraic,
  trivial, Cert.Reference7Ideal.Product.algebraic,
  trivial, Cert.Reference8Ideal.Product.algebraic,
  trivial, Cert.Reference9Ideal.Product.algebraic,
  trivial, Cert.Reference10Ideal.Product.algebraic,
  trivial, Cert.Reference11Ideal.Product.algebraic,
  trivial, Cert.Reference12Ideal.Product.algebraic,
  trivial, Cert.Reference13Ideal.Product.algebraic,
  trivial, Cert.Reference14Ideal.Product.algebraic,
  trivial, Cert.Reference15Ideal.Product.algebraic,
  trivial, Cert.Reference16Ideal.Product.algebraic,
  trivial, Cert.Reference17Ideal.Product.algebraic,
  trivial, Cert.Reference18Ideal.Product.algebraic,
  trivial, Cert.Reference19Ideal.Product.algebraic,
  trivial, Cert.Reference20Ideal.Product.algebraic,
  trivial, Cert.Reference21Ideal.Product.algebraic,
  trivial, Cert.Reference22Ideal.Product.algebraic⟩

end Cert.Proof

end
